-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S375x5x64 : Shape := ⟨3, ![375, 5, 64]⟩
abbrev S5x13 : Shape := ⟨2, ![5, 13]⟩
abbrev S375x320 : Shape := ⟨2, ![375, 320]⟩
abbrev S65 : Shape := ⟨1, ![65]⟩
abbrev S_ : Shape := ⟨0, ![]⟩
abbrev S80 : Shape := ⟨1, ![80]⟩
abbrev S16x320 : Shape := ⟨2, ![16, 320]⟩
abbrev S5440 : Shape := ⟨1, ![5440]⟩
abbrev S88 : Shape := ⟨1, ![88]⟩
abbrev S16 : Shape := ⟨1, ![16]⟩
abbrev S7x320 : Shape := ⟨2, ![7, 320]⟩
abbrev S1x16 : Shape := ⟨2, ![1, 16]⟩

abbrev nBuf : Table → Nat
  | .hbm => 9
  | .local .scVector .vmem => 5
  | _ => 0

abbrev bufTy : (tb : Table) → Fin (nBuf tb) → BufTy
  | .hbm, ⟨0, _⟩ => ⟨S375x5x64, .f32⟩
  | .hbm, ⟨1, _⟩ => ⟨S5x13, .f32⟩
  | .hbm, ⟨2, _⟩ => ⟨S375x320, .f32⟩
  | .hbm, ⟨3, _⟩ => ⟨S65, .f32⟩
  | .hbm, ⟨4, _⟩ => ⟨S_, .i32⟩
  | .hbm, ⟨5, _⟩ => ⟨S_, .f32⟩
  | .hbm, ⟨6, _⟩ => ⟨S80, .f32⟩
  | .hbm, ⟨7, _⟩ => ⟨S375x320, .f32⟩
  | .hbm, ⟨8, _⟩ => ⟨S375x5x64, .f32⟩
  | .local .scVector .vmem, ⟨0, _⟩ => ⟨S16x320, .f32⟩
  | .local .scVector .vmem, ⟨1, _⟩ => ⟨S5440, .f32⟩
  | .local .scVector .vmem, ⟨2, _⟩ => ⟨S80, .f32⟩
  | .local .scVector .vmem, ⟨3, _⟩ => ⟨S88, .i32⟩
  | .local .scVector .vmem, ⟨4, _⟩ => ⟨S16x320, .f32⟩
  | _, _ => ⟨S375x5x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 2, rfl⟩
abbrev main_v2_scv : Ref sig .scVector := ⟨.hbm, 6, rfl⟩
abbrev main_v3_scv : Ref sig .scVector := ⟨.hbm, 7, rfl⟩
abbrev cc0_scratch2 : Ref sig .scVector := ⟨.vmem, 0, rfl⟩
abbrev cc0_scratch3 : Ref sig .scVector := ⟨.vmem, 1, rfl⟩
abbrev cc0_scratch4 : Ref sig .scVector := ⟨.vmem, 2, rfl⟩
abbrev cc0_scratch5 : Ref sig .scVector := ⟨.vmem, 3, rfl⟩
abbrev cc0_scratch6 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v5 : BitVec 1 := Scalar.cmpi .slt v1 c24_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32 : BitVec 32 := 23#32
  let v8 : BitVec 1 := Scalar.cmpi .slt v1 c23_i32
  let v9 : BitVec 32 := Scalar.extui v8
  let c0_i32_0 : BitVec 32 := 0#32
  let v10 : BitVec 1 := Scalar.cmpi .ne v9 c0_i32_0
  v10

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_73 : BitVec 32 := 16#32
  let v145 : BitVec 32 := Scalar.muli v1 c16_i32_73
  let c0_i32_74_r0 : BitVec 32 := 0#32
  ![v145.toNat, 0]
@[reducible] def k0_t1_loop : Scf.Loop 32 :=
  let c0_i32_4 : BitVec 32 := 0#32
  let c16_i32 : BitVec 32 := 16#32
  let v14 : BitVec 32 := Scalar.addi c0_i32_4 c16_i32
  let c1_i32 : BitVec 32 := 1#32
  ⟨c0_i32_4, v14, c1_i32⟩
def k0_off2 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v145 : Index := Scalar.indexCast arg12
  let c0 : Index := 0#32
  ![v145.toNat, 0]

def k0_chk1 (i : grid0.Coords) (v150 : IVec S16 32) : Prop :=
  (∀ (k0_h1 : k0_cond1 i = 1#1), ∀ a x, ((![v150] : Fin 1 → IVec S16 32) a x).toNat < S5440.size a)
theorem k0_idx1_inb : ∀ (i : grid0.Coords) (v150 : IVec S16 32) (k0_hw1 : k0_chk1 i v150), ∀ (k0_h1 : k0_cond1 i = 1#1), ∀ a x, ((![v150] : Fin 1 → IVec S16 32) a x).toNat < S5440.size a := fun i v150 k0_hw1 k0_h1 => k0_hw1 k0_h1
def k0_off3 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v151 : Index := Scalar.indexCast arg12
  let c16 : Index := 16#32
  ![v151.toNat, 16]

def k0_chk2 (i : grid0.Coords) (v156 : IVec S16 32) : Prop :=
  (∀ (k0_h1 : k0_cond1 i = 1#1), ∀ a x, ((![v156] : Fin 1 → IVec S16 32) a x).toNat < S5440.size a)
theorem k0_idx2_inb : ∀ (i : grid0.Coords) (v156 : IVec S16 32) (k0_hw2 : k0_chk2 i v156), ∀ (k0_h1 : k0_cond1 i = 1#1), ∀ a x, ((![v156] : Fin 1 → IVec S16 32) a x).toNat < S5440.size a := fun i v156 k0_hw2 k0_h1 => k0_hw2 k0_h1
def k0_off4 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v157 : Index := Scalar.indexCast arg12
  let c32 : Index := 32#32
  ![v157.toNat, 32]

def k0_chk3 (i : grid0.Coords) (v162 : IVec S16 32) : Prop :=
  (∀ (k0_h1 : k0_cond1 i = 1#1), ∀ a x, ((![v162] : Fin 1 → IVec S16 32) a x).toNat < S5440.size a)
theorem k0_idx3_inb : ∀ (i : grid0.Coords) (v162 : IVec S16 32) (k0_hw3 : k0_chk3 i v162), ∀ (k0_h1 : k0_cond1 i = 1#1), ∀ a x, ((![v162] : Fin 1 → IVec S16 32) a x).toNat < S5440.size a := fun i v162 k0_hw3 k0_h1 => k0_hw3 k0_h1
def k0_off5 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v163 : Index := Scalar.indexCast arg12
  let c48 : Index := 48#32
  ![v163.toNat, 48]

def k0_chk4 (i : grid0.Coords) (v168 : IVec S16 32) : Prop :=
  (∀ (k0_h1 : k0_cond1 i = 1#1), ∀ a x, ((![v168] : Fin 1 → IVec S16 32) a x).toNat < S5440.size a)
theorem k0_idx4_inb : ∀ (i : grid0.Coords) (v168 : IVec S16 32) (k0_hw4 : k0_chk4 i v168), ∀ (k0_h1 : k0_cond1 i = 1#1), ∀ a x, ((![v168] : Fin 1 → IVec S16 32) a x).toNat < S5440.size a := fun i v168 k0_hw4 k0_h1 => k0_hw4 k0_h1
def k0_off6 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v169 : Index := Scalar.indexCast arg12
  let c64 : Index := 64#32
  ![v169.toNat, 64]

def k0_chk5 (i : grid0.Coords) (v174 : IVec S16 32) : Prop :=
  (∀ (k0_h1 : k0_cond1 i = 1#1), ∀ a x, ((![v174] : Fin 1 → IVec S16 32) a x).toNat < S5440.size a)
theorem k0_idx5_inb : ∀ (i : grid0.Coords) (v174 : IVec S16 32) (k0_hw5 : k0_chk5 i v174), ∀ (k0_h1 : k0_cond1 i = 1#1), ∀ a x, ((![v174] : Fin 1 → IVec S16 32) a x).toNat < S5440.size a := fun i v174 k0_hw5 k0_h1 => k0_hw5 k0_h1
def k0_off7 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v175 : Index := Scalar.indexCast arg12
  let c80 : Index := 80#32
  ![v175.toNat, 80]

def k0_chk6 (i : grid0.Coords) (v180 : IVec S16 32) : Prop :=
  (∀ (k0_h1 : k0_cond1 i = 1#1), ∀ a x, ((![v180] : Fin 1 → IVec S16 32) a x).toNat < S5440.size a)
theorem k0_idx6_inb : ∀ (i : grid0.Coords) (v180 : IVec S16 32) (k0_hw6 : k0_chk6 i v180), ∀ (k0_h1 : k0_cond1 i = 1#1), ∀ a x, ((![v180] : Fin 1 → IVec S16 32) a x).toNat < S5440.size a := fun i v180 k0_hw6 k0_h1 => k0_hw6 k0_h1
def k0_off8 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v181 : Index := Scalar.indexCast arg12
  let c96 : Index := 96#32
  ![v181.toNat, 96]

def k0_chk7 (i : grid0.Coords) (v186 : IVec S16 32) : Prop :=
  (∀ (k0_h1 : k0_cond1 i = 1#1), ∀ a x, ((![v186] : Fin 1 → IVec S16 32) a x).toNat < S5440.size a)
theorem k0_idx7_inb : ∀ (i : grid0.Coords) (v186 : IVec S16 32) (k0_hw7 : k0_chk7 i v186), ∀ (k0_h1 : k0_cond1 i = 1#1), ∀ a x, ((![v186] : Fin 1 → IVec S16 32) a x).toNat < S5440.size a := fun i v186 k0_hw7 k0_h1 => k0_hw7 k0_h1
def k0_off9 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v187 : Index := Scalar.indexCast arg12
  let c112 : Index := 112#32
  ![v187.toNat, 112]

def k0_chk8 (i : grid0.Coords) (v192 : IVec S16 32) : Prop :=
  (∀ (k0_h1 : k0_cond1 i = 1#1), ∀ a x, ((![v192] : Fin 1 → IVec S16 32) a x).toNat < S5440.size a)
theorem k0_idx8_inb : ∀ (i : grid0.Coords) (v192 : IVec S16 32) (k0_hw8 : k0_chk8 i v192), ∀ (k0_h1 : k0_cond1 i = 1#1), ∀ a x, ((![v192] : Fin 1 → IVec S16 32) a x).toNat < S5440.size a := fun i v192 k0_hw8 k0_h1 => k0_hw8 k0_h1
def k0_off10 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v193 : Index := Scalar.indexCast arg12
  let c128 : Index := 128#32
  ![v193.toNat, 128]

def k0_chk9 (i : grid0.Coords) (v198 : IVec S16 32) : Prop :=
  (∀ (k0_h1 : k0_cond1 i = 1#1), ∀ a x, ((![v198] : Fin 1 → IVec S16 32) a x).toNat < S5440.size a)
theorem k0_idx9_inb : ∀ (i : grid0.Coords) (v198 : IVec S16 32) (k0_hw9 : k0_chk9 i v198), ∀ (k0_h1 : k0_cond1 i = 1#1), ∀ a x, ((![v198] : Fin 1 → IVec S16 32) a x).toNat < S5440.size a := fun i v198 k0_hw9 k0_h1 => k0_hw9 k0_h1
def k0_off11 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v199 : Index := Scalar.indexCast arg12
  let c144 : Index := 144#32
  ![v199.toNat, 144]

def k0_chk10 (i : grid0.Coords) (v204 : IVec S16 32) : Prop :=
  (∀ (k0_h1 : k0_cond1 i = 1#1), ∀ a x, ((![v204] : Fin 1 → IVec S16 32) a x).toNat < S5440.size a)
theorem k0_idx10_inb : ∀ (i : grid0.Coords) (v204 : IVec S16 32) (k0_hw10 : k0_chk10 i v204), ∀ (k0_h1 : k0_cond1 i = 1#1), ∀ a x, ((![v204] : Fin 1 → IVec S16 32) a x).toNat < S5440.size a := fun i v204 k0_hw10 k0_h1 => k0_hw10 k0_h1
def k0_off12 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v205 : Index := Scalar.indexCast arg12
  let c160 : Index := 160#32
  ![v205.toNat, 160]

def k0_chk11 (i : grid0.Coords) (v210 : IVec S16 32) : Prop :=
  (∀ (k0_h1 : k0_cond1 i = 1#1), ∀ a x, ((![v210] : Fin 1 → IVec S16 32) a x).toNat < S5440.size a)
theorem k0_idx11_inb : ∀ (i : grid0.Coords) (v210 : IVec S16 32) (k0_hw11 : k0_chk11 i v210), ∀ (k0_h1 : k0_cond1 i = 1#1), ∀ a x, ((![v210] : Fin 1 → IVec S16 32) a x).toNat < S5440.size a := fun i v210 k0_hw11 k0_h1 => k0_hw11 k0_h1
def k0_off13 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v211 : Index := Scalar.indexCast arg12
  let c176 : Index := 176#32
  ![v211.toNat, 176]

def k0_chk12 (i : grid0.Coords) (v216 : IVec S16 32) : Prop :=
  (∀ (k0_h1 : k0_cond1 i = 1#1), ∀ a x, ((![v216] : Fin 1 → IVec S16 32) a x).toNat < S5440.size a)
theorem k0_idx12_inb : ∀ (i : grid0.Coords) (v216 : IVec S16 32) (k0_hw12 : k0_chk12 i v216), ∀ (k0_h1 : k0_cond1 i = 1#1), ∀ a x, ((![v216] : Fin 1 → IVec S16 32) a x).toNat < S5440.size a := fun i v216 k0_hw12 k0_h1 => k0_hw12 k0_h1
def k0_off14 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v217 : Index := Scalar.indexCast arg12
  let c192 : Index := 192#32
  ![v217.toNat, 192]

def k0_chk13 (i : grid0.Coords) (v222 : IVec S16 32) : Prop :=
  (∀ (k0_h1 : k0_cond1 i = 1#1), ∀ a x, ((![v222] : Fin 1 → IVec S16 32) a x).toNat < S5440.size a)
theorem k0_idx13_inb : ∀ (i : grid0.Coords) (v222 : IVec S16 32) (k0_hw13 : k0_chk13 i v222), ∀ (k0_h1 : k0_cond1 i = 1#1), ∀ a x, ((![v222] : Fin 1 → IVec S16 32) a x).toNat < S5440.size a := fun i v222 k0_hw13 k0_h1 => k0_hw13 k0_h1
def k0_off15 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v223 : Index := Scalar.indexCast arg12
  let c208 : Index := 208#32
  ![v223.toNat, 208]

def k0_chk14 (i : grid0.Coords) (v228 : IVec S16 32) : Prop :=
  (∀ (k0_h1 : k0_cond1 i = 1#1), ∀ a x, ((![v228] : Fin 1 → IVec S16 32) a x).toNat < S5440.size a)
theorem k0_idx14_inb : ∀ (i : grid0.Coords) (v228 : IVec S16 32) (k0_hw14 : k0_chk14 i v228), ∀ (k0_h1 : k0_cond1 i = 1#1), ∀ a x, ((![v228] : Fin 1 → IVec S16 32) a x).toNat < S5440.size a := fun i v228 k0_hw14 k0_h1 => k0_hw14 k0_h1
def k0_off16 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v229 : Index := Scalar.indexCast arg12
  let c224 : Index := 224#32
  ![v229.toNat, 224]

def k0_chk15 (i : grid0.Coords) (v234 : IVec S16 32) : Prop :=
  (∀ (k0_h1 : k0_cond1 i = 1#1), ∀ a x, ((![v234] : Fin 1 → IVec S16 32) a x).toNat < S5440.size a)
theorem k0_idx15_inb : ∀ (i : grid0.Coords) (v234 : IVec S16 32) (k0_hw15 : k0_chk15 i v234), ∀ (k0_h1 : k0_cond1 i = 1#1), ∀ a x, ((![v234] : Fin 1 → IVec S16 32) a x).toNat < S5440.size a := fun i v234 k0_hw15 k0_h1 => k0_hw15 k0_h1
def k0_off17 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v235 : Index := Scalar.indexCast arg12
  let c240 : Index := 240#32
  ![v235.toNat, 240]

def k0_chk16 (i : grid0.Coords) (v240 : IVec S16 32) : Prop :=
  (∀ (k0_h1 : k0_cond1 i = 1#1), ∀ a x, ((![v240] : Fin 1 → IVec S16 32) a x).toNat < S5440.size a)
theorem k0_idx16_inb : ∀ (i : grid0.Coords) (v240 : IVec S16 32) (k0_hw16 : k0_chk16 i v240), ∀ (k0_h1 : k0_cond1 i = 1#1), ∀ a x, ((![v240] : Fin 1 → IVec S16 32) a x).toNat < S5440.size a := fun i v240 k0_hw16 k0_h1 => k0_hw16 k0_h1
def k0_off18 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v241 : Index := Scalar.indexCast arg12
  let c256 : Index := 256#32
  ![v241.toNat, 256]

def k0_chk17 (i : grid0.Coords) (v246 : IVec S16 32) : Prop :=
  (∀ (k0_h1 : k0_cond1 i = 1#1), ∀ a x, ((![v246] : Fin 1 → IVec S16 32) a x).toNat < S5440.size a)
theorem k0_idx17_inb : ∀ (i : grid0.Coords) (v246 : IVec S16 32) (k0_hw17 : k0_chk17 i v246), ∀ (k0_h1 : k0_cond1 i = 1#1), ∀ a x, ((![v246] : Fin 1 → IVec S16 32) a x).toNat < S5440.size a := fun i v246 k0_hw17 k0_h1 => k0_hw17 k0_h1
def k0_off19 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v247 : Index := Scalar.indexCast arg12
  let c272 : Index := 272#32
  ![v247.toNat, 272]

def k0_chk18 (i : grid0.Coords) (v252 : IVec S16 32) : Prop :=
  (∀ (k0_h1 : k0_cond1 i = 1#1), ∀ a x, ((![v252] : Fin 1 → IVec S16 32) a x).toNat < S5440.size a)
theorem k0_idx18_inb : ∀ (i : grid0.Coords) (v252 : IVec S16 32) (k0_hw18 : k0_chk18 i v252), ∀ (k0_h1 : k0_cond1 i = 1#1), ∀ a x, ((![v252] : Fin 1 → IVec S16 32) a x).toNat < S5440.size a := fun i v252 k0_hw18 k0_h1 => k0_hw18 k0_h1
def k0_off20 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v253 : Index := Scalar.indexCast arg12
  let c288 : Index := 288#32
  ![v253.toNat, 288]

def k0_chk19 (i : grid0.Coords) (v258 : IVec S16 32) : Prop :=
  (∀ (k0_h1 : k0_cond1 i = 1#1), ∀ a x, ((![v258] : Fin 1 → IVec S16 32) a x).toNat < S5440.size a)
theorem k0_idx19_inb : ∀ (i : grid0.Coords) (v258 : IVec S16 32) (k0_hw19 : k0_chk19 i v258), ∀ (k0_h1 : k0_cond1 i = 1#1), ∀ a x, ((![v258] : Fin 1 → IVec S16 32) a x).toNat < S5440.size a := fun i v258 k0_hw19 k0_h1 => k0_hw19 k0_h1
def k0_off21 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let v259 : Index := Scalar.indexCast arg12
  let c304 : Index := 304#32
  ![v259.toNat, 304]

def k0_chk20 (i : grid0.Coords) (v264 : IVec S16 32) : Prop :=
  (∀ (k0_h1 : k0_cond1 i = 1#1), ∀ a x, ((![v264] : Fin 1 → IVec S16 32) a x).toNat < S5440.size a)
theorem k0_idx20_inb : ∀ (i : grid0.Coords) (v264 : IVec S16 32) (k0_hw20 : k0_chk20 i v264), ∀ (k0_h1 : k0_cond1 i = 1#1), ∀ a x, ((![v264] : Fin 1 → IVec S16 32) a x).toNat < S5440.size a := fun i v264 k0_hw20 k0_h1 => k0_hw20 k0_h1
@[reducible] def k0_t2_loop : Scf.Loop 32 :=
  let c0_i32_10 : BitVec 32 := 0#32
  let c64_i32 : BitVec 32 := 64#32
  let v20 : BitVec 32 := Scalar.addi c0_i32_10 c64_i32
  let c1_i32_11 : BitVec 32 := 1#32
  ⟨c0_i32_10, v20, c1_i32_11⟩

def k0_chk21 (i : grid0.Coords) (v149 : IVec S16 32) : Prop :=
  (∀ (k0_h1 : k0_cond1 i = 1#1), ∀ a x, ((![v149] : Fin 1 → IVec S16 32) a x).toNat < S5440.size a)
theorem k0_idx21_inb : ∀ (i : grid0.Coords) (v149 : IVec S16 32) (k0_hw21 : k0_chk21 i v149), ∀ (k0_h1 : k0_cond1 i = 1#1), ∀ a x, ((![v149] : Fin 1 → IVec S16 32) a x).toNat < S5440.size a := fun i v149 k0_hw21 k0_h1 => k0_hw21 k0_h1

def k0_chk22 (i : grid0.Coords) (v157 : IVec S16 32) : Prop :=
  (∀ (k0_h1 : k0_cond1 i = 1#1), ∀ a x, ((![v157] : Fin 1 → IVec S16 32) a x).toNat < S5440.size a)
theorem k0_idx22_inb : ∀ (i : grid0.Coords) (v157 : IVec S16 32) (k0_hw22 : k0_chk22 i v157), ∀ (k0_h1 : k0_cond1 i = 1#1), ∀ a x, ((![v157] : Fin 1 → IVec S16 32) a x).toNat < S5440.size a := fun i v157 k0_hw22 k0_h1 => k0_hw22 k0_h1

def k0_chk23 (i : grid0.Coords) (v165 : IVec S16 32) : Prop :=
  (∀ (k0_h1 : k0_cond1 i = 1#1), ∀ a x, ((![v165] : Fin 1 → IVec S16 32) a x).toNat < S5440.size a)
theorem k0_idx23_inb : ∀ (i : grid0.Coords) (v165 : IVec S16 32) (k0_hw23 : k0_chk23 i v165), ∀ (k0_h1 : k0_cond1 i = 1#1), ∀ a x, ((![v165] : Fin 1 → IVec S16 32) a x).toNat < S5440.size a := fun i v165 k0_hw23 k0_h1 => k0_hw23 k0_h1

def k0_chk24 (i : grid0.Coords) (v173 : IVec S16 32) : Prop :=
  (∀ (k0_h1 : k0_cond1 i = 1#1), ∀ a x, ((![v173] : Fin 1 → IVec S16 32) a x).toNat < S5440.size a)
theorem k0_idx24_inb : ∀ (i : grid0.Coords) (v173 : IVec S16 32) (k0_hw24 : k0_chk24 i v173), ∀ (k0_h1 : k0_cond1 i = 1#1), ∀ a x, ((![v173] : Fin 1 → IVec S16 32) a x).toNat < S5440.size a := fun i v173 k0_hw24 k0_h1 => k0_hw24 k0_h1

def k0_chk25 (i : grid0.Coords) (v181 : IVec S16 32) : Prop :=
  (∀ (k0_h1 : k0_cond1 i = 1#1), ∀ a x, ((![v181] : Fin 1 → IVec S16 32) a x).toNat < S5440.size a)
theorem k0_idx25_inb : ∀ (i : grid0.Coords) (v181 : IVec S16 32) (k0_hw25 : k0_chk25 i v181), ∀ (k0_h1 : k0_cond1 i = 1#1), ∀ a x, ((![v181] : Fin 1 → IVec S16 32) a x).toNat < S5440.size a := fun i v181 k0_hw25 k0_h1 => k0_hw25 k0_h1
@[reducible] def k0_t3_loop : Scf.Loop 32 :=
  let c0_i32_23 : BitVec 32 := 0#32
  let c13_i32 : BitVec 32 := 13#32
  let v32 : BitVec 32 := Scalar.addi c0_i32_23 c13_i32
  let c1_i32_24 : BitVec 32 := 1#32
  ⟨c0_i32_23, v32, c1_i32_24⟩

def k0_chk26 (i : grid0.Coords) (v147 : IVec S16 32) : Prop :=
  (∀ (k0_h1 : k0_cond1 i = 1#1), ∀ a x, ((![v147] : Fin 1 → IVec S16 32) a x).toNat < S80.size a)
theorem k0_idx26_inb : ∀ (i : grid0.Coords) (v147 : IVec S16 32) (k0_hw26 : k0_chk26 i v147), ∀ (k0_h1 : k0_cond1 i = 1#1), ∀ a x, ((![v147] : Fin 1 → IVec S16 32) a x).toNat < S80.size a := fun i v147 k0_hw26 k0_h1 => k0_hw26 k0_h1

def k0_chk27 (i : grid0.Coords) (v153 : IVec S16 32) : Prop :=
  (∀ (k0_h1 : k0_cond1 i = 1#1), ∀ a x, ((![v153] : Fin 1 → IVec S16 32) a x).toNat < S5440.size a)
theorem k0_idx27_inb : ∀ (i : grid0.Coords) (v153 : IVec S16 32) (k0_hw27 : k0_chk27 i v153), ∀ (k0_h1 : k0_cond1 i = 1#1), ∀ a x, ((![v153] : Fin 1 → IVec S16 32) a x).toNat < S5440.size a := fun i v153 k0_hw27 k0_h1 => k0_hw27 k0_h1

def k0_chk28 (i : grid0.Coords) (v164 : IVec S16 32) : Prop :=
  (∀ (k0_h1 : k0_cond1 i = 1#1), ∀ a x, ((![v164] : Fin 1 → IVec S16 32) a x).toNat < S5440.size a)
theorem k0_idx28_inb : ∀ (i : grid0.Coords) (v164 : IVec S16 32) (k0_hw28 : k0_chk28 i v164), ∀ (k0_h1 : k0_cond1 i = 1#1), ∀ a x, ((![v164] : Fin 1 → IVec S16 32) a x).toNat < S5440.size a := fun i v164 k0_hw28 k0_h1 => k0_hw28 k0_h1

def k0_chk29 (i : grid0.Coords) (v175 : IVec S16 32) : Prop :=
  (∀ (k0_h1 : k0_cond1 i = 1#1), ∀ a x, ((![v175] : Fin 1 → IVec S16 32) a x).toNat < S5440.size a)
theorem k0_idx29_inb : ∀ (i : grid0.Coords) (v175 : IVec S16 32) (k0_hw29 : k0_chk29 i v175), ∀ (k0_h1 : k0_cond1 i = 1#1), ∀ a x, ((![v175] : Fin 1 → IVec S16 32) a x).toNat < S5440.size a := fun i v175 k0_hw29 k0_h1 => k0_hw29 k0_h1

def k0_chk30 (i : grid0.Coords) (v186 : IVec S16 32) : Prop :=
  (∀ (k0_h1 : k0_cond1 i = 1#1), ∀ a x, ((![v186] : Fin 1 → IVec S16 32) a x).toNat < S5440.size a)
theorem k0_idx30_inb : ∀ (i : grid0.Coords) (v186 : IVec S16 32) (k0_hw30 : k0_chk30 i v186), ∀ (k0_h1 : k0_cond1 i = 1#1), ∀ a x, ((![v186] : Fin 1 → IVec S16 32) a x).toNat < S5440.size a := fun i v186 k0_hw30 k0_h1 => k0_hw30 k0_h1

def k0_chk31 (i : grid0.Coords) (v197 : IVec S16 32) : Prop :=
  (∀ (k0_h1 : k0_cond1 i = 1#1), ∀ a x, ((![v197] : Fin 1 → IVec S16 32) a x).toNat < S5440.size a)
theorem k0_idx31_inb : ∀ (i : grid0.Coords) (v197 : IVec S16 32) (k0_hw31 : k0_chk31 i v197), ∀ (k0_h1 : k0_cond1 i = 1#1), ∀ a x, ((![v197] : Fin 1 → IVec S16 32) a x).toNat < S5440.size a := fun i v197 k0_hw31 k0_h1 => k0_hw31 k0_h1
@[reducible] def k0_t4_loop : Scf.Loop 32 :=
  let c0_i32_26 : BitVec 32 := 0#32
  let c13_i32_27 : BitVec 32 := 13#32
  let v44 : BitVec 32 := Scalar.addi c0_i32_26 c13_i32_27
  let c1_i32_28 : BitVec 32 := 1#32
  ⟨c0_i32_26, v44, c1_i32_28⟩

def k0_chk32 (i : grid0.Coords) (v147 : IVec S16 32) : Prop :=
  (∀ (k0_h1 : k0_cond1 i = 1#1), ∀ a x, ((![v147] : Fin 1 → IVec S16 32) a x).toNat < S80.size a)
theorem k0_idx32_inb : ∀ (i : grid0.Coords) (v147 : IVec S16 32) (k0_hw32 : k0_chk32 i v147), ∀ (k0_h1 : k0_cond1 i = 1#1), ∀ a x, ((![v147] : Fin 1 → IVec S16 32) a x).toNat < S80.size a := fun i v147 k0_hw32 k0_h1 => k0_hw32 k0_h1

def k0_chk33 (i : grid0.Coords) (v153 : IVec S16 32) : Prop :=
  (∀ (k0_h1 : k0_cond1 i = 1#1), ∀ a x, ((![v153] : Fin 1 → IVec S16 32) a x).toNat < S5440.size a)
theorem k0_idx33_inb : ∀ (i : grid0.Coords) (v153 : IVec S16 32) (k0_hw33 : k0_chk33 i v153), ∀ (k0_h1 : k0_cond1 i = 1#1), ∀ a x, ((![v153] : Fin 1 → IVec S16 32) a x).toNat < S5440.size a := fun i v153 k0_hw33 k0_h1 => k0_hw33 k0_h1

def k0_chk34 (i : grid0.Coords) (v164 : IVec S16 32) : Prop :=
  (∀ (k0_h1 : k0_cond1 i = 1#1), ∀ a x, ((![v164] : Fin 1 → IVec S16 32) a x).toNat < S5440.size a)
theorem k0_idx34_inb : ∀ (i : grid0.Coords) (v164 : IVec S16 32) (k0_hw34 : k0_chk34 i v164), ∀ (k0_h1 : k0_cond1 i = 1#1), ∀ a x, ((![v164] : Fin 1 → IVec S16 32) a x).toNat < S5440.size a := fun i v164 k0_hw34 k0_h1 => k0_hw34 k0_h1

def k0_chk35 (i : grid0.Coords) (v175 : IVec S16 32) : Prop :=
  (∀ (k0_h1 : k0_cond1 i = 1#1), ∀ a x, ((![v175] : Fin 1 → IVec S16 32) a x).toNat < S5440.size a)
theorem k0_idx35_inb : ∀ (i : grid0.Coords) (v175 : IVec S16 32) (k0_hw35 : k0_chk35 i v175), ∀ (k0_h1 : k0_cond1 i = 1#1), ∀ a x, ((![v175] : Fin 1 → IVec S16 32) a x).toNat < S5440.size a := fun i v175 k0_hw35 k0_h1 => k0_hw35 k0_h1

def k0_chk36 (i : grid0.Coords) (v186 : IVec S16 32) : Prop :=
  (∀ (k0_h1 : k0_cond1 i = 1#1), ∀ a x, ((![v186] : Fin 1 → IVec S16 32) a x).toNat < S5440.size a)
theorem k0_idx36_inb : ∀ (i : grid0.Coords) (v186 : IVec S16 32) (k0_hw36 : k0_chk36 i v186), ∀ (k0_h1 : k0_cond1 i = 1#1), ∀ a x, ((![v186] : Fin 1 → IVec S16 32) a x).toNat < S5440.size a := fun i v186 k0_hw36 k0_h1 => k0_hw36 k0_h1

def k0_chk37 (i : grid0.Coords) (v197 : IVec S16 32) : Prop :=
  (∀ (k0_h1 : k0_cond1 i = 1#1), ∀ a x, ((![v197] : Fin 1 → IVec S16 32) a x).toNat < S5440.size a)
theorem k0_idx37_inb : ∀ (i : grid0.Coords) (v197 : IVec S16 32) (k0_hw37 : k0_chk37 i v197), ∀ (k0_h1 : k0_cond1 i = 1#1), ∀ a x, ((![v197] : Fin 1 → IVec S16 32) a x).toNat < S5440.size a := fun i v197 k0_hw37 k0_h1 => k0_hw37 k0_h1
@[reducible] def k0_t5_loop : Scf.Loop 32 :=
  let c0_i32_30 : BitVec 32 := 0#32
  let c13_i32_31 : BitVec 32 := 13#32
  let v56 : BitVec 32 := Scalar.addi c0_i32_30 c13_i32_31
  let c1_i32_32 : BitVec 32 := 1#32
  ⟨c0_i32_30, v56, c1_i32_32⟩

def k0_chk38 (i : grid0.Coords) (v147 : IVec S16 32) : Prop :=
  (∀ (k0_h1 : k0_cond1 i = 1#1), ∀ a x, ((![v147] : Fin 1 → IVec S16 32) a x).toNat < S80.size a)
theorem k0_idx38_inb : ∀ (i : grid0.Coords) (v147 : IVec S16 32) (k0_hw38 : k0_chk38 i v147), ∀ (k0_h1 : k0_cond1 i = 1#1), ∀ a x, ((![v147] : Fin 1 → IVec S16 32) a x).toNat < S80.size a := fun i v147 k0_hw38 k0_h1 => k0_hw38 k0_h1

def k0_chk39 (i : grid0.Coords) (v153 : IVec S16 32) : Prop :=
  (∀ (k0_h1 : k0_cond1 i = 1#1), ∀ a x, ((![v153] : Fin 1 → IVec S16 32) a x).toNat < S5440.size a)
theorem k0_idx39_inb : ∀ (i : grid0.Coords) (v153 : IVec S16 32) (k0_hw39 : k0_chk39 i v153), ∀ (k0_h1 : k0_cond1 i = 1#1), ∀ a x, ((![v153] : Fin 1 → IVec S16 32) a x).toNat < S5440.size a := fun i v153 k0_hw39 k0_h1 => k0_hw39 k0_h1

def k0_chk40 (i : grid0.Coords) (v164 : IVec S16 32) : Prop :=
  (∀ (k0_h1 : k0_cond1 i = 1#1), ∀ a x, ((![v164] : Fin 1 → IVec S16 32) a x).toNat < S5440.size a)
theorem k0_idx40_inb : ∀ (i : grid0.Coords) (v164 : IVec S16 32) (k0_hw40 : k0_chk40 i v164), ∀ (k0_h1 : k0_cond1 i = 1#1), ∀ a x, ((![v164] : Fin 1 → IVec S16 32) a x).toNat < S5440.size a := fun i v164 k0_hw40 k0_h1 => k0_hw40 k0_h1

def k0_chk41 (i : grid0.Coords) (v175 : IVec S16 32) : Prop :=
  (∀ (k0_h1 : k0_cond1 i = 1#1), ∀ a x, ((![v175] : Fin 1 → IVec S16 32) a x).toNat < S5440.size a)
theorem k0_idx41_inb : ∀ (i : grid0.Coords) (v175 : IVec S16 32) (k0_hw41 : k0_chk41 i v175), ∀ (k0_h1 : k0_cond1 i = 1#1), ∀ a x, ((![v175] : Fin 1 → IVec S16 32) a x).toNat < S5440.size a := fun i v175 k0_hw41 k0_h1 => k0_hw41 k0_h1

def k0_chk42 (i : grid0.Coords) (v186 : IVec S16 32) : Prop :=
  (∀ (k0_h1 : k0_cond1 i = 1#1), ∀ a x, ((![v186] : Fin 1 → IVec S16 32) a x).toNat < S5440.size a)
theorem k0_idx42_inb : ∀ (i : grid0.Coords) (v186 : IVec S16 32) (k0_hw42 : k0_chk42 i v186), ∀ (k0_h1 : k0_cond1 i = 1#1), ∀ a x, ((![v186] : Fin 1 → IVec S16 32) a x).toNat < S5440.size a := fun i v186 k0_hw42 k0_h1 => k0_hw42 k0_h1

def k0_chk43 (i : grid0.Coords) (v197 : IVec S16 32) : Prop :=
  (∀ (k0_h1 : k0_cond1 i = 1#1), ∀ a x, ((![v197] : Fin 1 → IVec S16 32) a x).toNat < S5440.size a)
theorem k0_idx43_inb : ∀ (i : grid0.Coords) (v197 : IVec S16 32) (k0_hw43 : k0_chk43 i v197), ∀ (k0_h1 : k0_cond1 i = 1#1), ∀ a x, ((![v197] : Fin 1 → IVec S16 32) a x).toNat < S5440.size a := fun i v197 k0_hw43 k0_h1 => k0_hw43 k0_h1
@[reducible] def k0_t6_loop : Scf.Loop 32 :=
  let c0_i32_34 : BitVec 32 := 0#32
  let c13_i32_35 : BitVec 32 := 13#32
  let v68 : BitVec 32 := Scalar.addi c0_i32_34 c13_i32_35
  let c1_i32_36 : BitVec 32 := 1#32
  ⟨c0_i32_34, v68, c1_i32_36⟩

def k0_chk44 (i : grid0.Coords) (v147 : IVec S16 32) : Prop :=
  (∀ (k0_h1 : k0_cond1 i = 1#1), ∀ a x, ((![v147] : Fin 1 → IVec S16 32) a x).toNat < S80.size a)
theorem k0_idx44_inb : ∀ (i : grid0.Coords) (v147 : IVec S16 32) (k0_hw44 : k0_chk44 i v147), ∀ (k0_h1 : k0_cond1 i = 1#1), ∀ a x, ((![v147] : Fin 1 → IVec S16 32) a x).toNat < S80.size a := fun i v147 k0_hw44 k0_h1 => k0_hw44 k0_h1

def k0_chk45 (i : grid0.Coords) (v153 : IVec S16 32) : Prop :=
  (∀ (k0_h1 : k0_cond1 i = 1#1), ∀ a x, ((![v153] : Fin 1 → IVec S16 32) a x).toNat < S5440.size a)
theorem k0_idx45_inb : ∀ (i : grid0.Coords) (v153 : IVec S16 32) (k0_hw45 : k0_chk45 i v153), ∀ (k0_h1 : k0_cond1 i = 1#1), ∀ a x, ((![v153] : Fin 1 → IVec S16 32) a x).toNat < S5440.size a := fun i v153 k0_hw45 k0_h1 => k0_hw45 k0_h1

def k0_chk46 (i : grid0.Coords) (v164 : IVec S16 32) : Prop :=
  (∀ (k0_h1 : k0_cond1 i = 1#1), ∀ a x, ((![v164] : Fin 1 → IVec S16 32) a x).toNat < S5440.size a)
theorem k0_idx46_inb : ∀ (i : grid0.Coords) (v164 : IVec S16 32) (k0_hw46 : k0_chk46 i v164), ∀ (k0_h1 : k0_cond1 i = 1#1), ∀ a x, ((![v164] : Fin 1 → IVec S16 32) a x).toNat < S5440.size a := fun i v164 k0_hw46 k0_h1 => k0_hw46 k0_h1

def k0_chk47 (i : grid0.Coords) (v175 : IVec S16 32) : Prop :=
  (∀ (k0_h1 : k0_cond1 i = 1#1), ∀ a x, ((![v175] : Fin 1 → IVec S16 32) a x).toNat < S5440.size a)
theorem k0_idx47_inb : ∀ (i : grid0.Coords) (v175 : IVec S16 32) (k0_hw47 : k0_chk47 i v175), ∀ (k0_h1 : k0_cond1 i = 1#1), ∀ a x, ((![v175] : Fin 1 → IVec S16 32) a x).toNat < S5440.size a := fun i v175 k0_hw47 k0_h1 => k0_hw47 k0_h1

def k0_chk48 (i : grid0.Coords) (v186 : IVec S16 32) : Prop :=
  (∀ (k0_h1 : k0_cond1 i = 1#1), ∀ a x, ((![v186] : Fin 1 → IVec S16 32) a x).toNat < S5440.size a)
theorem k0_idx48_inb : ∀ (i : grid0.Coords) (v186 : IVec S16 32) (k0_hw48 : k0_chk48 i v186), ∀ (k0_h1 : k0_cond1 i = 1#1), ∀ a x, ((![v186] : Fin 1 → IVec S16 32) a x).toNat < S5440.size a := fun i v186 k0_hw48 k0_h1 => k0_hw48 k0_h1

def k0_chk49 (i : grid0.Coords) (v197 : IVec S16 32) : Prop :=
  (∀ (k0_h1 : k0_cond1 i = 1#1), ∀ a x, ((![v197] : Fin 1 → IVec S16 32) a x).toNat < S5440.size a)
theorem k0_idx49_inb : ∀ (i : grid0.Coords) (v197 : IVec S16 32) (k0_hw49 : k0_chk49 i v197), ∀ (k0_h1 : k0_cond1 i = 1#1), ∀ a x, ((![v197] : Fin 1 → IVec S16 32) a x).toNat < S5440.size a := fun i v197 k0_hw49 k0_h1 => k0_hw49 k0_h1
@[reducible] def k0_t7_loop : Scf.Loop 32 :=
  let c0_i32_38 : BitVec 32 := 0#32
  let c13_i32_39 : BitVec 32 := 13#32
  let v80 : BitVec 32 := Scalar.addi c0_i32_38 c13_i32_39
  let c1_i32_40 : BitVec 32 := 1#32
  ⟨c0_i32_38, v80, c1_i32_40⟩

def k0_chk50 (i : grid0.Coords) (v147 : IVec S16 32) : Prop :=
  (∀ (k0_h1 : k0_cond1 i = 1#1), ∀ a x, ((![v147] : Fin 1 → IVec S16 32) a x).toNat < S80.size a)
theorem k0_idx50_inb : ∀ (i : grid0.Coords) (v147 : IVec S16 32) (k0_hw50 : k0_chk50 i v147), ∀ (k0_h1 : k0_cond1 i = 1#1), ∀ a x, ((![v147] : Fin 1 → IVec S16 32) a x).toNat < S80.size a := fun i v147 k0_hw50 k0_h1 => k0_hw50 k0_h1

def k0_chk51 (i : grid0.Coords) (v153 : IVec S16 32) : Prop :=
  (∀ (k0_h1 : k0_cond1 i = 1#1), ∀ a x, ((![v153] : Fin 1 → IVec S16 32) a x).toNat < S5440.size a)
theorem k0_idx51_inb : ∀ (i : grid0.Coords) (v153 : IVec S16 32) (k0_hw51 : k0_chk51 i v153), ∀ (k0_h1 : k0_cond1 i = 1#1), ∀ a x, ((![v153] : Fin 1 → IVec S16 32) a x).toNat < S5440.size a := fun i v153 k0_hw51 k0_h1 => k0_hw51 k0_h1

def k0_chk52 (i : grid0.Coords) (v164 : IVec S16 32) : Prop :=
  (∀ (k0_h1 : k0_cond1 i = 1#1), ∀ a x, ((![v164] : Fin 1 → IVec S16 32) a x).toNat < S5440.size a)
theorem k0_idx52_inb : ∀ (i : grid0.Coords) (v164 : IVec S16 32) (k0_hw52 : k0_chk52 i v164), ∀ (k0_h1 : k0_cond1 i = 1#1), ∀ a x, ((![v164] : Fin 1 → IVec S16 32) a x).toNat < S5440.size a := fun i v164 k0_hw52 k0_h1 => k0_hw52 k0_h1

def k0_chk53 (i : grid0.Coords) (v175 : IVec S16 32) : Prop :=
  (∀ (k0_h1 : k0_cond1 i = 1#1), ∀ a x, ((![v175] : Fin 1 → IVec S16 32) a x).toNat < S5440.size a)
theorem k0_idx53_inb : ∀ (i : grid0.Coords) (v175 : IVec S16 32) (k0_hw53 : k0_chk53 i v175), ∀ (k0_h1 : k0_cond1 i = 1#1), ∀ a x, ((![v175] : Fin 1 → IVec S16 32) a x).toNat < S5440.size a := fun i v175 k0_hw53 k0_h1 => k0_hw53 k0_h1

def k0_chk54 (i : grid0.Coords) (v186 : IVec S16 32) : Prop :=
  (∀ (k0_h1 : k0_cond1 i = 1#1), ∀ a x, ((![v186] : Fin 1 → IVec S16 32) a x).toNat < S5440.size a)
theorem k0_idx54_inb : ∀ (i : grid0.Coords) (v186 : IVec S16 32) (k0_hw54 : k0_chk54 i v186), ∀ (k0_h1 : k0_cond1 i = 1#1), ∀ a x, ((![v186] : Fin 1 → IVec S16 32) a x).toNat < S5440.size a := fun i v186 k0_hw54 k0_h1 => k0_hw54 k0_h1

def k0_chk55 (i : grid0.Coords) (v197 : IVec S16 32) : Prop :=
  (∀ (k0_h1 : k0_cond1 i = 1#1), ∀ a x, ((![v197] : Fin 1 → IVec S16 32) a x).toNat < S5440.size a)
theorem k0_idx55_inb : ∀ (i : grid0.Coords) (v197 : IVec S16 32) (k0_hw55 : k0_chk55 i v197), ∀ (k0_h1 : k0_cond1 i = 1#1), ∀ a x, ((![v197] : Fin 1 → IVec S16 32) a x).toNat < S5440.size a := fun i v197 k0_hw55 k0_h1 => k0_hw55 k0_h1
@[reducible] def k0_t8_loop : Scf.Loop 32 :=
  let c0_i32_56 : BitVec 32 := 0#32
  let c5_i32_57 : BitVec 32 := 5#32
  let v123 : BitVec 32 := Scalar.addi c0_i32_56 c5_i32_57
  let c1_i32_58 : BitVec 32 := 1#32
  ⟨c0_i32_56, v123, c1_i32_58⟩

def k0_chk56 (i : grid0.Coords) (v126 : IVec S16 32) : Prop :=
  (∀ (k0_h1 : k0_cond1 i = 1#1), ∀ a x, ((![v126] : Fin 1 → IVec S16 32) a x).toNat < S88.size a)
theorem k0_idx56_inb : ∀ (i : grid0.Coords) (v126 : IVec S16 32) (k0_hw56 : k0_chk56 i v126), ∀ (k0_h1 : k0_cond1 i = 1#1), ∀ a x, ((![v126] : Fin 1 → IVec S16 32) a x).toNat < S88.size a := fun i v126 k0_hw56 k0_h1 => k0_hw56 k0_h1

def k0_chk57 (i : grid0.Coords) (v128 : IVec S16 32) : Prop :=
  (∀ (k0_h1 : k0_cond1 i = 1#1), ∀ a x, ((![v128] : Fin 1 → IVec S16 32) a x).toNat < S88.size a)
theorem k0_idx57_inb : ∀ (i : grid0.Coords) (v128 : IVec S16 32) (k0_hw57 : k0_chk57 i v128), ∀ (k0_h1 : k0_cond1 i = 1#1), ∀ a x, ((![v128] : Fin 1 → IVec S16 32) a x).toNat < S88.size a := fun i v128 k0_hw57 k0_h1 => k0_hw57 k0_h1

def k0_chk58 (i : grid0.Coords) (v130 : IVec S16 32) : Prop :=
  (∀ (k0_h1 : k0_cond1 i = 1#1), ∀ a x, ((![v130] : Fin 1 → IVec S16 32) a x).toNat < S88.size a)
theorem k0_idx58_inb : ∀ (i : grid0.Coords) (v130 : IVec S16 32) (k0_hw58 : k0_chk58 i v130), ∀ (k0_h1 : k0_cond1 i = 1#1), ∀ a x, ((![v130] : Fin 1 → IVec S16 32) a x).toNat < S88.size a := fun i v130 k0_hw58 k0_h1 => k0_hw58 k0_h1

def k0_chk59 (i : grid0.Coords) (v132 : IVec S16 32) : Prop :=
  (∀ (k0_h1 : k0_cond1 i = 1#1), ∀ a x, ((![v132] : Fin 1 → IVec S16 32) a x).toNat < S88.size a)
theorem k0_idx59_inb : ∀ (i : grid0.Coords) (v132 : IVec S16 32) (k0_hw59 : k0_chk59 i v132), ∀ (k0_h1 : k0_cond1 i = 1#1), ∀ a x, ((![v132] : Fin 1 → IVec S16 32) a x).toNat < S88.size a := fun i v132 k0_hw59 k0_h1 => k0_hw59 k0_h1

def k0_chk60 (i : grid0.Coords) (v134 : IVec S16 32) : Prop :=
  (∀ (k0_h1 : k0_cond1 i = 1#1), ∀ a x, ((![v134] : Fin 1 → IVec S16 32) a x).toNat < S88.size a)
theorem k0_idx60_inb : ∀ (i : grid0.Coords) (v134 : IVec S16 32) (k0_hw60 : k0_chk60 i v134), ∀ (k0_h1 : k0_cond1 i = 1#1), ∀ a x, ((![v134] : Fin 1 → IVec S16 32) a x).toNat < S88.size a := fun i v134 k0_hw60 k0_h1 => k0_hw60 k0_h1
@[reducible] def k0_t9_loop : Scf.Loop 32 :=
  let c0_i32_65 : BitVec 32 := 0#32
  let c16_i32_66 : BitVec 32 := 16#32
  let v138 : BitVec 32 := Scalar.addi c0_i32_65 c16_i32_66
  let c1_i32_67 : BitVec 32 := 1#32
  ⟨c0_i32_65, v138, c1_i32_67⟩
def k0_off22 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v145 : Index := Scalar.indexCast arg12
  let c0 : Index := 0#32
  ![v145.toNat, 0]
def k0_off23 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v147 : Index := Scalar.indexCast arg12
  let c16 : Index := 16#32
  ![v147.toNat, 16]
def k0_off24 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v149 : Index := Scalar.indexCast arg12
  let c32 : Index := 32#32
  ![v149.toNat, 32]
def k0_off25 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v151 : Index := Scalar.indexCast arg12
  let c48 : Index := 48#32
  ![v151.toNat, 48]
def k0_off26 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v153 : Index := Scalar.indexCast arg12
  let c64 : Index := 64#32
  ![v153.toNat, 64]
def k0_off27 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v155 : Index := Scalar.indexCast arg12
  let c80 : Index := 80#32
  ![v155.toNat, 80]
def k0_off28 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v157 : Index := Scalar.indexCast arg12
  let c96 : Index := 96#32
  ![v157.toNat, 96]
def k0_off29 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v159 : Index := Scalar.indexCast arg12
  let c112 : Index := 112#32
  ![v159.toNat, 112]
def k0_off30 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v161 : Index := Scalar.indexCast arg12
  let c128 : Index := 128#32
  ![v161.toNat, 128]
def k0_off31 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v163 : Index := Scalar.indexCast arg12
  let c144 : Index := 144#32
  ![v163.toNat, 144]
def k0_off32 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v165 : Index := Scalar.indexCast arg12
  let c160 : Index := 160#32
  ![v165.toNat, 160]
def k0_off33 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v167 : Index := Scalar.indexCast arg12
  let c176 : Index := 176#32
  ![v167.toNat, 176]
def k0_off34 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v169 : Index := Scalar.indexCast arg12
  let c192 : Index := 192#32
  ![v169.toNat, 192]
def k0_off35 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v171 : Index := Scalar.indexCast arg12
  let c208 : Index := 208#32
  ![v171.toNat, 208]
def k0_off36 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v173 : Index := Scalar.indexCast arg12
  let c224 : Index := 224#32
  ![v173.toNat, 224]
def k0_off37 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v175 : Index := Scalar.indexCast arg12
  let c240 : Index := 240#32
  ![v175.toNat, 240]
def k0_off38 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v177 : Index := Scalar.indexCast arg12
  let c256 : Index := 256#32
  ![v177.toNat, 256]
def k0_off39 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v179 : Index := Scalar.indexCast arg12
  let c272 : Index := 272#32
  ![v179.toNat, 272]
def k0_off40 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v181 : Index := Scalar.indexCast arg12
  let c288 : Index := 288#32
  ![v181.toNat, 288]
def k0_off41 (k0_t9 : Fin k0_t9_loop.trips) : Fin 2 → Nat :=
  let c0_i32_65 : BitVec 32 := 0#32
  let c1_i32_67 : BitVec 32 := 1#32
  let arg12 : BitVec 32 := Scf.iv c0_i32_65 c1_i32_67 k0_t9
  let v183 : Index := Scalar.indexCast arg12
  let c304 : Index := 304#32
  ![v183.toNat, 304]

def k0_chk61 (i : grid0.Coords) (v187 : IVec S16 32) : Prop :=
  (∀ (k0_h1 : k0_cond1 i = 1#1), ∀ a x, ((![v187] : Fin 1 → IVec S16 32) a x).toNat < S88.size a)
theorem k0_idx61_inb : ∀ (i : grid0.Coords) (v187 : IVec S16 32) (k0_hw61 : k0_chk61 i v187), ∀ (k0_h1 : k0_cond1 i = 1#1), ∀ a x, ((![v187] : Fin 1 → IVec S16 32) a x).toNat < S88.size a := fun i v187 k0_hw61 k0_h1 => k0_hw61 k0_h1

def k0_chk62 (i : grid0.Coords) (v193 : IVec S16 32) : Prop :=
  (∀ (k0_h1 : k0_cond1 i = 1#1), ∀ a x, ((![v193] : Fin 1 → IVec S16 32) a x).toNat < S80.size a)
theorem k0_idx62_inb : ∀ (i : grid0.Coords) (v193 : IVec S16 32) (k0_hw62 : k0_chk62 i v193), ∀ (k0_h1 : k0_cond1 i = 1#1), ∀ a x, ((![v193] : Fin 1 → IVec S16 32) a x).toNat < S80.size a := fun i v193 k0_hw62 k0_h1 => k0_hw62 k0_h1

def k0_chk63 (i : grid0.Coords) (v197 : IVec S16 32) (v201 : IVec S16 32) : Prop :=
  (∀ (k0_h1 : k0_cond1 i = 1#1), ∀ a x, ((![v197, v201] : Fin 2 → IVec S16 32) a x).toNat < S16x320.size a)
theorem k0_idx63_inb : ∀ (i : grid0.Coords) (v197 : IVec S16 32) (v201 : IVec S16 32) (k0_hw63 : k0_chk63 i v197 v201), ∀ (k0_h1 : k0_cond1 i = 1#1), ∀ a x, ((![v197, v201] : Fin 2 → IVec S16 32) a x).toNat < S16x320.size a := fun i v197 v201 k0_hw63 k0_h1 => k0_hw63 k0_h1

def k0_chk64 (i : grid0.Coords) (v204 : IVec S16 32) : Prop :=
  (∀ (k0_h1 : k0_cond1 i = 1#1), ∀ a x, ((![v204] : Fin 1 → IVec S16 32) a x).toNat < S88.size a)
theorem k0_idx64_inb : ∀ (i : grid0.Coords) (v204 : IVec S16 32) (k0_hw64 : k0_chk64 i v204), ∀ (k0_h1 : k0_cond1 i = 1#1), ∀ a x, ((![v204] : Fin 1 → IVec S16 32) a x).toNat < S88.size a := fun i v204 k0_hw64 k0_h1 => k0_hw64 k0_h1

def k0_chk65 (i : grid0.Coords) (v210 : IVec S16 32) : Prop :=
  (∀ (k0_h1 : k0_cond1 i = 1#1), ∀ a x, ((![v210] : Fin 1 → IVec S16 32) a x).toNat < S80.size a)
theorem k0_idx65_inb : ∀ (i : grid0.Coords) (v210 : IVec S16 32) (k0_hw65 : k0_chk65 i v210), ∀ (k0_h1 : k0_cond1 i = 1#1), ∀ a x, ((![v210] : Fin 1 → IVec S16 32) a x).toNat < S80.size a := fun i v210 k0_hw65 k0_h1 => k0_hw65 k0_h1

def k0_chk66 (i : grid0.Coords) (v214 : IVec S16 32) (v218 : IVec S16 32) : Prop :=
  (∀ (k0_h1 : k0_cond1 i = 1#1), ∀ a x, ((![v214, v218] : Fin 2 → IVec S16 32) a x).toNat < S16x320.size a)
theorem k0_idx66_inb : ∀ (i : grid0.Coords) (v214 : IVec S16 32) (v218 : IVec S16 32) (k0_hw66 : k0_chk66 i v214 v218), ∀ (k0_h1 : k0_cond1 i = 1#1), ∀ a x, ((![v214, v218] : Fin 2 → IVec S16 32) a x).toNat < S16x320.size a := fun i v214 v218 k0_hw66 k0_h1 => k0_hw66 k0_h1

def k0_chk67 (i : grid0.Coords) (v221 : IVec S16 32) : Prop :=
  (∀ (k0_h1 : k0_cond1 i = 1#1), ∀ a x, ((![v221] : Fin 1 → IVec S16 32) a x).toNat < S88.size a)
theorem k0_idx67_inb : ∀ (i : grid0.Coords) (v221 : IVec S16 32) (k0_hw67 : k0_chk67 i v221), ∀ (k0_h1 : k0_cond1 i = 1#1), ∀ a x, ((![v221] : Fin 1 → IVec S16 32) a x).toNat < S88.size a := fun i v221 k0_hw67 k0_h1 => k0_hw67 k0_h1

def k0_chk68 (i : grid0.Coords) (v227 : IVec S16 32) : Prop :=
  (∀ (k0_h1 : k0_cond1 i = 1#1), ∀ a x, ((![v227] : Fin 1 → IVec S16 32) a x).toNat < S80.size a)
theorem k0_idx68_inb : ∀ (i : grid0.Coords) (v227 : IVec S16 32) (k0_hw68 : k0_chk68 i v227), ∀ (k0_h1 : k0_cond1 i = 1#1), ∀ a x, ((![v227] : Fin 1 → IVec S16 32) a x).toNat < S80.size a := fun i v227 k0_hw68 k0_h1 => k0_hw68 k0_h1

def k0_chk69 (i : grid0.Coords) (v231 : IVec S16 32) (v235 : IVec S16 32) : Prop :=
  (∀ (k0_h1 : k0_cond1 i = 1#1), ∀ a x, ((![v231, v235] : Fin 2 → IVec S16 32) a x).toNat < S16x320.size a)
theorem k0_idx69_inb : ∀ (i : grid0.Coords) (v231 : IVec S16 32) (v235 : IVec S16 32) (k0_hw69 : k0_chk69 i v231 v235), ∀ (k0_h1 : k0_cond1 i = 1#1), ∀ a x, ((![v231, v235] : Fin 2 → IVec S16 32) a x).toNat < S16x320.size a := fun i v231 v235 k0_hw69 k0_h1 => k0_hw69 k0_h1

def k0_chk70 (i : grid0.Coords) (v238 : IVec S16 32) : Prop :=
  (∀ (k0_h1 : k0_cond1 i = 1#1), ∀ a x, ((![v238] : Fin 1 → IVec S16 32) a x).toNat < S88.size a)
theorem k0_idx70_inb : ∀ (i : grid0.Coords) (v238 : IVec S16 32) (k0_hw70 : k0_chk70 i v238), ∀ (k0_h1 : k0_cond1 i = 1#1), ∀ a x, ((![v238] : Fin 1 → IVec S16 32) a x).toNat < S88.size a := fun i v238 k0_hw70 k0_h1 => k0_hw70 k0_h1

def k0_chk71 (i : grid0.Coords) (v244 : IVec S16 32) : Prop :=
  (∀ (k0_h1 : k0_cond1 i = 1#1), ∀ a x, ((![v244] : Fin 1 → IVec S16 32) a x).toNat < S80.size a)
theorem k0_idx71_inb : ∀ (i : grid0.Coords) (v244 : IVec S16 32) (k0_hw71 : k0_chk71 i v244), ∀ (k0_h1 : k0_cond1 i = 1#1), ∀ a x, ((![v244] : Fin 1 → IVec S16 32) a x).toNat < S80.size a := fun i v244 k0_hw71 k0_h1 => k0_hw71 k0_h1

def k0_chk72 (i : grid0.Coords) (v248 : IVec S16 32) (v252 : IVec S16 32) : Prop :=
  (∀ (k0_h1 : k0_cond1 i = 1#1), ∀ a x, ((![v248, v252] : Fin 2 → IVec S16 32) a x).toNat < S16x320.size a)
theorem k0_idx72_inb : ∀ (i : grid0.Coords) (v248 : IVec S16 32) (v252 : IVec S16 32) (k0_hw72 : k0_chk72 i v248 v252), ∀ (k0_h1 : k0_cond1 i = 1#1), ∀ a x, ((![v248, v252] : Fin 2 → IVec S16 32) a x).toNat < S16x320.size a := fun i v248 v252 k0_hw72 k0_h1 => k0_hw72 k0_h1

def k0_chk73 (i : grid0.Coords) (v255 : IVec S16 32) : Prop :=
  (∀ (k0_h1 : k0_cond1 i = 1#1), ∀ a x, ((![v255] : Fin 1 → IVec S16 32) a x).toNat < S88.size a)
theorem k0_idx73_inb : ∀ (i : grid0.Coords) (v255 : IVec S16 32) (k0_hw73 : k0_chk73 i v255), ∀ (k0_h1 : k0_cond1 i = 1#1), ∀ a x, ((![v255] : Fin 1 → IVec S16 32) a x).toNat < S88.size a := fun i v255 k0_hw73 k0_h1 => k0_hw73 k0_h1

def k0_chk74 (i : grid0.Coords) (v261 : IVec S16 32) : Prop :=
  (∀ (k0_h1 : k0_cond1 i = 1#1), ∀ a x, ((![v261] : Fin 1 → IVec S16 32) a x).toNat < S80.size a)
theorem k0_idx74_inb : ∀ (i : grid0.Coords) (v261 : IVec S16 32) (k0_hw74 : k0_chk74 i v261), ∀ (k0_h1 : k0_cond1 i = 1#1), ∀ a x, ((![v261] : Fin 1 → IVec S16 32) a x).toNat < S80.size a := fun i v261 k0_hw74 k0_h1 => k0_hw74 k0_h1

def k0_chk75 (i : grid0.Coords) (v265 : IVec S16 32) (v269 : IVec S16 32) : Prop :=
  (∀ (k0_h1 : k0_cond1 i = 1#1), ∀ a x, ((![v265, v269] : Fin 2 → IVec S16 32) a x).toNat < S16x320.size a)
theorem k0_idx75_inb : ∀ (i : grid0.Coords) (v265 : IVec S16 32) (v269 : IVec S16 32) (k0_hw75 : k0_chk75 i v265 v269), ∀ (k0_h1 : k0_cond1 i = 1#1), ∀ a x, ((![v265, v269] : Fin 2 → IVec S16 32) a x).toNat < S16x320.size a := fun i v265 v269 k0_hw75 k0_h1 => k0_hw75 k0_h1
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32_69 : BitVec 32 := 23#32
  let v139 : BitVec 1 := Scalar.cmpi .slt v1 c23_i32_69
  let v140 : BitVec 32 := Scalar.extui v139
  let c0_i32_70 : BitVec 32 := 0#32
  let v141 : BitVec 1 := Scalar.cmpi .ne v140 c0_i32_70
  v141

def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_73 : BitVec 32 := 16#32
  let v145 : BitVec 32 := Scalar.muli v1 c16_i32_73
  let c0_i32_74_r2 : BitVec 32 := 0#32
  ![v145.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S375x5x64 : Shape := ⟨3, ![375, 5, 64]⟩
abbrev S5x13 : Shape := ⟨2, ![5, 13]⟩
abbrev S375x5x13 : Shape := ⟨3, ![375, 5, 13]⟩
abbrev S375x5x1x13 : Shape := ⟨4, ![375, 5, 1, 13]⟩
abbrev S375x5x5x13 : Shape := ⟨4, ![375, 5, 5, 13]⟩
abbrev S1x1x5x13 : Shape := ⟨4, ![1, 1, 5, 13]⟩
abbrev S_ : Shape := ⟨0, ![]⟩
abbrev S375x5 : Shape := ⟨2, ![375, 5]⟩
abbrev S375x5x1 : Shape := ⟨3, ![375, 5, 1]⟩
abbrev S375x5x5 : Shape := ⟨3, ![375, 5, 5]⟩
abbrev S375x1x5 : Shape := ⟨3, ![375, 1, 5]⟩
abbrev S375x25 : Shape := ⟨2, ![375, 25]⟩
abbrev S375 : Shape := ⟨1, ![375]⟩
abbrev S375x1 : Shape := ⟨2, ![375, 1]⟩
abbrev S375x1x13 : Shape := ⟨3, ![375, 1, 13]⟩
abbrev S375x13 : Shape := ⟨2, ![375, 13]⟩
abbrev S375x64 : Shape := ⟨2, ![375, 64]⟩
abbrev S375x1x64 : Shape := ⟨3, ![375, 1, 64]⟩

abbrev nBuf : Space → Nat
  | .hbm => 238
  | .vmem => 0
  | .smem => 0
  | _ => 0

abbrev hbmTy0_0 (i : Nat) : BufTy := match i % 128 with
  | 0 => ⟨S375x5x64, .f32⟩
  | 1 => ⟨S5x13, .f32⟩
  | 2 => ⟨S375x5x13, .f32⟩
  | 3 => ⟨S375x5x13, .f32⟩
  | 4 => ⟨S375x5x13, .f32⟩
  | 5 => ⟨S375x5x13, .f32⟩
  | 6 => ⟨S375x5x13, .f32⟩
  | 7 => ⟨S375x5x1x13, .f32⟩
  | 8 => ⟨S375x5x1x13, .f32⟩
  | 9 => ⟨S375x5x1x13, .f32⟩
  | 10 => ⟨S375x5x1x13, .f32⟩
  | 11 => ⟨S375x5x1x13, .f32⟩
  | 12 => ⟨S375x5x5x13, .f32⟩
  | 13 => ⟨S1x1x5x13, .f32⟩
  | 14 => ⟨S375x5x5x13, .f32⟩
  | 15 => ⟨S375x5x5x13, .f32⟩
  | 16 => ⟨S375x5x64, .f32⟩
  | 17 => ⟨S_, .f32⟩
  | 18 => ⟨S375x5, .f32⟩
  | 19 => ⟨S375x5x1, .f32⟩
  | 20 => ⟨S375x5x5x13, .f32⟩
  | 21 => ⟨S_, .f32⟩
  | 22 => ⟨S375x5x5, .f32⟩
  | 23 => ⟨S375x5x5, .f32⟩
  | 24 => ⟨S375x5x5, .f32⟩
  | 25 => ⟨S375x5x5x13, .f32⟩
  | 26 => ⟨S_, .f32⟩
  | 27 => ⟨S375x5x5, .f32⟩
  | 28 => ⟨S375x5x5, .f32⟩
  | 29 => ⟨S_, .i1⟩
  | 30 => ⟨S375x5, .i1⟩
  | 31 => ⟨S_, .i1⟩
  | 32 => ⟨S375x5, .i1⟩
  | 33 => ⟨S_, .i32⟩
  | 34 => ⟨S375x5, .i32⟩
  | 35 => ⟨S375x5x1, .i1⟩
  | 36 => ⟨S375x1x5, .i1⟩
  | 37 => ⟨S375x5x5, .i1⟩
  | 38 => ⟨S375x5x5, .i1⟩
  | 39 => ⟨S375x5x5, .i1⟩
  | 40 => ⟨S_, .f32⟩
  | 41 => ⟨S_, .f32⟩
  | 42 => ⟨S375x5x5, .f32⟩
  | 43 => ⟨S375x5x5, .f32⟩
  | 44 => ⟨S375x25, .f32⟩
  | 45 => ⟨S375x25, .i32⟩
  | 46 => ⟨S_, .f32⟩
  | 47 => ⟨S_, .i32⟩
  | 48 => ⟨S375, .f32⟩
  | 49 => ⟨S375, .i32⟩
  | 50 => ⟨S_, .i32⟩
  | 51 => ⟨S375, .i32⟩
  | 52 => ⟨S375, .i32⟩
  | 53 => ⟨S375x1, .i32⟩
  | 54 => ⟨S_, .i32⟩
  | 55 => ⟨S375, .i32⟩
  | 56 => ⟨S375, .i32⟩
  | 57 => ⟨S375x1, .i32⟩
  | 58 => ⟨S375x5, .i32⟩
  | 59 => ⟨S375x5, .i32⟩
  | 60 => ⟨S375x5, .i1⟩
  | 61 => ⟨S375x5, .i32⟩
  | 62 => ⟨S375x5, .i32⟩
  | 63 => ⟨S375x5, .i32⟩
  | 64 => ⟨S375x5, .i1⟩
  | 65 => ⟨S375x5, .i1⟩
  | 66 => ⟨S375x5, .i32⟩
  | 67 => ⟨S375x5, .i1⟩
  | 68 => ⟨S375x5, .i1⟩
  | 69 => ⟨S375x5x1, .i1⟩
  | 70 => ⟨S375x1x5, .i1⟩
  | 71 => ⟨S375x5x5, .i1⟩
  | 72 => ⟨S375x5x5, .i1⟩
  | 73 => ⟨S375x5x5, .i1⟩
  | 74 => ⟨S_, .f32⟩
  | 75 => ⟨S_, .f32⟩
  | 76 => ⟨S375x5x5, .f32⟩
  | 77 => ⟨S375x5x5, .f32⟩
  | 78 => ⟨S375x25, .f32⟩
  | 79 => ⟨S375x25, .i32⟩
  | 80 => ⟨S_, .f32⟩
  | 81 => ⟨S_, .i32⟩
  | 82 => ⟨S375, .f32⟩
  | 83 => ⟨S375, .i32⟩
  | 84 => ⟨S_, .i32⟩
  | 85 => ⟨S375, .i32⟩
  | 86 => ⟨S375, .i32⟩
  | 87 => ⟨S375x1, .i32⟩
  | 88 => ⟨S_, .i32⟩
  | 89 => ⟨S375, .i32⟩
  | 90 => ⟨S375, .i32⟩
  | 91 => ⟨S375x1, .i32⟩
  | 92 => ⟨S375x5, .i32⟩
  | 93 => ⟨S375x5, .i32⟩
  | 94 => ⟨S375x5, .i1⟩
  | 95 => ⟨S375x5, .i32⟩
  | 96 => ⟨S375x5, .i32⟩
  | 97 => ⟨S375x5, .i32⟩
  | 98 => ⟨S375x5, .i1⟩
  | 99 => ⟨S375x5, .i1⟩
  | 100 => ⟨S375x5, .i32⟩
  | 101 => ⟨S375x5, .i1⟩
  | 102 => ⟨S375x5, .i1⟩
  | 103 => ⟨S375x5x1, .i1⟩
  | 104 => ⟨S375x1x5, .i1⟩
  | 105 => ⟨S375x5x5, .i1⟩
  | 106 => ⟨S375x5x5, .i1⟩
  | 107 => ⟨S375x5x5, .i1⟩
  | 108 => ⟨S_, .f32⟩
  | 109 => ⟨S_, .f32⟩
  | 110 => ⟨S375x5x5, .f32⟩
  | 111 => ⟨S375x5x5, .f32⟩
  | 112 => ⟨S375x25, .f32⟩
  | 113 => ⟨S375x25, .i32⟩
  | 114 => ⟨S_, .f32⟩
  | 115 => ⟨S_, .i32⟩
  | 116 => ⟨S375, .f32⟩
  | 117 => ⟨S375, .i32⟩
  | 118 => ⟨S_, .i32⟩
  | 119 => ⟨S375, .i32⟩
  | 120 => ⟨S375, .i32⟩
  | 121 => ⟨S375x1, .i32⟩
  | 122 => ⟨S_, .i32⟩
  | 123 => ⟨S375, .i32⟩
  | 124 => ⟨S375, .i32⟩
  | 125 => ⟨S375x1, .i32⟩
  | 126 => ⟨S375x5, .i32⟩
  | 127 => ⟨S375x5, .i32⟩
  | _ => ⟨S375x5x64, .f32⟩

abbrev hbmTy0_1 (i : Nat) : BufTy := match i % 128 with
  | 0 => ⟨S375x5, .i1⟩
  | 1 => ⟨S375x5, .i32⟩
  | 2 => ⟨S375x5, .i32⟩
  | 3 => ⟨S375x5, .i32⟩
  | 4 => ⟨S375x5, .i1⟩
  | 5 => ⟨S375x5, .i1⟩
  | 6 => ⟨S375x5, .i32⟩
  | 7 => ⟨S375x5, .i1⟩
  | 8 => ⟨S375x5, .i1⟩
  | 9 => ⟨S375x5x1, .i1⟩
  | 10 => ⟨S375x1x5, .i1⟩
  | 11 => ⟨S375x5x5, .i1⟩
  | 12 => ⟨S375x5x5, .i1⟩
  | 13 => ⟨S375x5x5, .i1⟩
  | 14 => ⟨S_, .f32⟩
  | 15 => ⟨S_, .f32⟩
  | 16 => ⟨S375x5x5, .f32⟩
  | 17 => ⟨S375x5x5, .f32⟩
  | 18 => ⟨S375x25, .f32⟩
  | 19 => ⟨S375x25, .i32⟩
  | 20 => ⟨S_, .f32⟩
  | 21 => ⟨S_, .i32⟩
  | 22 => ⟨S375, .f32⟩
  | 23 => ⟨S375, .i32⟩
  | 24 => ⟨S_, .i32⟩
  | 25 => ⟨S375, .i32⟩
  | 26 => ⟨S375, .i32⟩
  | 27 => ⟨S375x1, .i32⟩
  | 28 => ⟨S_, .i32⟩
  | 29 => ⟨S375, .i32⟩
  | 30 => ⟨S375, .i32⟩
  | 31 => ⟨S375x1, .i32⟩
  | 32 => ⟨S375x5, .i32⟩
  | 33 => ⟨S375x5, .i32⟩
  | 34 => ⟨S375x5, .i1⟩
  | 35 => ⟨S375x5, .i32⟩
  | 36 => ⟨S375x5, .i32⟩
  | 37 => ⟨S375x5, .i32⟩
  | 38 => ⟨S375x5, .i1⟩
  | 39 => ⟨S375x5, .i1⟩
  | 40 => ⟨S375x5, .i32⟩
  | 41 => ⟨S375x5, .i1⟩
  | 42 => ⟨S375x5, .i1⟩
  | 43 => ⟨S375x5x1, .i1⟩
  | 44 => ⟨S375x1x5, .i1⟩
  | 45 => ⟨S375x5x5, .i1⟩
  | 46 => ⟨S375x5x5, .i1⟩
  | 47 => ⟨S375x5x5, .i1⟩
  | 48 => ⟨S_, .f32⟩
  | 49 => ⟨S_, .f32⟩
  | 50 => ⟨S375x5x5, .f32⟩
  | 51 => ⟨S375x5x5, .f32⟩
  | 52 => ⟨S375x25, .f32⟩
  | 53 => ⟨S375x25, .i32⟩
  | 54 => ⟨S_, .f32⟩
  | 55 => ⟨S_, .i32⟩
  | 56 => ⟨S375, .f32⟩
  | 57 => ⟨S375, .i32⟩
  | 58 => ⟨S_, .i32⟩
  | 59 => ⟨S375, .i32⟩
  | 60 => ⟨S375, .i32⟩
  | 61 => ⟨S375x1, .i32⟩
  | 62 => ⟨S_, .i32⟩
  | 63 => ⟨S375, .i32⟩
  | 64 => ⟨S375, .i32⟩
  | 65 => ⟨S375x1, .i32⟩
  | 66 => ⟨S375x5, .i32⟩
  | 67 => ⟨S375x5, .i32⟩
  | 68 => ⟨S375x5, .i1⟩
  | 69 => ⟨S375x5, .i32⟩
  | 70 => ⟨S375x5, .i32⟩
  | 71 => ⟨S375x5, .i32⟩
  | 72 => ⟨S375x5, .i1⟩
  | 73 => ⟨S375x5, .i1⟩
  | 74 => ⟨S375x5, .i32⟩
  | 75 => ⟨S375x5, .i1⟩
  | 76 => ⟨S375x5, .i1⟩
  | 77 => ⟨S375x5x1, .i32⟩
  | 78 => ⟨S375x5x13, .f32⟩
  | 79 => ⟨S375x1x13, .f32⟩
  | 80 => ⟨S375x13, .f32⟩
  | 81 => ⟨S_, .i32⟩
  | 82 => ⟨S_, .f32⟩
  | 83 => ⟨S375x64, .f32⟩
  | 84 => ⟨S375x1x13, .f32⟩
  | 85 => ⟨S375x13, .f32⟩
  | 86 => ⟨S_, .i32⟩
  | 87 => ⟨S_, .f32⟩
  | 88 => ⟨S375x64, .f32⟩
  | 89 => ⟨S375x1x13, .f32⟩
  | 90 => ⟨S375x13, .f32⟩
  | 91 => ⟨S_, .i32⟩
  | 92 => ⟨S_, .f32⟩
  | 93 => ⟨S375x64, .f32⟩
  | 94 => ⟨S375x1x13, .f32⟩
  | 95 => ⟨S375x13, .f32⟩
  | 96 => ⟨S_, .i32⟩
  | 97 => ⟨S_, .f32⟩
  | 98 => ⟨S375x64, .f32⟩
  | 99 => ⟨S375x1x13, .f32⟩
  | 100 => ⟨S375x13, .f32⟩
  | 101 => ⟨S_, .i32⟩
  | 102 => ⟨S_, .f32⟩
  | 103 => ⟨S375x64, .f32⟩
  | 104 => ⟨S375x1x64, .f32⟩
  | 105 => ⟨S375x1x64, .f32⟩
  | 106 => ⟨S375x1x64, .f32⟩
  | 107 => ⟨S375x1x64, .f32⟩
  | 108 => ⟨S375x1x64, .f32⟩
  | 109 => ⟨S375x5x64, .f32⟩
  | _ => ⟨S375x5x64, .f32⟩

abbrev hbmTy (i : Nat) : BufTy := match i / 128 with
  | 0 => hbmTy0_0 i
  | 1 => hbmTy0_1 i
  | _ => ⟨S375x5x64, .f32⟩

abbrev bufTy : (tb : Table) → Fin (tcTables nBuf tb) → BufTy
  | .hbm, ⟨i, _⟩ => hbmTy i
  | _, _ => ⟨S375x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_v5 : Ref sig .tc := ⟨.hbm, 43, rfl⟩
abbrev main_call0_v6 : Ref sig .tc := ⟨.hbm, 44, rfl⟩
abbrev main_call0_call1_v0 : Ref sig .tc := ⟨.hbm, 45, rfl⟩
abbrev main_call0_call1_cst : Ref sig .tc := ⟨.hbm, 46, rfl⟩
abbrev main_call0_call1_c : Ref sig .tc := ⟨.hbm, 47, rfl⟩
abbrev main_call0_call1_v1_0 : Ref sig .tc := ⟨.hbm, 48, rfl⟩
abbrev main_call0_v7 : Ref sig .tc := ⟨.hbm, 49, rfl⟩
abbrev main_call0_c : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_c_0 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_call0_v17 : Ref sig .tc := ⟨.hbm, 61, rfl⟩
abbrev main_v27_2 : Ref sig .tc := ⟨.hbm, 62, rfl⟩
abbrev main_call0_v19 : Ref sig .tc := ⟨.hbm, 63, rfl⟩
abbrev main_call0_v20 : Ref sig .tc := ⟨.hbm, 64, rfl⟩
abbrev main_v27_0 : Ref sig .tc := ⟨.hbm, 65, rfl⟩
abbrev main_call0_v22 : Ref sig .tc := ⟨.hbm, 66, rfl⟩
abbrev main_call0_v23 : Ref sig .tc := ⟨.hbm, 67, rfl⟩
abbrev main_v27_1 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_v5 : Ref sig .tc := ⟨.hbm, 77, rfl⟩
abbrev main_call1_v6 : Ref sig .tc := ⟨.hbm, 78, rfl⟩
abbrev main_call1_call1_v0 : Ref sig .tc := ⟨.hbm, 79, rfl⟩
abbrev main_call1_call1_cst : Ref sig .tc := ⟨.hbm, 80, rfl⟩
abbrev main_call1_call1_c : Ref sig .tc := ⟨.hbm, 81, rfl⟩
abbrev main_call1_call1_v1_0 : Ref sig .tc := ⟨.hbm, 82, rfl⟩
abbrev main_call1_v7 : Ref sig .tc := ⟨.hbm, 83, rfl⟩
abbrev main_call1_c : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_c_0 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_v15 : Ref sig .tc := ⟨.hbm, 93, rfl⟩
abbrev main_call1_v16 : Ref sig .tc := ⟨.hbm, 94, rfl⟩
abbrev main_call1_v17 : Ref sig .tc := ⟨.hbm, 95, rfl⟩
abbrev main_v28_2 : Ref sig .tc := ⟨.hbm, 96, rfl⟩
abbrev main_call1_v19 : Ref sig .tc := ⟨.hbm, 97, rfl⟩
abbrev main_call1_v20 : Ref sig .tc := ⟨.hbm, 98, rfl⟩
abbrev main_v28_0 : Ref sig .tc := ⟨.hbm, 99, rfl⟩
abbrev main_call1_v22 : Ref sig .tc := ⟨.hbm, 100, rfl⟩
abbrev main_call1_v23 : Ref sig .tc := ⟨.hbm, 101, rfl⟩
abbrev main_v28_1 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_cst : Ref sig .tc := ⟨.hbm, 108, rfl⟩
abbrev main_call2_call0_v0 : Ref sig .tc := ⟨.hbm, 109, rfl⟩
abbrev main_call2_call0_v1 : Ref sig .tc := ⟨.hbm, 110, rfl⟩
abbrev main_call2_v5 : Ref sig .tc := ⟨.hbm, 111, rfl⟩
abbrev main_call2_v6 : Ref sig .tc := ⟨.hbm, 112, rfl⟩
abbrev main_call2_call1_v0 : Ref sig .tc := ⟨.hbm, 113, rfl⟩
abbrev main_call2_call1_cst : Ref sig .tc := ⟨.hbm, 114, rfl⟩
abbrev main_call2_call1_c : Ref sig .tc := ⟨.hbm, 115, rfl⟩
abbrev main_call2_call1_v1_0 : Ref sig .tc := ⟨.hbm, 116, rfl⟩
abbrev main_call2_v7 : Ref sig .tc := ⟨.hbm, 117, rfl⟩
abbrev main_call2_c : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_c_0 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_v15 : Ref sig .tc := ⟨.hbm, 127, rfl⟩
abbrev main_call2_v16 : Ref sig .tc := ⟨.hbm, 128, rfl⟩
abbrev main_call2_v17 : Ref sig .tc := ⟨.hbm, 129, rfl⟩
abbrev main_v29_2 : Ref sig .tc := ⟨.hbm, 130, rfl⟩
abbrev main_call2_v19 : Ref sig .tc := ⟨.hbm, 131, rfl⟩
abbrev main_call2_v20 : Ref sig .tc := ⟨.hbm, 132, rfl⟩
abbrev main_v29_0 : Ref sig .tc := ⟨.hbm, 133, rfl⟩
abbrev main_call2_v22 : Ref sig .tc := ⟨.hbm, 134, rfl⟩
abbrev main_call2_v23 : Ref sig .tc := ⟨.hbm, 135, rfl⟩
abbrev main_v29_1 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_cst : Ref sig .tc := ⟨.hbm, 142, rfl⟩
abbrev main_call3_call0_v0 : Ref sig .tc := ⟨.hbm, 143, rfl⟩
abbrev main_call3_call0_v1 : Ref sig .tc := ⟨.hbm, 144, rfl⟩
abbrev main_call3_v5 : Ref sig .tc := ⟨.hbm, 145, rfl⟩
abbrev main_call3_v6 : Ref sig .tc := ⟨.hbm, 146, rfl⟩
abbrev main_call3_call1_v0 : Ref sig .tc := ⟨.hbm, 147, rfl⟩
abbrev main_call3_call1_cst : Ref sig .tc := ⟨.hbm, 148, rfl⟩
abbrev main_call3_call1_c : Ref sig .tc := ⟨.hbm, 149, rfl⟩
abbrev main_call3_call1_v1_0 : Ref sig .tc := ⟨.hbm, 150, rfl⟩
abbrev main_call3_v7 : Ref sig .tc := ⟨.hbm, 151, rfl⟩
abbrev main_call3_c : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_call3_c_0 : Ref sig .tc := ⟨.hbm, 156, rfl⟩
abbrev main_call3_v11 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_call3_v15 : Ref sig .tc := ⟨.hbm, 161, rfl⟩
abbrev main_call3_v16 : Ref sig .tc := ⟨.hbm, 162, rfl⟩
abbrev main_call3_v17 : Ref sig .tc := ⟨.hbm, 163, rfl⟩
abbrev main_v30_2 : Ref sig .tc := ⟨.hbm, 164, rfl⟩
abbrev main_call3_v19 : Ref sig .tc := ⟨.hbm, 165, rfl⟩
abbrev main_call3_v20 : Ref sig .tc := ⟨.hbm, 166, rfl⟩
abbrev main_v30_0 : Ref sig .tc := ⟨.hbm, 167, rfl⟩
abbrev main_call3_v22 : Ref sig .tc := ⟨.hbm, 168, rfl⟩
abbrev main_call3_v23 : Ref sig .tc := ⟨.hbm, 169, rfl⟩
abbrev main_v30_1 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_cst : Ref sig .tc := ⟨.hbm, 176, rfl⟩
abbrev main_call4_call0_v0 : Ref sig .tc := ⟨.hbm, 177, rfl⟩
abbrev main_call4_call0_v1 : Ref sig .tc := ⟨.hbm, 178, rfl⟩
abbrev main_call4_v5 : Ref sig .tc := ⟨.hbm, 179, rfl⟩
abbrev main_call4_v6 : Ref sig .tc := ⟨.hbm, 180, rfl⟩
abbrev main_call4_call1_v0 : Ref sig .tc := ⟨.hbm, 181, rfl⟩
abbrev main_call4_call1_cst : Ref sig .tc := ⟨.hbm, 182, rfl⟩
abbrev main_call4_call1_c : Ref sig .tc := ⟨.hbm, 183, rfl⟩
abbrev main_call4_call1_v1_0 : Ref sig .tc := ⟨.hbm, 184, rfl⟩
abbrev main_call4_v7 : Ref sig .tc := ⟨.hbm, 185, rfl⟩
abbrev main_call4_c : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_c_0 : Ref sig .tc := ⟨.hbm, 190, rfl⟩
abbrev main_call4_v11 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_v15 : Ref sig .tc := ⟨.hbm, 195, rfl⟩
abbrev main_call4_v16 : Ref sig .tc := ⟨.hbm, 196, rfl⟩
abbrev main_call4_v17 : Ref sig .tc := ⟨.hbm, 197, rfl⟩
abbrev main_v31_2 : Ref sig .tc := ⟨.hbm, 198, rfl⟩
abbrev main_call4_v19 : Ref sig .tc := ⟨.hbm, 199, rfl⟩
abbrev main_call4_v20 : Ref sig .tc := ⟨.hbm, 200, rfl⟩
abbrev main_v31_0 : Ref sig .tc := ⟨.hbm, 201, rfl⟩
abbrev main_call4_v22 : Ref sig .tc := ⟨.hbm, 202, rfl⟩
abbrev main_call4_v23 : Ref sig .tc := ⟨.hbm, 203, rfl⟩
abbrev main_v31_1 : Ref sig .tc := ⟨.hbm, 204, rfl⟩
abbrev main_call5_v0 : Ref sig .tc := ⟨.hbm, 205, rfl⟩
abbrev main_v32 : Ref sig .tc := ⟨.hbm, 206, rfl⟩
abbrev main_v33 : Ref sig .tc := ⟨.hbm, 207, rfl⟩
abbrev main_v34 : Ref sig .tc := ⟨.hbm, 208, rfl⟩
abbrev main_c_4 : Ref sig .tc := ⟨.hbm, 209, rfl⟩
abbrev main_call6_v0 : Ref sig .tc := ⟨.hbm, 210, rfl⟩
abbrev main_v35 : Ref sig .tc := ⟨.hbm, 211, rfl⟩
abbrev main_v36 : Ref sig .tc := ⟨.hbm, 212, rfl⟩
abbrev main_v37 : Ref sig .tc := ⟨.hbm, 213, rfl⟩
abbrev main_c_5 : Ref sig .tc := ⟨.hbm, 214, rfl⟩
abbrev main_call7_v0 : Ref sig .tc := ⟨.hbm, 215, rfl⟩
abbrev main_v38 : Ref sig .tc := ⟨.hbm, 216, rfl⟩
abbrev main_v39 : Ref sig .tc := ⟨.hbm, 217, rfl⟩
abbrev main_v40 : Ref sig .tc := ⟨.hbm, 218, rfl⟩
abbrev main_c_6 : Ref sig .tc := ⟨.hbm, 219, rfl⟩
abbrev main_call8_v0 : Ref sig .tc := ⟨.hbm, 220, rfl⟩
abbrev main_v41 : Ref sig .tc := ⟨.hbm, 221, rfl⟩
abbrev main_v42 : Ref sig .tc := ⟨.hbm, 222, rfl⟩
abbrev main_v43 : Ref sig .tc := ⟨.hbm, 223, rfl⟩
abbrev main_c_7 : Ref sig .tc := ⟨.hbm, 224, rfl⟩
abbrev main_call9_v0 : Ref sig .tc := ⟨.hbm, 225, rfl⟩
abbrev main_v44 : Ref sig .tc := ⟨.hbm, 226, rfl⟩
abbrev main_v45 : Ref sig .tc := ⟨.hbm, 227, rfl⟩
abbrev main_v46 : Ref sig .tc := ⟨.hbm, 228, rfl⟩
abbrev main_c_8 : Ref sig .tc := ⟨.hbm, 229, rfl⟩
abbrev main_call10_v0 : Ref sig .tc := ⟨.hbm, 230, rfl⟩
abbrev main_v47 : Ref sig .tc := ⟨.hbm, 231, rfl⟩
abbrev main_v48 : Ref sig .tc := ⟨.hbm, 232, rfl⟩
abbrev main_v49 : Ref sig .tc := ⟨.hbm, 233, rfl⟩
abbrev main_v50 : Ref sig .tc := ⟨.hbm, 234, rfl⟩
abbrev main_v51 : Ref sig .tc := ⟨.hbm, 235, rfl⟩
abbrev main_v52 : Ref sig .tc := ⟨.hbm, 236, rfl⟩
abbrev main_v53 : Ref sig .tc := ⟨.hbm, 237, rfl⟩

abbrev nD : Nat := 1
abbrev τ : Topo := Topo.v7x

variable {F : FTy → Type} [FloatOps F]
-- ==== Proof.Lanes.lean ====
/-
  The lanes of a vector: what a scatter leaves at an index, which word an index vector names, and how a lane's own
  position is read out of the scratch layouts the kernel uses.
-/
module

public import proofs.«01_k».proof.Defs
public import Idealize.ShloMosaic.Lib.ValueLayout
public import Idealize.ShloMosaic.Lib.Pipeline.Value
public import Idealize.ShloMosaic.Lib.Tactic

@[expose] public section

set_option maxRecDepth 16384

noncomputable section

namespace Cert.Lanes

open Cert.KernelIdeal
open Idealize.ShloMosaic Idealize.ShloMosaic.ValueIdx

/-! ## A scatter, element by element -/

section Scatter

variable {F : FTy → Type} [FloatOps F] {s : Shape} {e : EltTy}

/-- One lane's write of a scatter that replaces. -/
def put (mask : IVec S16 1) (at_ : S16.Idx → s.Idx) (v : Vec F S16 e) (g : Vec F s e) (k : Fin 16) : Vec F s e :=
  fun j => if mask (Shape.ofLane (d := ![16]) k) = 1 ∧ ∀ a, (j a).val = (at_ (Shape.ofLane (d := ![16]) k) a).val
    then v (Shape.ofLane (d := ![16]) k) else g j

/-- A replacing scatter is its lanes' writes in order. -/
theorem storeIdx_eq (f : Vec F s e) (idxs : Fin s.rank → IVec S16 32) (v : Vec F S16 e) (mask : IVec S16 1)
    (h : ∀ a x, (idxs a x).toNat < s.size a) :
    storeIdx f idxs v mask false h = (List.finRange 16).foldl (put mask (idxAt idxs h) v) f := by
  show (List.finRange 16).foldl _ f = _
  refine congrArg (fun op => (List.finRange 16).foldl op f) (funext fun g => funext fun k => funext fun j => ?_)
  by_cases hm : mask (Shape.ofLane (d := ![16]) k) = 1
  · simp [put, hm]
  · exact (congrFun (if_neg hm) j).trans (if_neg fun h' => hm h'.1).symm

/-- An element no written lane names keeps its value. -/
theorem foldl_put_miss (mask : IVec S16 1) (at_ : S16.Idx → s.Idx) (v : Vec F S16 e) (j : s.Idx)
    (hj : ∀ x : S16.Idx, mask x = 1 → at_ x ≠ j) (l : List (Fin 16)) (f : Vec F s e) : l.foldl (put mask at_ v) f j = f j := by
  induction l generalizing f with
  | nil => rfl
  | cons k l ih =>
    rw [List.foldl_cons, ih]
    exact if_neg fun ⟨h1, h2⟩ => hj _ h1 (funext fun a => Fin.ext (h2 a).symm)

/-- An element that every written lane naming it gives the value `y`, once one has, holds `y`. -/
theorem foldl_put_hit (mask : IVec S16 1) (at_ : S16.Idx → s.Idx) (v : Vec F S16 e) (j : s.Idx) (y : Elt F e)
    (hv : ∀ x : S16.Idx, mask x = 1 → at_ x = j → v x = y) (l : List (Fin 16)) (f : Vec F s e)
    (hl : f j = y ∨ ∃ k ∈ l, mask (Shape.ofLane (d := ![16]) k) = 1 ∧ at_ (Shape.ofLane (d := ![16]) k) = j) :
    l.foldl (put mask at_ v) f j = y := by
  induction l generalizing f with
  | nil => exact hl.elim id fun ⟨_, hk, _⟩ => absurd hk (List.not_mem_nil)
  | cons k l ih =>
    rw [List.foldl_cons]
    refine ih _ ?_
    by_cases hk : mask (Shape.ofLane (d := ![16]) k) = 1 ∧ ∀ a, (j a).val = (at_ (Shape.ofLane (d := ![16]) k) a).val
    · left
      exact (if_pos hk).trans (hv _ hk.1 (funext fun a => Fin.ext (hk.2 a).symm))
    · rcases hl with hl | ⟨k', hk', hm, ha⟩
      · left; exact (if_neg hk).trans hl
      · rcases List.mem_cons.1 hk' with rfl | hk'
        · exact absurd ⟨hm, fun a => by rw [ha]⟩ hk
        · right; exact ⟨k', hk', hm, ha⟩

/-- An element that no lane names is kept. -/
theorem storeIdx_miss (f : Vec F s e) (idxs : Fin s.rank → IVec S16 32) (v : Vec F S16 e) (mask : IVec S16 1)
    (h : ∀ a x, (idxs a x).toNat < s.size a) (j : s.Idx) (hj : ∀ x : S16.Idx, mask x = 1 → idxAt idxs h x ≠ j) :
    storeIdx f idxs v mask false h j = f j := by
  rw [storeIdx_eq]; exact foldl_put_miss mask _ v j hj _ f

/-- An element that a lane names takes that lane's value. -/
theorem storeIdx_hit (f : Vec F s e) (idxs : Fin s.rank → IVec S16 32) (v : Vec F S16 e) (mask : IVec S16 1)
    (h : ∀ a x, (idxs a x).toNat < s.size a) (j : s.Idx) (x : S16.Idx) (hm : mask x = 1) (hx : idxAt idxs h x = j)
    (hv : ∀ x' : S16.Idx, mask x' = 1 → idxAt idxs h x' = j → v x' = v x) : storeIdx f idxs v mask false h j = v x := by
  rw [storeIdx_eq]
  refine foldl_put_hit mask _ v j (v x) hv _ f (.inr ⟨x 0, List.mem_finRange _, ?_⟩)
  have hx0 : Shape.ofLane (d := ![16]) (x 0) = x := funext fun a => by
    obtain rfl : a = 0 := Fin.eq_zero a
    rfl
  rw [hx0]; exact ⟨hm, hx⟩

end Scatter

/-! ## Index vectors -/

/-- Lane number times seventeen, plus a constant, plus a counter: no carry leaves the word. -/
theorem idx_stage (x c t : ℕ) (hx : x < 16) (hc : c < 100000) (ht : t < 1000) :
    (BitVec.ofNat 32 x * 17#32 + BitVec.ofNat 32 c + BitVec.ofNat 32 t).toNat = 17 * x + c + t := by
  simp only [BitVec.toNat_add, BitVec.toNat_mul, BitVec.toNat_ofNat]
  omega

/-- Lane number plus a constant plus a counter times seventeen. -/
theorem idx_col (x c t : ℕ) (hx : x < 16) (hc : c < 100000) (ht : t < 1000) :
    (BitVec.ofNat 32 x + BitVec.ofNat 32 c + BitVec.ofNat 32 t * 17#32).toNat = x + c + 17 * t := by
  simp only [BitVec.toNat_add, BitVec.toNat_mul, BitVec.toNat_ofNat]
  omega

/-- Lane number plus a constant plus a counter. -/
theorem idx_lane (x c t : ℕ) (hx : x < 16) (hc : c < 100000) (ht : t < 1000) :
    (BitVec.ofNat 32 x + BitVec.ofNat 32 c + BitVec.ofNat 32 t).toNat = x + c + t := by
  simp only [BitVec.toNat_add, BitVec.toNat_ofNat]
  omega

/-- A loop's counter is the number of the trip. -/
theorem iv_eq (t : ℕ) : Scf.iv (w := 32) 0#32 1#32 t = BitVec.ofNat 32 t := by
  simp [Scf.iv]

/-- A lane's number. -/
theorem lane_eq (h : S16.Iotas .scVector 32 [0]) (x : S16.Idx) : iota .scVector S16 32 [0] h x = BitVec.ofNat 32 (x 0).val :=
  iota_single_apply ..

/-- A row piece `[1, 16]` cast to `[16]`, read at a lane. -/
theorem cast_row {α : Type} (v : S1x16.Idx → α) (h : S1x16.ShapeCasts S16) (x : S16.Idx) :
    shapeCast S16 v h x = v (ix2 (0 : Fin 1) (x 0)) := by
  have hx : x = ix1 (x 0) := funext fun a => by obtain rfl : a = 0 := Fin.eq_zero a; rfl
  conv_lhs => rw [hx]
  exact shapeCast_1a_a_apply v h (x 0)

end Cert.Lanes
-- ==== Proof.Setup.lean ====
/-
  The kernel's program as the launch theorem sees it, its resources, and one vector subcore's names for its operands and
  its own buffers.
-/
module

public import proofs.«01_k».proof.Defs
public import proofs.«01_k».proof.Proof.Lanes
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## One vector subcore -/

variable (d : Dev nD) (L : grid0.Coords)

abbrev cV : Fin τ.nSC := (L 0).castLE hcore0
abbrev jV : Fin τ.nSub := (L 1).castLE hsub0
/-- The vector subcore's thread. -/
abbrev thr : Thread nD τ := V d (cV L) (jV L)

/-- The five scratch buffers: the staged rows, the transposed rows, the tokens, the assignments, the output rows. -/
abbrev pts7 (f : Vec F S16x320 .f32) : sProp 𝕄 := (thr d L).loc cc0_scratch2 ↦{fullShare} (f : Buf (Elt F) ((thr d L).loc cc0_scratch2))
abbrev pts8 (f : Vec F S5440 .f32) : sProp 𝕄 := (thr d L).loc cc0_scratch3 ↦{fullShare} (f : Buf (Elt F) ((thr d L).loc cc0_scratch3))
abbrev pts9 (f : Vec F S80 .f32) : sProp 𝕄 := (thr d L).loc cc0_scratch4 ↦{fullShare} (f : Buf (Elt F) ((thr d L).loc cc0_scratch4))
abbrev pts10 (f : Vec F S88 .i32) : sProp 𝕄 := (thr d L).loc cc0_scratch5 ↦{fullShare} (f : Buf (Elt F) ((thr d L).loc cc0_scratch5))
abbrev pts11 (f : Vec F S16x320 .f32) : sProp 𝕄 := (thr d L).loc cc0_scratch6 ↦{fullShare} (f : Buf (Elt F) ((thr d L).loc cc0_scratch6))

/-- A program of the vector subcore reaches the result `Q`. -/
abbrev run [FloatOps F] {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- A program in two parts. -/
theorem run_bind [FloatOps F] {α β : Type} (p : Prog (TpuEff nD τ sig (Elt F) Λ₀ (.scVector (cV L) (jV L))) α)
    (k : α → Prog (TpuEff nD τ sig (Elt F) Λ₀ (.scVector (cV L) (jV L))) β) (Q : β → sProp 𝕄) :
    run d L (p >>= k) Q = run d L p (fun a => run d L (k a) Q) := wp_bind ..

/-- A program that is done. -/
theorem run_pure [FloatOps F] {α : Type} (a : α) (Q : α → sProp 𝕄) :
    Q a ⊢ run d L (pure a) Q := fupd_intro

end Cert.Tile
-- ==== Proof.Steps.lean ====
/-
  One step of the vector subcore's program: a gather or scatter by an index vector, a load or store of a row piece, each with
  what it does to the contents of the scratch it touches.
-/
module

public import proofs.«01_k».proof.Proof.Setup

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords) {α : Type}

/-! ## Any scratch: an assumed index range, then the gather or the scatter -/

/-- An indexed load whose indices are in bounds. -/
theorem gather {s : Shape} {e : EltTy} {base : Memref sig .scVector .vmem s e} {P : Prop} {dec : Decidable P}
    {idxs : Fin s.rank → IVec S16 32} (hin : ∀ a x, (idxs a x).toNat < s.size a) (hP : P) {inb : PLift P → ∀ a x, (idxs a x).toNat < s.size a}
    {hl : base.view.Loads} {k : Vec F S16 e → Prog (TpuEff nD τ sig (Elt F) Λ₀ (.scVector (cV L) (jV L))) α}
    {f : Buf (Elt F) ((base.access (.whole s)).loc (thr d L))} {Q : α → sProp 𝕄} :
    ((base.access (.whole s)).loc (thr d L) ↦{fullShare} f)
      ⊢ iprop((((base.access (.whole s)).loc (thr d L) ↦{fullShare} f)
          -∗ run d L (k (loadIdx ((base.access (.whole s)).read (Elt F) f) idxs hin)) Q)
        -∗ run d L (Prog.lift (TpuEff.assume P dec) >>= fun x => SparseCore.vectorLoadIdx base idxs (inb x) hl >>= k) Q) := by
  rw [Prog.bind_lift]
  unfold run
  rw [wp_assume_of _ _ _ _ hP]
  exact SparseCore.wp_vectorLoadIdx 𝒱₀ (thr d L) none Set.univ (Finset.subset_univ _)

/-- An indexed store whose indices are in bounds. -/
theorem scatter {s : Shape} {e : EltTy} {base : Memref sig .scVector .vmem s e} {P : Prop} {dec : Decidable P}
    {idxs : Fin s.rank → IVec S16 32} {v : Vec F S16 e} {mask : IVec S16 1} (hin : ∀ a x, (idxs a x).toNat < s.size a) (hP : P)
    {inb : PLift P → ∀ a x, (idxs a x).toNat < s.size a} {hs : (base.access (.whole s)).Stores Finset.univ}
    {k : PUnit → Prog (TpuEff nD τ sig (Elt F) Λ₀ (.scVector (cV L) (jV L))) α}
    {f : Buf (Elt F) ((base.access (.whole s)).loc (thr d L))} {Q : α → sProp 𝕄} (hb : (base.access (.whole s)).set = Finset.univ) :
    ((base.access (.whole s)).loc (thr d L) ↦{fullShare} f)
      ⊢ iprop((((base.access (.whole s)).loc (thr d L) ↦{fullShare}
            ((base.access (.whole s)).write (Elt F) f (storeIdx ((base.access (.whole s)).read (Elt F) f) idxs v mask false hin) Finset.univ))
          -∗ run d L (k ⟨⟩) Q)
        -∗ run d L (Prog.lift (TpuEff.assume P dec) >>= fun x => SparseCore.vectorStoreIdx base idxs v mask false (inb x) hs >>= k) Q) := by
  rw [Prog.bind_lift]
  unfold run
  rw [wp_assume_of _ _ _ _ hP, ← hb]
  exact SparseCore.wp_vectorStoreIdx 𝒱₀ (thr d L) none Set.univ

/-! ## The staged rows, a row piece at a time -/

/-- Words `16 wb …` of row `l`. -/
def rowPiece (raw : Vec F S16x320 .f32) (l : Fin 16) (wb : ℕ) : Vec F S1x16 .f32 :=
  fun y => raw (ix2 l (Fin.ofNat 320 (16 * wb + (y 1).val)))

/-- The element of a row piece's rectangle. -/
theorem piece_emb {off : Fin 2 → ℕ} {l : Fin 16} {wb : ℕ} (hwb : wb < 20) (hoff : off = ![l.val, 16 * wb])
    (inb : ∀ a, off a + S1x16.size a ≤ S16x320.size a) (y : S1x16.Idx) :
    (Rect.unit (s := S16x320) off S1x16.size inb).emb y = ix2 l (Fin.ofNat 320 (16 * wb + (y 1).val)) := by
  subst hoff
  funext a
  apply Fin.ext
  rw [Rect.emb_apply]
  match a with
  | ⟨0, _⟩ =>
    have h0 : (y 0).val < 1 := (y 0).isLt
    show l.val + 1 * (y 0).val = l.val
    omega
  | ⟨1, _⟩ =>
    have h1 : (y 1).val < 16 := (y 1).isLt
    show 16 * wb + 1 * (y 1).val = (16 * wb + (y 1).val) % 320
    omega

/-- The load of sixteen words of a fetched row. -/
theorem load7 {raw : Vec F S16x320 .f32} (l : Fin 16) (wb : ℕ) (hwb : wb < 20) {off : Fin 2 → ℕ} (hoff : off = ![l.val, 16 * wb])
    {inb : ∀ a, off a + S1x16.size a ≤ S16x320.size a}
    {hl : (s7).view.LoadsAt (Rect.unit (s := S16x320) off S1x16.size inb).toLoadRect}
    {k : Vec F S1x16 .f32 → Prog (TpuEff nD τ sig (Elt F) Λ₀ (.scVector (cV L) (jV L))) α} {Q : α → sProp 𝕄} :
    pts7 d L raw ⊢ iprop((pts7 d L raw -∗ run d L (k (rowPiece raw l wb)) Q)
      -∗ run d L (Prog.lift (.load s7 (Rect.unit (s := S16x320) off S1x16.size inb).toLoadRect hl) >>= k) Q) := by
  rw [Prog.bind_lift]
  have e : ((s7).access (Rect.unit (s := S16x320) off S1x16.size inb)).read (Elt F) raw = rowPiece raw l wb := by
    funext y
    show raw ((Rect.unit (s := S16x320) off S1x16.size inb).emb y) = _
    rw [piece_emb hwb hoff inb]; rfl
  have key := wp_load_rect (defs := defs₀ (F := F)) 𝒱₀ (thr d L) none Set.univ (m := s7) (Γ := .empty) (hl := hl) (k := k) (Q := Q) (q := fullShare) (f := raw) (Finset.subset_univ _)
  exact key.trans (wand_mono_left (wand_mono_right (Entails.of_eq (congrArg (fun z => run d L (k z) Q) e.symm))))

/-! ## The transposed rows -/

/-- Word `w` of row `l` is at `17 w + l` of the transposed buffer: so far for the rows before `l`, and for row `l`'s words before `16 wb`. -/
def Staged (raw : Vec F S16x320 .f32) (l wb : ℕ) (f : Vec F S5440 .f32) : Prop :=
  ∀ (j : S5440.Idx) (y : S16x320.Idx), (j 0).val = 17 * (y 1).val + (y 0).val →
    ((y 0).val < l ∨ ((y 0).val = l ∧ (y 1).val < 16 * wb)) → f j = raw y

/-- Sixteen more words are staged. -/
theorem Staged.step {raw : Vec F S16x320 .f32} {l : Fin 16} {wb : ℕ} (hwb : wb < 20) {f : Vec F S5440 .f32} (hf : Staged raw l wb f)
    {v : IVec S16 32} (hv : ∀ x : S16.Idx, (v x).toNat = 17 * (x 0).val + 272 * wb + l.val) {p : Vec F S16 .f32}
    (hp : ∀ x : S16.Idx, p x = raw (ix2 l (Fin.ofNat 320 (16 * wb + (x 0).val)))) (h : ∀ a x, ((![v] : Fin 1 → IVec S16 32) a x).toNat < S5440.size a) :
    Staged raw l (wb + 1) (storeIdx f ![v] p (fun _ => 1#1) false h) := by
  intro j y hj hy
  have hl := l.isLt
  have hy0 : (y 0).val < 16 := (y 0).isLt
  by_cases hn : (y 0).val = l ∧ 16 * wb ≤ (y 1).val ∧ (y 1).val < 16 * wb + 16
  · obtain ⟨h0, h1, h2⟩ := hn
    have hx16 : (y 1).val - 16 * wb < 16 := by omega
    have key : ∀ x' : S16.Idx, idxAt (s := S5440) ![v] h x' = j → (x' 0).val = (y 1).val - 16 * wb := by
      intro x' hx'
      have := congrArg (fun z : S5440.Idx => (z 0).val) hx'
      have h3 : (v x').toNat = (j 0).val := this
      rw [hv] at h3
      omega
    refine (storeIdx_hit f ![v] p (fun _ => 1#1) h j (ix1 ⟨(y 1).val - 16 * wb, hx16⟩) rfl ?_ ?_).trans ?_
    · funext a
      obtain rfl : a = 0 := Fin.eq_zero a
      apply Fin.ext
      show (v (ix1 ⟨(y 1).val - 16 * wb, hx16⟩)).toNat = (j 0).val
      rw [hv]
      show 17 * ((y 1).val - 16 * wb) + 272 * wb + l.val = (j 0).val
      omega
    · intro x' _ hx'
      have : x' = ix1 ⟨(y 1).val - 16 * wb, hx16⟩ := funext fun a => by
        obtain rfl : a = 0 := Fin.eq_zero a
        exact Fin.ext (key x' hx')
      rw [this]
    · rw [hp]
      refine congrArg raw (funext fun a => Fin.ext ?_)
      match a with
      | ⟨0, _⟩ => exact h0.symm
      | ⟨1, _⟩ =>
        show (16 * wb + ((y 1).val - 16 * wb)) % 320 = (y 1).val
        have : (y 1).val < 320 := (y 1).isLt
        omega
  · rw [storeIdx_miss f ![v] p (fun _ => 1#1) h j ?_]
    · exact hf j y hj (by omega)
    · intro x _ hx
      have := congrArg (fun z : S5440.Idx => (z 0).val) hx
      have h3 : (v x).toNat = (j 0).val := this
      rw [hv] at h3
      have hx0 : (x 0).val < 16 := (x 0).isLt
      omega

/-- A row that is staged: the next begins. -/
theorem Staged.next {raw : Vec F S16x320 .f32} {l : ℕ} {f : Vec F S5440 .f32} (hf : Staged raw l 20 f) : Staged raw (l + 1) 0 f := by
  intro j y hj hy
  have : (y 1).val < 320 := (y 1).isLt
  exact hf j y hj (by omega)

/-- The transposed buffer, staged so far. -/
def Rst (raw : Vec F S16x320 .f32) (l wb : ℕ) : sProp 𝕄 := iprop(∃ f, ⌜Staged raw l wb f⌝ ∗ pts8 d L f)

/-- The store of sixteen words into the staging buffer. -/
theorem scat8 {raw : Vec F S16x320 .f32} (l : Fin 16) (wb : ℕ) (hwb : wb < 20)
    {v : IVec S16 32} (hv : ∀ x : S16.Idx, (v x).toNat = 17 * (x 0).val + 272 * wb + l.val) {p : Vec F S16 .f32}
    (hp : ∀ x : S16.Idx, p x = raw (ix2 l (Fin.ofNat 320 (16 * wb + (x 0).val)))) {P : Prop} {dec : Decidable P}
    (hP : (∀ a x, ((![v] : Fin 1 → IVec S16 32) a x).toNat < S5440.size a) → P)
    {inb : PLift P → ∀ a x, ((![v] : Fin 1 → IVec S16 32) a x).toNat < S5440.size a} {hs : ((s8).access (.whole S5440)).Stores Finset.univ}
    {k : PUnit → Prog (TpuEff nD τ sig (Elt F) Λ₀ (.scVector (cV L) (jV L))) α} {Q : α → sProp 𝕄} :
    Rst d L raw l wb ⊢ iprop((Rst d L raw l (wb + 1) -∗ run d L (k ⟨⟩) Q)
      -∗ run d L (Prog.lift (TpuEff.assume P dec) >>= fun x => SparseCore.vectorStoreIdx s8 ![v] p (fun _ => 1#1) false (inb x) hs >>= k) Q) := by
  have hin : ∀ a x, ((![v] : Fin 1 → IVec S16 32) a x).toNat < S5440.size a := by
    intro a x
    obtain rfl : a = 0 := Fin.eq_zero a
    have hx0 : (x 0).val < 16 := (x 0).isLt
    have hl := l.isLt
    show (v x).toNat < 5440
    rw [hv]; omega
  unfold Rst
  iintro ⟨%f, %hf, H⟩ HK
  have e : ((s8).access (.whole (Ref.ty cc0_scratch3).shape)).write (Elt F) f
      (storeIdx (((s8).access (.whole (Ref.ty cc0_scratch3).shape)).read (Elt F) f) ![v] p (fun _ => 1#1) false hin) Finset.univ
      = storeIdx (F := F) (s := S5440) (e := .f32) f ![v] p (fun _ => 1#1) false hin := by
    rw [Memref.write_access_whole_univ, Memref.read_access_whole]
  iapply (scatter d L (base := s8) (idxs := ![v]) (f := f) hin (hP hin) (by simp)) $$ H
  rw [e]
  iintro H
  iapply HK
  iexists (storeIdx (F := F) (s := S5440) (e := .f32) f ![v] p (fun _ => 1#1) false hin)
  isplitr
  · ipureintro; exact Staged.step hwb hf hv hp hin
  · iexact H

/-! ## Gathers -/

/-- Word `w` of the sixteen rows. -/
def col (raw : Vec F S16x320 .f32) (w : ℕ) : FVec F S16 .f32 := fun x => raw (ix2 (x 0) (Fin.ofNat 320 w))

/-- The gather of one word of the sixteen staged rows. -/
theorem gather8 {raw : Vec F S16x320 .f32} {f : Vec F S5440 .f32} (hf : Staged raw 16 0 f) (w : ℕ) (hw : w < 320)
    {v : IVec S16 32} (hv : ∀ x : S16.Idx, (v x).toNat = (x 0).val + 17 * w) {P : Prop} {dec : Decidable P}
    (hP : (∀ a x, ((![v] : Fin 1 → IVec S16 32) a x).toNat < S5440.size a) → P)
    {inb : PLift P → ∀ a x, ((![v] : Fin 1 → IVec S16 32) a x).toNat < S5440.size a} {hl : (s8).view.Loads}
    {k : Vec F S16 .f32 → Prog (TpuEff nD τ sig (Elt F) Λ₀ (.scVector (cV L) (jV L))) α} {Q : α → sProp 𝕄} :
    pts8 d L f ⊢ iprop((pts8 d L f -∗ run d L (k (col raw w)) Q)
      -∗ run d L (Prog.lift (TpuEff.assume P dec) >>= fun x => SparseCore.vectorLoadIdx s8 ![v] (inb x) hl >>= k) Q) := by
  have hin : ∀ a x, ((![v] : Fin 1 → IVec S16 32) a x).toNat < S5440.size a := by
    intro a x
    obtain rfl : a = 0 := Fin.eq_zero a
    have hx0 : (x 0).val < 16 := (x 0).isLt
    show (v x).toNat < 5440
    rw [hv]; omega
  have e : loadIdx (F := F) (e := .f32) (((s8).access (.whole (Ref.ty cc0_scratch3).shape)).read (Elt F) f) ![v] hin = col raw w := by
    rw [Memref.read_access_whole]
    funext x
    refine hf _ (ix2 (x 0) (Fin.ofNat 320 w)) ?_ (.inl (x 0).isLt)
    show (v x).toNat = 17 * (w % 320) + (x 0).val
    rw [hv, Nat.mod_eq_of_lt hw]; omega
  rw [← e]
  exact gather d L (base := s8) (idxs := ![v]) (f := f) hin (hP hin)

/-- A gather from the tokens. -/
theorem gather9 {f : Vec F S80 .f32} (r : Vec F S16 .f32) {v : IVec S16 32} (hv : ∀ x : S16.Idx, (v x).toNat < 80)
    (hr : ∀ (x : S16.Idx) (j : S80.Idx), (j 0).val = (v x).toNat → f j = r x) {P : Prop} {dec : Decidable P}
    (hP : (∀ a x, ((![v] : Fin 1 → IVec S16 32) a x).toNat < S80.size a) → P)
    {inb : PLift P → ∀ a x, ((![v] : Fin 1 → IVec S16 32) a x).toNat < S80.size a} {hl : (s9).view.Loads}
    {k : Vec F S16 .f32 → Prog (TpuEff nD τ sig (Elt F) Λ₀ (.scVector (cV L) (jV L))) α} {Q : α → sProp 𝕄} :
    pts9 d L f ⊢ iprop((pts9 d L f -∗ run d L (k r) Q)
      -∗ run d L (Prog.lift (TpuEff.assume P dec) >>= fun x => SparseCore.vectorLoadIdx s9 ![v] (inb x) hl >>= k) Q) := by
  have hin : ∀ a x, ((![v] : Fin 1 → IVec S16 32) a x).toNat < S80.size a := by
    intro a x
    obtain rfl : a = 0 := Fin.eq_zero a
    exact hv x
  have e : loadIdx (F := F) (e := .f32) (((s9).access (.whole (Ref.ty cc0_scratch4).shape)).read (Elt F) f) ![v] hin = r := by
    rw [Memref.read_access_whole]
    exact funext fun x => hr x _ rfl
  rw [← e]
  exact gather d L (base := s9) (idxs := ![v]) (f := f) hin (hP hin)

/-- A gather from the assignments. -/
theorem gather10 {f : Vec F S88 .i32} (r : Vec F S16 .i32) {v : IVec S16 32} (hv : ∀ x : S16.Idx, (v x).toNat < 88)
    (hr : ∀ (x : S16.Idx) (j : S88.Idx), (j 0).val = (v x).toNat → f j = r x) {P : Prop} {dec : Decidable P}
    (hP : (∀ a x, ((![v] : Fin 1 → IVec S16 32) a x).toNat < S88.size a) → P)
    {inb : PLift P → ∀ a x, ((![v] : Fin 1 → IVec S16 32) a x).toNat < S88.size a} {hl : (s10).view.Loads}
    {k : Vec F S16 .i32 → Prog (TpuEff nD τ sig (Elt F) Λ₀ (.scVector (cV L) (jV L))) α} {Q : α → sProp 𝕄} :
    pts10 d L f ⊢ iprop((pts10 d L f -∗ run d L (k r) Q)
      -∗ run d L (Prog.lift (TpuEff.assume P dec) >>= fun x => SparseCore.vectorLoadIdx s10 ![v] (inb x) hl >>= k) Q) := by
  have hin : ∀ a x, ((![v] : Fin 1 → IVec S16 32) a x).toNat < S88.size a := by
    intro a x
    obtain rfl : a = 0 := Fin.eq_zero a
    exact hv x
  have e : loadIdx (F := F) (e := .i32) (((s10).access (.whole (Ref.ty cc0_scratch5).shape)).read (Elt F) f) ![v] hin = r := by
    rw [Memref.read_access_whole]
    exact funext fun x => hr x _ rfl
  rw [← e]
  exact gather d L (base := s10) (idxs := ![v]) (f := f) hin (hP hin)

end Cert.Tile
-- ==== Proof.Stage.lean ====
/-
  The first loop: the staged rows, copied word by word into the transposed buffer.
-/
module

public import proofs.«01_k».proof.Proof.Steps

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- The lane numbers. -/
abbrev lanes : IVec S16 32 := iota .scVector S16 32 [0] iota_S16_d0_w32_scVector

/-- The index vector of a scatter into the transposed buffer. -/
theorem stage_index (c l : ℕ) (hc : c < 100000) (hl : l < 1000) (x : S16.Idx) :
    (addi (addi k0_pay1 (broadcast S16 (BitVec.ofNat 32 c))) (broadcast S16 (Scf.iv (w := 32) 0#32 1#32 l)) x).toNat = 17 * (x 0).val + c + l := by
  rw [iv_eq]
  exact (congrArg (fun z : BitVec 32 => (z * 17#32 + BitVec.ofNat 32 c + BitVec.ofNat 32 l).toNat) (lane_eq _ x)).trans
    (idx_stage _ _ _ (x 0).isLt hc hl)

/-- The words of a row piece, lane by lane. -/
theorem piece_cast {raw : Vec F S16x320 .f32} {l : Fin 16} {wb : ℕ} (h : S1x16.ShapeCasts S16) (x : S16.Idx) :
    shapeCast S16 (rowPiece raw l wb) h x = raw (ix2 l (Fin.ofNat 320 (16 * wb + (x 0).val))) :=
  cast_row _ h x

/-- The trip's row. -/
abbrev rowOf (t : Fin k0_t1_loop.trips) : Fin 16 := ⟨t.val, t.isLt⟩

/-- One trip: row `t` of the staged rows is copied. -/
theorem stage_body {raw : Vec F S16x320 .f32} (v1 : BitVec 32) (h1 : k0_cond1 L = 1#1) (t : Fin k0_t1_loop.trips) :
    iprop(Rst d L raw t.val 0 ∗ pts7 d L raw) ⊢ run d L (k0_t1_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1 t ())
      (fun _ => iprop(Rst d L raw (t.val + 1) 0 ∗ pts7 d L raw)) := by
  have ht : t.val < 1000 := lt_trans t.isLt (by decide)
  unfold k0_t1_body
  iintro ⟨H, H7⟩
  rw [run_bind, k0_part1_eq_skeleton]
  unfold k0_part1_skel
  iapply (load7 d L (rowOf t) 0 (by decide) (k0_off2_eq t)) $$ H7
  iintro H7
  iapply (scat8 d L (rowOf t) 0 (by decide) (stage_index 0 t.val (by decide) ht) (piece_cast _) (fun h _ => h)) $$ H
  iintro H
  iapply (load7 d L (rowOf t) 1 (by decide) (k0_off3_eq t)) $$ H7
  iintro H7
  iapply (scat8 d L (rowOf t) 1 (by decide) (stage_index 272 t.val (by decide) ht) (piece_cast _) (fun h _ => h)) $$ H
  iintro H
  iapply (load7 d L (rowOf t) 2 (by decide) (k0_off4_eq t)) $$ H7
  iintro H7
  iapply (scat8 d L (rowOf t) 2 (by decide) (stage_index 544 t.val (by decide) ht) (piece_cast _) (fun h _ => h)) $$ H
  iintro H
  iapply (load7 d L (rowOf t) 3 (by decide) (k0_off5_eq t)) $$ H7
  iintro H7
  iapply (scat8 d L (rowOf t) 3 (by decide) (stage_index 816 t.val (by decide) ht) (piece_cast _) (fun h _ => h)) $$ H
  iintro H
  iapply (load7 d L (rowOf t) 4 (by decide) (k0_off6_eq t)) $$ H7
  iintro H7
  iapply (scat8 d L (rowOf t) 4 (by decide) (stage_index 1088 t.val (by decide) ht) (piece_cast _) (fun h _ => h)) $$ H
  iintro H
  iapply (load7 d L (rowOf t) 5 (by decide) (k0_off7_eq t)) $$ H7
  iintro H7
  iapply run_pure
  rw [run_bind, k0_part2_eq_skeleton]
  unfold k0_part2_skel
  iapply (scat8 d L (rowOf t) 5 (by decide) (stage_index 1360 t.val (by decide) ht) (piece_cast _) (fun h _ => h)) $$ H
  iintro H
  iapply (load7 d L (rowOf t) 6 (by decide) (k0_off8_eq t)) $$ H7
  iintro H7
  iapply (scat8 d L (rowOf t) 6 (by decide) (stage_index 1632 t.val (by decide) ht) (piece_cast _) (fun h _ => h)) $$ H
  iintro H
  iapply (load7 d L (rowOf t) 7 (by decide) (k0_off9_eq t)) $$ H7
  iintro H7
  iapply (scat8 d L (rowOf t) 7 (by decide) (stage_index 1904 t.val (by decide) ht) (piece_cast _) (fun h _ => h)) $$ H
  iintro H
  iapply (load7 d L (rowOf t) 8 (by decide) (k0_off10_eq t)) $$ H7
  iintro H7
  iapply (scat8 d L (rowOf t) 8 (by decide) (stage_index 2176 t.val (by decide) ht) (piece_cast _) (fun h _ => h)) $$ H
  iintro H
  iapply (load7 d L (rowOf t) 9 (by decide) (k0_off11_eq t)) $$ H7
  iintro H7
  iapply (scat8 d L (rowOf t) 9 (by decide) (stage_index 2448 t.val (by decide) ht) (piece_cast _) (fun h _ => h)) $$ H
  iintro H
  iapply (load7 d L (rowOf t) 10 (by decide) (k0_off12_eq t)) $$ H7
  iintro H7
  iapply run_pure
  rw [run_bind, k0_part3_eq_skeleton]
  unfold k0_part3_skel
  iapply (scat8 d L (rowOf t) 10 (by decide) (stage_index 2720 t.val (by decide) ht) (piece_cast _) (fun h _ => h)) $$ H
  iintro H
  iapply (load7 d L (rowOf t) 11 (by decide) (k0_off13_eq t)) $$ H7
  iintro H7
  iapply (scat8 d L (rowOf t) 11 (by decide) (stage_index 2992 t.val (by decide) ht) (piece_cast _) (fun h _ => h)) $$ H
  iintro H
  iapply (load7 d L (rowOf t) 12 (by decide) (k0_off14_eq t)) $$ H7
  iintro H7
  iapply (scat8 d L (rowOf t) 12 (by decide) (stage_index 3264 t.val (by decide) ht) (piece_cast _) (fun h _ => h)) $$ H
  iintro H
  iapply (load7 d L (rowOf t) 13 (by decide) (k0_off15_eq t)) $$ H7
  iintro H7
  iapply (scat8 d L (rowOf t) 13 (by decide) (stage_index 3536 t.val (by decide) ht) (piece_cast _) (fun h _ => h)) $$ H
  iintro H
  iapply (load7 d L (rowOf t) 14 (by decide) (k0_off16_eq t)) $$ H7
  iintro H7
  iapply (scat8 d L (rowOf t) 14 (by decide) (stage_index 3808 t.val (by decide) ht) (piece_cast _) (fun h _ => h)) $$ H
  iintro H
  iapply (load7 d L (rowOf t) 15 (by decide) (k0_off17_eq t)) $$ H7
  iintro H7
  iapply (scat8 d L (rowOf t) 15 (by decide) (stage_index 4080 t.val (by decide) ht) (piece_cast _) (fun h _ => h)) $$ H
  iintro H
  iapply (load7 d L (rowOf t) 16 (by decide) (k0_off18_eq t)) $$ H7
  iintro H7
  iapply run_pure
  iapply (scat8 d L (rowOf t) 16 (by decide) (stage_index 4352 t.val (by decide) ht) (piece_cast _) (fun h _ => h)) $$ H
  iintro H
  iapply (load7 d L (rowOf t) 17 (by decide) (k0_off19_eq t)) $$ H7
  iintro H7
  iapply (scat8 d L (rowOf t) 17 (by decide) (stage_index 4624 t.val (by decide) ht) (piece_cast _) (fun h _ => h)) $$ H
  iintro H
  iapply (load7 d L (rowOf t) 18 (by decide) (k0_off20_eq t)) $$ H7
  iintro H7
  iapply (scat8 d L (rowOf t) 18 (by decide) (stage_index 4896 t.val (by decide) ht) (piece_cast _) (fun h _ => h)) $$ H
  iintro H
  iapply (load7 d L (rowOf t) 19 (by decide) (k0_off21_eq t)) $$ H7
  iintro H7
  iapply (scat8 d L (rowOf t) 19 (by decide) (stage_index 5168 t.val (by decide) ht) (piece_cast _) (fun h _ => h)) $$ H
  iintro H
  iapply run_pure
  isplitl [H]
  · unfold Rst
    icases H with ⟨%f, %hf, H⟩
    iexists f
    isplitr
    · ipureintro; exact hf.next
    · iexact H
  · iexact H7

end Cert.Tile
-- ==== Proof.Sums.lean ====
/-
  The distances: the second loop's sums of squares of the five windows, and the five loops over the tokens' words.
-/
module

public import proofs.«01_k».proof.Proof.Stage

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- A loop of the program, by an invariant. -/
theorem run_for {σ : Type} (l : Scf.Loop 32) (ok : l.OK) (init : σ)
    (body : Fin l.trips → σ → Prog (TpuEff nD τ sig (Elt F) Λ₀ (.scVector (cV L) (jV L))) σ) (I : ℕ → σ → sProp 𝕄)
    (hbody : ∀ (k : Fin l.trips) (acc : σ), I k acc ⊢ run d L (body k acc) (I (k.val + 1))) {Q : σ → sProp 𝕄} :
    I 0 init ⊢ iprop((∀ acc, I l.trips acc -∗ Q acc) -∗ run d L (Scf.Loop.for l ok init body) Q) := by
  iintro HI HQ
  iapply (Scf.wp_for frame (wpE (defs₀ (F := F)) 𝒱₀ (thr d L) none) Set.univ l.lb l.ub l.st ok init body I hbody)
  isplitl [HI] <;> iassumption

/-! ## The sums -/

/-- The first word of each token's window. -/
@[reducible] def SEG : Fin 5 → ℕ := ![0, 12, 25, 38, 51]

/-- The sum of the squares of `n` vectors. -/
def csum (g : ℕ → FVec F S16 .f32) : ℕ → FVec F S16 .f32
  | 0 => broadcast S16 (Scalar.ofBits .f32 0x00000000#32)
  | n + 1 => addf (csum g n) (mulf (g n) (g n))

/-- Word `i` of token `k`, in every lane. -/
def tokv (tok : Vec F S80 .f32) (k : Fin 5) (i : ℕ) : FVec F S16 .f32 := fun _ => tok (ix1 (Fin.ofNat 80 (8 + 13 * k.val + i)))

/-- The squares of the first `n` words of chunk `c`. -/
def pic2 (raw : Vec F S16x320 .f32) (c : Fin 5) (n : ℕ) : FVec F S16 .f32 := csum (fun i => col raw (64 * c.val + i)) n
/-- The squares of the first `n` words under token `k` in chunk `c`. -/
def gat2 (raw : Vec F S16x320 .f32) (c k : Fin 5) (n : ℕ) : FVec F S16 .f32 := csum (fun i => col raw (64 * c.val + SEG k + i)) n
/-- The squares of the first `n` words' differences from token `k` in chunk `c`. -/
def dif2 (raw : Vec F S16x320 .f32) (tok : Vec F S80 .f32) (c k : Fin 5) (n : ℕ) : FVec F S16 .f32 :=
  csum (fun i => subf (col raw (64 * c.val + SEG k + i)) (tokv tok k i)) n
/-- The distance of chunk `c` from token `k`. -/
def dist (raw : Vec F S16x320 .f32) (tok : Vec F S80 .f32) (c k : Fin 5) : FVec F S16 .f32 :=
  addf (subf (pic2 raw c 64) (gat2 raw c k 13)) (dif2 raw tok c k 13)

/-- The index vector of a gather of one word of the sixteen rows. -/
theorem col_index (c w t : ℕ) (hc : c = 17 * w) (hw : w < 400) (ht : t < 1000) (x : S16.Idx) :
    (addi (addi lanes (broadcast S16 (BitVec.ofNat 32 c))) (broadcast S16 (Scalar.muli (Scf.iv (w := 32) 0#32 1#32 t) 17#32)) x).toNat
      = (x 0).val + 17 * (w + t) := by
  rw [iv_eq, show (x 0).val + 17 * (w + t) = (x 0).val + c + 17 * t by omega]
  exact (congrArg (fun z : BitVec 32 => (z + BitVec.ofNat 32 c + BitVec.ofNat 32 t * 17#32).toNat) (lane_eq _ x)).trans
    (idx_col _ _ _ (x 0).isLt (by omega) ht)

/-- The index vector of a gather of one word of a token. -/
theorem tok_index (c t : ℕ) (hc : c < 1000) (ht : t < 1000) (x : S16.Idx) :
    (addi (broadcast S16 (BitVec.ofNat 32 c)) (broadcast S16 (Scf.iv (w := 32) 0#32 1#32 t)) x).toNat = c + t := by
  rw [iv_eq]
  show (BitVec.ofNat 32 c + BitVec.ofNat 32 t).toNat = c + t
  simp only [BitVec.toNat_add, BitVec.toNat_ofNat]
  omega

/-! ## The second loop -/

abbrev Five : Type := FVec F S16 .f32 × FVec F S16 .f32 × FVec F S16 .f32 × FVec F S16 .f32 × FVec F S16 .f32

/-- The five chunks' sums so far. -/
def picAcc (raw : Vec F S16x320 .f32) (n : ℕ) : Five (F := F) :=
  (pic2 raw 0 n, pic2 raw 1 n, pic2 raw 2 n, pic2 raw 3 n, pic2 raw 4 n)

/-- The trip of the loop over a chunk's words. -/
theorem pic_body {raw : Vec F S16x320 .f32} {f : Vec F S5440 .f32} (hf : Staged raw 16 0 f) (v1 : BitVec 32) (h1 : k0_cond1 L = 1#1)
    (t : Fin k0_t2_loop.trips) (acc : Five (F := F)) :
    iprop(pts8 d L f ∗ ⌜acc = picAcc raw t.val⌝) ⊢ run d L (k0_t2_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1 t acc)
      (fun acc' => iprop(pts8 d L f ∗ ⌜acc' = picAcc raw (t.val + 1)⌝)) := by
  have ht : t.val < 64 := t.isLt
  unfold k0_t2_body
  iintro ⟨H, %hacc⟩
  subst hacc
  iapply (gather8 d L hf (0 + t.val) (by omega) (col_index 0 0 t.val rfl (by omega) (by omega)) (fun h _ => h)) $$ H
  iintro H
  iapply (gather8 d L hf (64 + t.val) (by omega) (col_index 1088 64 t.val rfl (by omega) (by omega)) (fun h _ => h)) $$ H
  iintro H
  iapply (gather8 d L hf (128 + t.val) (by omega) (col_index 2176 128 t.val rfl (by omega) (by omega)) (fun h _ => h)) $$ H
  iintro H
  iapply (gather8 d L hf (192 + t.val) (by omega) (col_index 3264 192 t.val rfl (by omega) (by omega)) (fun h _ => h)) $$ H
  iintro H
  iapply (gather8 d L hf (256 + t.val) (by omega) (col_index 4352 256 t.val rfl (by omega) (by omega)) (fun h _ => h)) $$ H
  iintro H
  iapply run_pure
  isplitl [H]
  · iexact H
  · ipureintro; rfl

/-! ## The loops over the tokens -/

abbrev Ten : Type := FVec F S16 .f32 × FVec F S16 .f32 × FVec F S16 .f32 × FVec F S16 .f32 × FVec F S16 .f32 × FVec F S16 .f32
  × FVec F S16 .f32 × FVec F S16 .f32 × FVec F S16 .f32 × FVec F S16 .f32

/-- Token `k`'s sums so far, chunk by chunk. -/
def segAcc (raw : Vec F S16x320 .f32) (tok : Vec F S80 .f32) (k : Fin 5) (n : ℕ) : Ten (F := F) :=
  (gat2 raw 0 k n, dif2 raw tok 0 k n, gat2 raw 1 k n, dif2 raw tok 1 k n, gat2 raw 2 k n, dif2 raw tok 2 k n,
    gat2 raw 3 k n, dif2 raw tok 3 k n, gat2 raw 4 k n, dif2 raw tok 4 k n)

/-- One trip over a token's words, at any six index vectors. -/
def segBody (h1 : k0_cond1 L = 1#1) (u v w x y z : IVec S16 32) (acc : Ten (F := F)) :
    Prog (TpuEff nD τ sig (Elt F) Λ₀ (.scVector (cV L) (jV L))) (Ten (F := F)) := do
  let hu ← Prog.lift (TpuEff.assume (k0_chk26 L u) (k0_chk26.dec L u))
  let p ← SparseCore.vectorLoadIdx s9 ![u] (k0_idx26_inb L u hu.down h1) (View.loads_vmem h_S80)
  let hv ← Prog.lift (TpuEff.assume (k0_chk27 L v) (k0_chk27.dec L v))
  let a ← SparseCore.vectorLoadIdx s8 ![v] (k0_idx27_inb L v hv.down h1) (View.loads_vmem h_S5440)
  let hw ← Prog.lift (TpuEff.assume (k0_chk27 L w) (k0_chk27.dec L w))
  let b ← SparseCore.vectorLoadIdx s8 ![w] (k0_idx27_inb L w hw.down h1) (View.loads_vmem h_S5440)
  let hx ← Prog.lift (TpuEff.assume (k0_chk27 L x) (k0_chk27.dec L x))
  let c ← SparseCore.vectorLoadIdx s8 ![x] (k0_idx27_inb L x hx.down h1) (View.loads_vmem h_S5440)
  let hy ← Prog.lift (TpuEff.assume (k0_chk27 L y) (k0_chk27.dec L y))
  let e ← SparseCore.vectorLoadIdx s8 ![y] (k0_idx27_inb L y hy.down h1) (View.loads_vmem h_S5440)
  let hz ← Prog.lift (TpuEff.assume (k0_chk27 L z) (k0_chk27.dec L z))
  let g ← SparseCore.vectorLoadIdx s8 ![z] (k0_idx27_inb L z hz.down h1) (View.loads_vmem h_S5440)
  let step (s q : FVec F S16 .f32) : FVec F S16 .f32 := addf s (mulf q q)
  pure (step acc.1 a, step acc.2.1 (subf a p), step acc.2.2.1 b, step acc.2.2.2.1 (subf b p),
    step acc.2.2.2.2.1 c, step acc.2.2.2.2.2.1 (subf c p), step acc.2.2.2.2.2.2.1 e, step acc.2.2.2.2.2.2.2.1 (subf e p),
    step acc.2.2.2.2.2.2.2.2.1 g, step acc.2.2.2.2.2.2.2.2.2 (subf g p))

/-- One trip over a token's words adds one square to each of the ten sums. -/
theorem seg_step {raw : Vec F S16x320 .f32} {f : Vec F S5440 .f32} (hf : Staged raw 16 0 f) {tok : Vec F S80 .f32} (h1 : k0_cond1 L = 1#1)
    (k : Fin 5) (t : ℕ) (ht : t < 13) {u v w x y z : IVec S16 32} (hu : ∀ i : S16.Idx, (u i).toNat = 8 + 13 * k.val + t)
    (hv : ∀ i : S16.Idx, (v i).toNat = (i 0).val + 17 * (64 * 0 + SEG k + t)) (hw : ∀ i : S16.Idx, (w i).toNat = (i 0).val + 17 * (64 * 1 + SEG k + t))
    (hx : ∀ i : S16.Idx, (x i).toNat = (i 0).val + 17 * (64 * 2 + SEG k + t)) (hy : ∀ i : S16.Idx, (y i).toNat = (i 0).val + 17 * (64 * 3 + SEG k + t))
    (hz : ∀ i : S16.Idx, (z i).toNat = (i 0).val + 17 * (64 * 4 + SEG k + t)) :
    iprop(pts8 d L f ∗ pts9 d L tok) ⊢ run d L (segBody L h1 u v w x y z (segAcc raw tok k t))
      (fun acc' => iprop(pts8 d L f ∗ pts9 d L tok ∗ ⌜acc' = segAcc raw tok k (t + 1)⌝)) := by
  have hk : k.val < 5 := k.isLt
  have hS : SEG k ≤ 51 := (show ∀ k : Fin 5, SEG k ≤ 51 by decide) k
  unfold segBody
  iintro ⟨H, H9⟩
  iapply (gather9 d L (tokv tok k t) (fun i => by rw [hu]; omega) (fun i j hj => congrArg tok (funext fun a => by
    obtain rfl : a = 0 := Fin.eq_zero a
    apply Fin.ext
    show (j 0).val = (8 + 13 * k.val + t) % 80
    rw [hj, hu]; omega)) (fun h _ => h)) $$ H9
  iintro H9
  iapply (gather8 d L hf (64 * 0 + SEG k + t) (by omega) hv (fun h _ => h)) $$ H
  iintro H
  iapply (gather8 d L hf (64 * 1 + SEG k + t) (by omega) hw (fun h _ => h)) $$ H
  iintro H
  iapply (gather8 d L hf (64 * 2 + SEG k + t) (by omega) hx (fun h _ => h)) $$ H
  iintro H
  iapply (gather8 d L hf (64 * 3 + SEG k + t) (by omega) hy (fun h _ => h)) $$ H
  iintro H
  iapply (gather8 d L hf (64 * 4 + SEG k + t) (by omega) hz (fun h _ => h)) $$ H
  iintro H
  iapply run_pure
  isplitl [H]
  · iexact H
  isplitl [H9]
  · iexact H9
  · ipureintro; rfl

/-- The loop over a token's words: a loop whose trips are `segBody`'s, at index vectors that name the token's word and the five
    chunks' words under it, leaves the token's ten sums. -/
theorem seg_loop {raw : Vec F S16x320 .f32} {f : Vec F S5440 .f32} (hf : Staged raw 16 0 f) {tok : Vec F S80 .f32} (h1 : k0_cond1 L = 1#1)
    (k : Fin 5) (l : Scf.Loop 32) (ok : l.OK) (hl : l.trips = 13)
    (body : Fin l.trips → Ten (F := F) → Prog (TpuEff nD τ sig (Elt F) Λ₀ (.scVector (cV L) (jV L))) (Ten (F := F)))
    (u v w x y z : Fin l.trips → IVec S16 32) (e : ∀ t acc, body t acc = segBody L h1 (u t) (v t) (w t) (x t) (y t) (z t) acc)
    (hu : ∀ t, t.val < 1000 → ∀ i : S16.Idx, (u t i).toNat = 8 + 13 * k.val + t.val)
    (hv : ∀ t, t.val < 1000 → ∀ i : S16.Idx, (v t i).toNat = (i 0).val + 17 * (64 * 0 + SEG k + t.val))
    (hw : ∀ t, t.val < 1000 → ∀ i : S16.Idx, (w t i).toNat = (i 0).val + 17 * (64 * 1 + SEG k + t.val))
    (hx : ∀ t, t.val < 1000 → ∀ i : S16.Idx, (x t i).toNat = (i 0).val + 17 * (64 * 2 + SEG k + t.val))
    (hy : ∀ t, t.val < 1000 → ∀ i : S16.Idx, (y t i).toNat = (i 0).val + 17 * (64 * 3 + SEG k + t.val))
    (hz : ∀ t, t.val < 1000 → ∀ i : S16.Idx, (z t i).toNat = (i 0).val + 17 * (64 * 4 + SEG k + t.val))
    {Q : Ten (F := F) → sProp 𝕄} :
    iprop(pts8 d L f ∗ pts9 d L tok)
      ⊢ iprop((pts8 d L f -∗ pts9 d L tok -∗ Q (segAcc raw tok k 13)) -∗ run d L (Scf.Loop.for l ok (segAcc raw tok k 0) body) Q) := by
  have trip : ∀ (t : Fin l.trips) (acc : Ten (F := F)), iprop(pts8 d L f ∗ pts9 d L tok ∗ ⌜acc = segAcc raw tok k t.val⌝)
      ⊢ run d L (body t acc) (fun acc' => iprop(pts8 d L f ∗ pts9 d L tok ∗ ⌜acc' = segAcc raw tok k (t.val + 1)⌝)) := by
    intro t acc
    have ht : t.val < 13 := lt_of_lt_of_eq t.isLt hl
    have ht' : t.val < 1000 := lt_trans ht (by decide)
    rw [e]
    iintro ⟨H, H9, %hacc⟩
    subst hacc
    iapply (seg_step d L hf h1 k t.val ht (hu t ht') (hv t ht') (hw t ht') (hx t ht') (hy t ht') (hz t ht'))
    isplitl [H] <;> iassumption
  iintro ⟨H8, H9⟩ HQ
  iapply (run_for d L l ok _ _ (fun n acc => iprop(pts8 d L f ∗ pts9 d L tok ∗ ⌜acc = segAcc raw tok k n⌝)) trip) $$ [H8 H9]
  · isplitl [H8]
    · iexact H8
    isplitl [H9]
    · iexact H9
    · ipureintro; rfl
  · iintro %acc ⟨H8, H9, %hacc⟩
    obtain rfl : acc = segAcc raw tok k 13 := hacc.trans (congrArg (segAcc raw tok k) hl)
    iapply HQ $$ H8 H9

end Cert.Tile
-- ==== Proof.Rounds.lean ====
/-
  The five rounds: in each lane the least of the twenty-five distances is found, its token assigned to its chunk, and both taken out.
-/
module

public import proofs.«01_k».proof.Proof.Sums

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-! ## One lane -/

/-- Of two candidates the first, unless the second's distance is less. -/
def least (p q : F .f32 × BitVec 32) : F .f32 × BitVec 32 :=
  (Scalar.select (FloatOps.cmpf .olt q.1 p.1) q.1 p.1, Scalar.select (FloatOps.cmpf .olt q.1 p.1) q.2 p.2)

/-- The candidate of one pair of chunk and token. -/
abbrev cand (D : Fin 25 → F .f32) (i : Fin 25) : F .f32 × BitVec 32 := (D i, BitVec.ofNat 32 i.val)

/-- The first of the least distances, by halves. -/
def best (D : Fin 25 → F .f32) : F .f32 × BitVec 32 :=
  least
    (least
      (least (least (least (cand D 0) (cand D 1)) (least (cand D 2) (cand D 3))) (least (least (cand D 4) (cand D 5)) (least (cand D 6) (cand D 7))))
      (least (least (least (cand D 8) (cand D 9)) (least (cand D 10) (cand D 11))) (least (least (cand D 12) (cand D 13)) (least (cand D 14) (cand D 15)))))
    (least
      (least (least (least (cand D 16) (cand D 17)) (least (cand D 18) (cand D 19))) (least (least (cand D 20) (cand D 21)) (least (cand D 22) (cand D 23))))
      (cand D 24))

/-- The chunk of a candidate's number: its quotient by five, rounded down. -/
def chunkOf (f : BitVec 32) : BitVec 32 :=
  Scalar.select
    (IntOp.andi
      (IntOp.cmpi .ne (IntOp.subi (BitVec.setWidth 32 (IntOp.cmpi .sgt f 0#32)) (BitVec.setWidth 32 (IntOp.cmpi .slt f 0#32)))
        (Scalar.subi (Scalar.extui (Scalar.cmpi .sgt 5#32 0#32)) (Scalar.extui (Scalar.cmpi .slt 5#32 0#32))))
      (IntOp.cmpi .ne (IntOp.remsi .vector f 5#32) 0#32))
    (IntOp.subi (IntOp.divsi .vector f 5#32) 1#32) (IntOp.divsi .vector f 5#32)

/-- The token of a candidate's number: the remainder. -/
def tokenOf (f : BitVec 32) : BitVec 32 := IntOp.subi f (IntOp.muli 5#32 (chunkOf f))

/-- A distance after a round: infinite once its chunk or its token is taken. -/
def retire (f : BitVec 32) (i : Fin 25) (v : F .f32) : F .f32 :=
  Scalar.select (IntOp.ori (IntOp.cmpi .eq (chunkOf f) (BitVec.ofNat 32 (i.val / 5))) (IntOp.cmpi .eq (tokenOf f) (BitVec.ofNat 32 (i.val % 5))))
    (Scalar.ofBits .f32 0x7F800000#32) v

/-- An assignment after a round: the token, if the chunk is this one. -/
def assign (f : BitVec 32) (c : Fin 5) (a : BitVec 32) : BitVec 32 :=
  Scalar.select (IntOp.cmpi .eq (chunkOf f) (BitVec.ofNat 32 c.val)) (tokenOf f) a

/-- The distances and the assignments after `n` rounds. -/
def rounds (D : Fin 25 → F .f32) : ℕ → (Fin 25 → F .f32) × (Fin 5 → BitVec 32)
  | 0 => (D, fun _ => 0#32)
  | n + 1 =>
    (fun i => retire (best (rounds D n).1).2 i ((rounds D n).1 i), fun c => assign (best (rounds D n).1).2 c ((rounds D n).2 c))

/-- A choice of two is one of them. -/
theorem least_cand (p q : F .f32 × BitVec 32) : (least p q).2 = p.2 ∨ (least p q).2 = q.2 := by
  unfold least Scalar.select
  by_cases h : FloatOps.cmpf .olt q.1 p.1 = 1
  · right; exact if_pos h
  · left; exact if_neg h

/-- The candidate found is one of the twenty-five. -/
theorem best_lt (D : Fin 25 → F .f32) : ∃ i : Fin 25, (best D).2 = BitVec.ofNat 32 i.val := by
  have step : ∀ p q : F .f32 × BitVec 32, (∃ i : Fin 25, p.2 = BitVec.ofNat 32 i.val) → (∃ i : Fin 25, q.2 = BitVec.ofNat 32 i.val) →
      ∃ i : Fin 25, (least p q).2 = BitVec.ofNat 32 i.val := fun p q hp hq => by
    rcases least_cand p q with h | h <;> rw [h] <;> assumption
  have c : ∀ i : Fin 25, ∃ j : Fin 25, (cand D i).2 = BitVec.ofNat 32 j.val := fun i => ⟨i, rfl⟩
  unfold best
  repeat' apply step
  all_goals apply c

/-- The chunk that a pair's number names. -/
theorem chunkOf_ofNat (i : Fin 25) : chunkOf (BitVec.ofNat 32 i.val) = BitVec.ofNat 32 (i.val / 5) := by
  revert i; decide

/-- The token that it names. -/
theorem tokenOf_ofNat (i : Fin 25) : tokenOf (BitVec.ofNat 32 i.val) = BitVec.ofNat 32 (i.val % 5) := by
  revert i; decide

/-- An assignment is the number of a token. -/
theorem rounds_lt (D : Fin 25 → F .f32) (n : ℕ) (c : Fin 5) : ∃ k : Fin 5, (rounds D n).2 c = BitVec.ofNat 32 k.val := by
  induction n with
  | zero => exact ⟨0, rfl⟩
  | succ n ih =>
    obtain ⟨i, hi⟩ := best_lt (rounds D n).1
    show ∃ k : Fin 5, assign (best (rounds D n).1).2 c ((rounds D n).2 c) = _
    unfold assign Scalar.select
    split
    · exact ⟨⟨i.val % 5, Nat.mod_lt _ (by decide)⟩, by rw [hi, tokenOf_ofNat]⟩
    · exact ih

/-! ## The lanes together -/

abbrev Thirty : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × IVec S16 32 × IVec S16 32 × IVec S16 32 × IVec S16 32 × IVec S16 32

/-- The loop's carried values, from a distance and an assignment per lane. -/
def pack (D : Fin 25 → FVec F S16 .f32) (A : Fin 5 → IVec S16 32) : Thirty (F := F) :=
  (D 0, D 1, D 2, D 3, D 4, D 5, D 6, D 7, D 8, D 9, D 10, D 11, D 12, D 13, D 14, D 15, D 16, D 17, D 18, D 19, D 20, D 21, D 22, D 23, D 24, A 0, A 1, A 2, A 3, A 4)

/-- The lanes' distances and assignments after `n` rounds. -/
def roundsV (D : Fin 25 → FVec F S16 .f32) (n : ℕ) : Thirty (F := F) :=
  pack (fun i x => (rounds (fun i => D i x) n).1 i) (fun c x => (rounds (fun i => D i x) n).2 c)

set_option maxHeartbeats 4000000 in
/-- A trip of the rounds' loop, as one round in every lane. -/
theorem round_body (h1 : k0_cond1 L = 1#1) (v35 v37 v39 v41 v43 v47 v49 v51 v53 v55 v59 v61 v63 v65 v67 v71 v73 v75 v77 v79 v83 v85 v87 v89 v91 : FVec F S16 .f32) (D : Fin 25 → FVec F S16 .f32) (A : Fin 5 → IVec S16 32)
    (t : Fin k0_t8_loop.trips) :
    k0_t8_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3
      lanes h1 v35 v37 v39 v41 v43 v47 v49 v51 v53 v55 v59 v61 v63 v65 v67 v71 v73 v75 v77 v79 v83 v85 v87 v89 v91 (k0_pay286 (F := F)) k0_pay287 k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305 k0_pay306 20#32 t (pack D A)
      = pure (pack (fun i x => retire (best (fun i => D i x)).2 i (D i x)) (fun c x => assign (best (fun i => D i x)).2 c (A c x))) := rfl

end Cert.Tile
-- ==== Proof.Emit.lean ====
/-
  The emission: each row is filled with zeros and the five assigned tokens are scattered into their windows.
-/
module

public import proofs.«01_k».proof.Proof.Rounds

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-! ## What the output rows hold -/

/-- The zero the rows are filled with. -/
abbrev zf : F .f32 := Scalar.ofBits .f32 0x00000000#32

/-- Word `w` of a row whose chunks are assigned the tokens `a`. -/
def rowOut (tok : Vec F S80 .f32) (a : Fin 5 → BitVec 32) (w : Fin 320) : F .f32 :=
  if SEG ⟨w.val / 64, by omega⟩ ≤ w.val % 64 ∧ w.val % 64 < SEG ⟨w.val / 64, by omega⟩ + 13
  then tok (ix1 (Fin.ofNat 80 ((a ⟨w.val / 64, by omega⟩).toNat * 13 + 8 + (w.val % 64 - SEG ⟨w.val / 64, by omega⟩))))
  else zf

/-- An element of the sixteen rows, from the lanes' assignments. -/
def rowsOut (tok : Vec F S80 .f32) (A : Fin 5 → IVec S16 32) : Vec F S16x320 .f32 :=
  fun y => rowOut tok (fun c => A c (ix1 (y 0))) (y 1)

/-- The rows before `l` are done; of row `l` the words before `16 k` are done in the chunks before `c`, and zero in the others. -/
def Emitted (tok : Vec F S80 .f32) (A : Fin 5 → IVec S16 32) (l k c : ℕ) (f : Vec F S16x320 .f32) : Prop :=
  ∀ y : S16x320.Idx, ((y 0).val < l → f y = rowsOut tok A y)
    ∧ ((y 0).val = l → (y 1).val < 16 * k → f y = if (y 1).val / 64 < c then rowsOut tok A y else zf)

/-- Every window ends within its chunk. -/
theorem SEG_le : ∀ c : Fin 5, SEG c + 13 ≤ 64 := by decide

/-- A row that is done: the next begins. -/
theorem Emitted.next {tok : Vec F S80 .f32} {A : Fin 5 → IVec S16 32} {l : ℕ} {f : Vec F S16x320 .f32} (h : Emitted tok A l 20 5 f) :
    Emitted tok A (l + 1) 0 0 f := by
  intro y
  have hy : (y 1).val < 320 := (y 1).isLt
  refine ⟨fun h0 => ?_, fun _ h1 => absurd h1 (by omega)⟩
  rcases Nat.lt_succ_iff_lt_or_eq.1 h0 with h0 | h0
  · exact (h y).1 h0
  · rw [(h y).2 h0 (by omega), if_pos (by omega)]

/-- Sixteen zeros stored. -/
theorem Emitted.zero {tok : Vec F S80 .f32} {A : Fin 5 → IVec S16 32} {l : Fin 16} {wb : ℕ} (hwb : wb < 20) {f : Vec F S16x320 .f32}
    (h : Emitted tok A l wb 0 f) {off : Fin 2 → ℕ} (hoff : off = ![l.val, 16 * wb]) (inb : ∀ a, off a + S1x16.size a ≤ S16x320.size a) :
    Emitted tok A l (wb + 1) 0
      (((s11).access (Rect.unit (s := S16x320) off S1x16.size inb)).write (Elt F) f (fun _ : S1x16.Idx => (zf : F .f32)) Finset.univ) := by
  intro y
  have hy : (y 1).val < 320 := (y 1).isLt
  by_cases hm : (y 0).val = l ∧ 16 * wb ≤ (y 1).val ∧ (y 1).val < 16 * wb + 16
  · obtain ⟨h0, h1, h2⟩ := hm
    refine ⟨fun h3 => absurd h3 (by omega), fun _ _ => ?_⟩
    rw [if_neg (by omega)]
    have e : (Rect.unit (s := S16x320) off S1x16.size inb).emb (ix2 (0 : Fin 1) (⟨(y 1).val - 16 * wb, by omega⟩ : Fin 16)) = y := by
      rw [piece_emb (l := l) hwb hoff inb]
      funext a
      apply Fin.ext
      match a with
      | ⟨0, _⟩ => exact h0.symm
      | ⟨1, _⟩ =>
        show (16 * wb + ((y 1).val - 16 * wb)) % 320 = (y 1).val
        omega
    have w := View.write_emb_of_mem (v := (s11).access (Rect.unit (s := S16x320) off S1x16.size inb)) (Val := Elt F) f (fun _ : S1x16.Idx => (zf : F .f32))
      (Finset.mem_univ (ix2 (0 : Fin 1) (⟨(y 1).val - 16 * wb, by omega⟩ : Fin 16)))
    exact (congrArg _ e.symm).trans w
  · rw [View.write_of_not_mem]
    · exact ⟨(h y).1, fun h0 h1 => (h y).2 h0 (by omega)⟩
    · intro hx
      obtain ⟨x, _, hx⟩ := Finset.mem_map.1 hx
      have hx : (Rect.unit (s := S16x320) off S1x16.size inb).emb x = y := hx
      rw [piece_emb (l := l) hwb hoff inb] at hx
      have x1 : (x 1).val < 16 := (x 1).isLt
      have e0 : l.val = (y 0).val := congrArg (fun z : S16x320.Idx => (z 0).val) hx
      have e1 : (16 * wb + (x 1).val) % 320 = (y 1).val := congrArg (fun z : S16x320.Idx => (z 1).val) hx
      omega

/-- One token scattered. -/
theorem Emitted.seg {tok : Vec F S80 .f32} {A : Fin 5 → IVec S16 32} {l : Fin 16} {c : Fin 5} {f : Vec F S16x320 .f32}
    (h : Emitted tok A l 20 c f) {u v : IVec S16 32} (hu : ∀ x, (u x).toNat = l.val) (hv : ∀ x : S16.Idx, (v x).toNat = min ((x 0).val + (64 * c.val + SEG c)) 319)
    {mask : IVec S16 1} (hmask : ∀ x : S16.Idx, mask x = 1 ↔ (x 0).val < 13) {p : Vec F S16 .f32}
    (hp : ∀ x : S16.Idx, p x = tok (ix1 (Fin.ofNat 80 ((A c (ix1 l)).toNat * 13 + 8 + (x 0).val))))
    (hin : ∀ a x, ((![u, v] : Fin 2 → IVec S16 32) a x).toNat < S16x320.size a) :
    Emitted tok A l 20 (c + 1) (storeIdx f ![u, v] p mask false hin) := by
  intro y
  have hy : (y 1).val < 320 := (y 1).isLt
  have hs := SEG_le c
  have key : ∀ x : S16.Idx, idxAt (s := S16x320) ![u, v] hin x = y → (y 0).val = l.val ∧ (y 1).val = min ((x 0).val + (64 * c.val + SEG c)) 319 := by
    intro x hx
    have e0 : (u x).toNat = (y 0).val := congrArg (fun z : S16x320.Idx => (z 0).val) hx
    have e1 : (v x).toNat = (y 1).val := congrArg (fun z : S16x320.Idx => (z 1).val) hx
    rw [hu] at e0; rw [hv] at e1
    exact ⟨e0.symm, e1.symm⟩
  by_cases hm : (y 0).val = l ∧ 64 * c.val + SEG c ≤ (y 1).val ∧ (y 1).val < 64 * c.val + SEG c + 13
  · obtain ⟨h0, h1, h2⟩ := hm
    have hc : (⟨(y 1).val / 64, by omega⟩ : Fin 5) = c := Fin.ext (by show (y 1).val / 64 = c.val; omega)
    refine ⟨fun h3 => absurd h3 (by omega), fun _ _ => ?_⟩
    rw [if_pos (by omega)]
    have hx16 : (y 1).val - (64 * c.val + SEG c) < 16 := by omega
    refine (storeIdx_hit f ![u, v] p mask hin y (ix1 ⟨(y 1).val - (64 * c.val + SEG c), hx16⟩) ((hmask _).2 ?_) ?_ ?_).trans ?_
    · show (y 1).val - (64 * c.val + SEG c) < 13; omega
    · funext a
      apply Fin.ext
      match a with
      | ⟨0, _⟩ => exact (hu _).trans h0.symm
      | ⟨1, _⟩ =>
        refine (hv _).trans ?_
        show min ((y 1).val - (64 * c.val + SEG c) + (64 * c.val + SEG c)) 319 = (y 1).val
        omega
    · intro x' hm' hx'
      have hm' := (hmask x').1 hm'
      have : x' = ix1 ⟨(y 1).val - (64 * c.val + SEG c), hx16⟩ := funext fun a => by
        obtain rfl : a = 0 := Fin.eq_zero a
        have := (key x' hx').2
        refine Fin.ext ?_
        show (x' 0).val = (y 1).val - (64 * c.val + SEG c)
        omega
      rw [this]
    · have hl : l = y 0 := Fin.ext h0.symm
      rw [hp]
      unfold rowsOut rowOut
      rw [hc, if_pos (by omega), hl]
      refine congrArg tok (congrArg ix1 (congrArg (Fin.ofNat 80) ?_))
      show _ + 8 + ((y 1).val - (64 * c.val + SEG c)) = _
      have : (y 1).val % 64 - SEG c = (y 1).val - (64 * c.val + SEG c) := by omega
      rw [this]
  · rw [storeIdx_miss f ![u, v] p mask hin y ?_]
    · refine ⟨(h y).1, fun h0 h1 => ?_⟩
      rw [(h y).2 h0 h1]
      by_cases hc : (y 1).val / 64 = c.val
      · have hc' : (⟨(y 1).val / 64, by omega⟩ : Fin 5) = c := Fin.ext hc
        rw [if_neg (by omega), if_pos (by omega)]
        unfold rowsOut rowOut
        rw [hc', if_neg (by omega)]
      · by_cases hlt : (y 1).val / 64 < c.val
        · rw [if_pos hlt, if_pos (by omega)]
        · rw [if_neg hlt, if_neg (by omega)]
    · intro x hx1 hx
      have := key x hx
      have := (hmask x).1 hx1
      omega

/-! ## The steps on the output rows -/

/-- The output rows, done so far. -/
def Ost (tok : Vec F S80 .f32) (A : Fin 5 → IVec S16 32) (l k c : ℕ) : sProp 𝕄 := iprop(∃ f, ⌜Emitted tok A l k c f⌝ ∗ pts11 d L f)

/-- A load whose result is not used. -/
theorem load11 {tok : Vec F S80 .f32} {A : Fin 5 → IVec S16 32} {l k₀ c : ℕ} {α : Type} {off : Fin 2 → ℕ}
    {inb : ∀ a, off a + S1x16.size a ≤ S16x320.size a}
    {hl : (s11).view.LoadsAt (Rect.unit (s := S16x320) off S1x16.size inb).toLoadRect}
    {k : Vec F S1x16 .f32 → Prog (TpuEff nD τ sig (Elt F) Λ₀ (.scVector (cV L) (jV L))) α} {Q : α → sProp 𝕄} :
    Ost d L tok A l k₀ c ⊢ iprop((∀ z, Ost d L tok A l k₀ c -∗ run d L (k z) Q)
      -∗ run d L (Prog.lift (.load s11 (Rect.unit (s := S16x320) off S1x16.size inb).toLoadRect hl) >>= k) Q) := by
  rw [Prog.bind_lift]
  unfold Ost
  iintro ⟨%f, %hf, H⟩ HK
  have key := wp_load_rect (defs := defs₀ (F := F)) 𝒱₀ (thr d L) none Set.univ (m := s11) (Γ := .empty) (hl := hl) (k := k) (Q := Q) (q := fullShare) (f := f) (Finset.subset_univ _)
  iapply key $$ H
  iintro H
  iapply HK
  iexists f
  isplitr
  · ipureintro; exact hf
  · iexact H

/-- The store of sixteen zeros into a row. -/
theorem zero11 {tok : Vec F S80 .f32} {A : Fin 5 → IVec S16 32} (l : Fin 16) (wb : ℕ) (hwb : wb < 20) {α : Type} {off : Fin 2 → ℕ} (hoff : off = ![l.val, 16 * wb])
    {inb : ∀ a, off a + S1x16.size a ≤ S16x320.size a} {w : Vec F S1x16 .f32} (hw : w = fun _ => zf)
    {hx : ((s11).access (Rect.unit (s := S16x320) off S1x16.size inb)).Stores Finset.univ}
    {hm : (Finset.univ : Finset S1x16.Idx) = Finset.univ ∨ ∀ a, (Rect.unit (s := S16x320) off S1x16.size inb).stride a = 1}
    {k : PUnit → Prog (TpuEff nD τ sig (Elt F) Λ₀ (.scVector (cV L) (jV L))) α} {Q : α → sProp 𝕄} :
    Ost d L tok A l wb 0 ⊢ iprop((Ost d L tok A l (wb + 1) 0 -∗ run d L (k ⟨⟩) Q)
      -∗ run d L (Prog.lift (.store s11 (Rect.unit (s := S16x320) off S1x16.size inb) w Finset.univ hx hm) >>= k) Q) := by
  subst hw
  rw [Prog.bind_lift]
  unfold Ost
  iintro ⟨%f, %hf, H⟩ HK
  have key := wp_store (defs := defs₀ (F := F)) 𝒱₀ (thr d L) none Set.univ (m := s11) (Γ := .empty) (hx := hx) (hm := hm) (w := fun _ => zf) (k := k) (Q := Q) (f := f) (Finset.subset_univ _)
  iapply key $$ H
  iintro H
  iapply HK
  iexists _
  isplitr
  · ipureintro; exact hf.zero hwb hoff inb
  · iexact H

/-- The masked store of a token onto its chunk's window. -/
theorem seg11 {tok : Vec F S80 .f32} {A : Fin 5 → IVec S16 32} (l : Fin 16) (c : Fin 5) {w n : ℕ} (hw : w = 20) (hn : n = c.val) {α : Type}
    {u v : IVec S16 32} (hu : ∀ x, (u x).toNat = l.val) (hv : ∀ x : S16.Idx, (v x).toNat = min ((x 0).val + (64 * c.val + SEG c)) 319)
    {mask : IVec S16 1} (hmask : ∀ x : S16.Idx, mask x = 1 ↔ (x 0).val < 13) {p : Vec F S16 .f32}
    (hp : ∀ x : S16.Idx, p x = tok (ix1 (Fin.ofNat 80 ((A c (ix1 l)).toNat * 13 + 8 + (x 0).val)))) {P : Prop} {dec : Decidable P}
    (hP : (∀ a x, ((![u, v] : Fin 2 → IVec S16 32) a x).toNat < S16x320.size a) → P)
    {inb : PLift P → ∀ a x, ((![u, v] : Fin 2 → IVec S16 32) a x).toNat < S16x320.size a} {hs : ((s11).access (.whole S16x320)).Stores Finset.univ}
    {k : PUnit → Prog (TpuEff nD τ sig (Elt F) Λ₀ (.scVector (cV L) (jV L))) α} {Q : α → sProp 𝕄} :
    Ost d L tok A l w n ⊢ iprop((Ost d L tok A l w (n + 1) -∗ run d L (k ⟨⟩) Q)
      -∗ run d L (Prog.lift (TpuEff.assume P dec) >>= fun x => SparseCore.vectorStoreIdx s11 ![u, v] p mask false (inb x) hs >>= k) Q) := by
  subst hw hn
  have hin : ∀ a x, ((![u, v] : Fin 2 → IVec S16 32) a x).toNat < S16x320.size a := by
    intro a x
    have hx0 : (x 0).val < 16 := (x 0).isLt
    have hs := SEG_le c
    have hc := c.isLt
    match a with
    | ⟨0, _⟩ => show (u x).toNat < 16; rw [hu]; exact l.isLt
    | ⟨1, _⟩ => show (v x).toNat < 320; rw [hv]; omega
  unfold Ost
  iintro ⟨%f, %hf, H⟩ HK
  have e : ((s11).access (.whole (Ref.ty cc0_scratch6).shape)).write (Elt F) f
      (storeIdx (((s11).access (.whole (Ref.ty cc0_scratch6).shape)).read (Elt F) f) ![u, v] p mask false hin) Finset.univ
      = storeIdx (F := F) (s := S16x320) (e := .f32) f ![u, v] p mask false hin := by
    rw [Memref.write_access_whole_univ, Memref.read_access_whole]
  iapply (scatter d L (base := s11) (idxs := ![u, v]) (f := f) hin (hP hin) (by simp)) $$ H
  rw [e]
  iintro H
  iapply HK
  iexists (storeIdx (F := F) (s := S16x320) (e := .f32) f ![u, v] p mask false hin)
  isplitr
  · ipureintro; exact hf.seg hu hv hmask hp hin
  · iexact H

/-! ## The assignments' scratch -/

/-- The first `n` chunks' assignments are in place. -/
def Assigned (A : Fin 5 → IVec S16 32) (n : ℕ) (f : Vec F S88 .i32) : Prop :=
  ∀ (c : Fin 5) (x : Fin 16) (j : S88.Idx), c.val < n → (j 0).val = 8 + 16 * c.val + x.val → f j = A c (ix1 x)

/-- One chunk's assignments scattered. -/
theorem Assigned.step {A : Fin 5 → IVec S16 32} {c : Fin 5} {f : Vec F S88 .i32} (hf : Assigned (F := F) A c f) {v : IVec S16 32}
    (hv : ∀ x : S16.Idx, (v x).toNat = (x 0).val + (8 + 16 * c.val)) (h : ∀ a x, ((![v] : Fin 1 → IVec S16 32) a x).toNat < S88.size a) :
    Assigned (F := F) A (c + 1) (storeIdx (F := F) (e := .i32) f ![v] (A c) (fun _ => 1#1) false h) := by
  intro c' x j hc' hj
  have key : ∀ x' : S16.Idx, idxAt (s := S88) ![v] h x' = j → (x' 0).val + (8 + 16 * c.val) = (j 0).val := by
    intro x' hx'
    have h3 : (v x').toNat = (j 0).val := congrArg (fun z : S88.Idx => (z 0).val) hx'
    rwa [hv] at h3
  have hx := x.isLt
  by_cases hc : c' = c
  · subst hc
    refine storeIdx_hit (F := F) (e := .i32) f ![v] (A c') (fun _ => 1#1) h j (ix1 x) rfl ?_ ?_
    · funext a
      obtain rfl : a = 0 := Fin.eq_zero a
      refine Fin.ext ((hv _).trans ?_)
      show x.val + (8 + 16 * c'.val) = (j 0).val
      omega
    · intro x' _ hx'
      have : x' = ix1 x := funext fun a => by
        obtain rfl : a = 0 := Fin.eq_zero a
        have := key x' hx'
        refine Fin.ext ?_
        show (x' 0).val = x.val
        omega
      rw [this]
  · have hne : c'.val ≠ c.val := fun e => hc (Fin.ext e)
    rw [storeIdx_miss (F := F) (e := .i32) f ![v] (A c) (fun _ => 1#1) h j ?_]
    · exact hf c' x j (by omega) hj
    · intro x' _ hx'
      have := key x' hx'
      have hx0 : (x' 0).val < 16 := (x' 0).isLt
      omega

/-- The assignments' scratch, filled so far. -/
def Ast (A : Fin 5 → IVec S16 32) (n : ℕ) : sProp 𝕄 := iprop(∃ f, ⌜Assigned (F := F) A n f⌝ ∗ pts10 d L f)

/-- The store of one chunk's assignment, for the sixteen rows. -/
theorem put10 {A : Fin 5 → IVec S16 32} (c : Fin 5) {n : ℕ} (hn : n = c.val) {α : Type} {v : IVec S16 32}
    (hv : ∀ x : S16.Idx, (v x).toNat = (x 0).val + (8 + 16 * c.val)) {P : Prop} {dec : Decidable P}
    (hP : (∀ a x, ((![v] : Fin 1 → IVec S16 32) a x).toNat < S88.size a) → P)
    {inb : PLift P → ∀ a x, ((![v] : Fin 1 → IVec S16 32) a x).toNat < S88.size a} {hs : ((s10).access (.whole S88)).Stores Finset.univ}
    {k : PUnit → Prog (TpuEff nD τ sig (Elt F) Λ₀ (.scVector (cV L) (jV L))) α} {Q : α → sProp 𝕄} :
    Ast d L (F := F) A n ⊢ iprop((Ast d L (F := F) A (n + 1) -∗ run d L (k ⟨⟩) Q)
      -∗ run d L (Prog.lift (TpuEff.assume P dec) >>= fun x => SparseCore.vectorStoreIdx (F := F) s10 ![v] (A c) (fun _ => 1#1) false (inb x) hs >>= k) Q) := by
  subst hn
  have hin : ∀ a x, ((![v] : Fin 1 → IVec S16 32) a x).toNat < S88.size a := by
    intro a x
    obtain rfl : a = 0 := Fin.eq_zero a
    have hx0 : (x 0).val < 16 := (x 0).isLt
    show (v x).toNat < 88
    rw [hv]; omega
  unfold Ast
  iintro ⟨%f, %hf, H⟩ HK
  have e : ((s10).access (.whole (Ref.ty cc0_scratch5).shape)).write (Elt F) f
      (storeIdx (F := F) (e := .i32) (((s10).access (.whole (Ref.ty cc0_scratch5).shape)).read (Elt F) f) ![v] (A c) (fun _ => 1#1) false hin) Finset.univ
      = storeIdx (F := F) (s := S88) (e := .i32) f ![v] (A c) (fun _ => 1#1) false hin := by
    rw [Memref.write_access_whole_univ, Memref.read_access_whole]
  iapply (scatter d L (base := s10) (idxs := ![v]) (f := f) hin (hP hin) (by simp)) $$ H
  rw [e]
  iintro H
  iapply HK
  iexists (storeIdx (F := F) (s := S88) (e := .i32) f ![v] (A c) (fun _ => 1#1) false hin)
  isplitr
  · ipureintro; exact hf.step hv hin
  · iexact H

/-- Chunk `c`'s assignment of row `t`, in every lane. -/
theorem get10 {A : Fin 5 → IVec S16 32} (c : Fin 5) (t : Fin 16) {α : Type} {f : Vec F S88 .i32} (hf : Assigned (F := F) A 5 f) {v : IVec S16 32}
    (hv : ∀ x : S16.Idx, (v x).toNat = 8 + 16 * c.val + t.val) {P : Prop} {dec : Decidable P}
    (hP : (∀ a x, ((![v] : Fin 1 → IVec S16 32) a x).toNat < S88.size a) → P)
    {inb : PLift P → ∀ a x, ((![v] : Fin 1 → IVec S16 32) a x).toNat < S88.size a} {hl : (s10).view.Loads}
    {k : Vec F S16 .i32 → Prog (TpuEff nD τ sig (Elt F) Λ₀ (.scVector (cV L) (jV L))) α} {Q : α → sProp 𝕄} :
    pts10 d L f ⊢ iprop((pts10 d L f -∗ run d L (k fun _ => A c (ix1 t)) Q)
      -∗ run d L (Prog.lift (TpuEff.assume P dec) >>= fun x => SparseCore.vectorLoadIdx s10 ![v] (inb x) hl >>= k) Q) :=
  gather10 d L (fun _ => A c (ix1 t)) (fun x => by have := t.isLt; rw [hv]; omega)
    (fun x j hj => hf c t j c.isLt (hj.trans (hv x))) hP

/-- The token assigned to chunk `c` in row `t`, a word a lane. -/
def tokAt (tok : Vec F S80 .f32) (A : Fin 5 → IVec S16 32) (c : Fin 5) (t : Fin 16) : Vec F S16 .f32 :=
  fun x => tok (ix1 (Fin.ofNat 80 ((A c (ix1 t)).toNat * 13 + 8 + (x 0).val)))

/-- Where a token's words begin in the padded tokens. -/
theorem tok_addr {a : BitVec 32} (ha : ∃ k : Fin 5, a = BitVec.ofNat 32 k.val) (x : S16.Idx) :
    (addi (muli (fun _ : S16.Idx => a) (broadcast S16 13#32)) (addi (broadcast S16 8#32) lanes) x).toNat = a.toNat * 13 + 8 + (x 0).val := by
  obtain ⟨k, rfl⟩ := ha
  refine (congrArg (fun z : BitVec 32 => (BitVec.ofNat 32 k.val * 13#32 + (8#32 + z)).toNat) (lane_eq _ x)).trans ?_
  have hx : (x 0).val < 16 := (x 0).isLt
  have hk := k.isLt
  simp only [BitVec.toNat_add, BitVec.toNat_mul, BitVec.toNat_ofNat]
  omega

/-- The gather of the assigned token's words. -/
theorem get9 {tok : Vec F S80 .f32} {A : Fin 5 → IVec S16 32} (hA : ∀ c x, ∃ k : Fin 5, A c x = BitVec.ofNat 32 k.val) (c : Fin 5) (t : Fin 16) {α : Type}
    {v : IVec S16 32} (hv : v = addi (muli (fun _ : S16.Idx => A c (ix1 t)) (broadcast S16 13#32)) (addi (broadcast S16 8#32) lanes)) {P : Prop} {dec : Decidable P}
    (hP : (∀ a x, ((![v] : Fin 1 → IVec S16 32) a x).toNat < S80.size a) → P)
    {inb : PLift P → ∀ a x, ((![v] : Fin 1 → IVec S16 32) a x).toNat < S80.size a} {hl : (s9).view.Loads}
    {k : Vec F S16 .f32 → Prog (TpuEff nD τ sig (Elt F) Λ₀ (.scVector (cV L) (jV L))) α} {Q : α → sProp 𝕄} :
    pts9 d L tok ⊢ iprop((pts9 d L tok -∗ run d L (k (tokAt tok A c t)) Q)
      -∗ run d L (Prog.lift (TpuEff.assume P dec) >>= fun x => SparseCore.vectorLoadIdx s9 ![v] (inb x) hl >>= k) Q) := by
  have hlt : ∀ x : S16.Idx, (A c (ix1 t)).toNat * 13 + 8 + (x 0).val < 80 := fun x => by
    obtain ⟨k, hk⟩ := hA c (ix1 t)
    have hx : (x 0).val < 16 := (x 0).isLt
    have hk' := k.isLt
    rw [hk, BitVec.toNat_ofNat]
    omega
  refine gather9 d L (tokAt tok A c t) (fun x => ?_) (fun x j hj => ?_) hP
  · rw [hv, tok_addr (hA c (ix1 t))]; exact hlt x
  · rw [hv, tok_addr (hA c (ix1 t))] at hj
    refine congrArg tok (funext fun a => ?_)
    obtain rfl : a = 0 := Fin.eq_zero a
    refine Fin.ext (hj.trans ?_)
    show _ = ((A c (ix1 t)).toNat * 13 + 8 + (x 0).val) % 80
    rw [Nat.mod_eq_of_lt (hlt x)]

/-- The indices of a store of an assignment. -/
theorem put_index (c : ℕ) (hc : c < 1000) (x : S16.Idx) : (addi lanes (broadcast S16 (BitVec.ofNat 32 c)) x).toNat = (x 0).val + c := by
  refine (congrArg (fun z : BitVec 32 => (z + BitVec.ofNat 32 c).toNat) (lane_eq _ x)).trans ?_
  have hx : (x 0).val < 16 := (x 0).isLt
  simp only [BitVec.toNat_add, BitVec.toNat_ofNat]
  omega

/-- The columns of the masked store, clamped to the row. -/
theorem out_index (c : ℕ) (hc : c < 1000) (x : S16.Idx) : (minsi (addi lanes (broadcast S16 (BitVec.ofNat 32 c))) (broadcast S16 319#32) x).toNat = min ((x 0).val + c) 319 := by
  have h := put_index c hc x
  have hx : (x 0).val < 16 := (x 0).isLt
  show (IntOp.minsi (addi lanes (broadcast S16 (BitVec.ofNat 32 c)) x) 319#32).toNat = _
  generalize addi lanes (broadcast S16 (BitVec.ofNat 32 c)) x = b at h
  have hs : b.toInt = b.toNat := BitVec.toInt_eq_toNat_of_lt (by omega)
  have h3 : (319#32 : BitVec 32).toInt = 319 := by decide
  unfold IntOp.minsi
  split
  · rename_i hlt
    rw [BitVec.slt_iff_toInt_lt, hs, h3] at hlt
    omega
  · rename_i hlt
    rw [BitVec.slt_iff_toInt_lt, hs, h3] at hlt
    show 319 = _
    omega

/-- The mask lets thirteen lanes through. -/
theorem mask_iff (x : S16.Idx) : cmpi .slt lanes (broadcast S16 13#32) x = 1 ↔ (x 0).val < 13 := by
  have e : cmpi .slt lanes (broadcast S16 13#32) x = IntOp.cmpi .slt (BitVec.ofNat 32 (x 0).val) 13#32 :=
    congrArg (fun z => IntOp.cmpi .slt z 13#32) (lane_eq _ x)
  rw [e]
  exact (show ∀ k : Fin 16, IntOp.cmpi .slt (BitVec.ofNat 32 k.val) 13#32 = 1 ↔ k.val < 13 by decide) (x 0)

/-- The trip's row. -/
abbrev emitRow (t : Fin k0_t9_loop.trips) : Fin 16 := ⟨t.val, t.isLt⟩

/-- The row of a trip, in every lane. -/
theorem emit_row (t : Fin k0_t9_loop.trips) (x : S16.Idx) :
    (addi (broadcast S16 0#32) (broadcast S16 (Scf.iv (w := 32) 0#32 1#32 t.val)) x).toNat = (emitRow t).val := by
  have ht : t.val < 16 := t.isLt
  rw [tok_index 0 t.val (by decide) (by omega)]
  exact Nat.zero_add _

set_option maxHeartbeats 4000000 in
/-- A trip of the emission's loop. -/
theorem emit_body {tok : Vec F S80 .f32} {A : Fin 5 → IVec S16 32} (hA : ∀ c x, ∃ k : Fin 5, A c x = BitVec.ofNat 32 k.val)
    (h1 : k0_cond1 L = 1#1) (t : Fin k0_t9_loop.trips) (acc : Unit) {f : Vec F S88 .i32} (hf : Assigned (F := F) A 5 f) :
    iprop(Ost d L tok A t.val 0 0 ∗ pts9 d L tok ∗ pts10 d L f) ⊢ run d L (k0_t9_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 k0_pay326 (k0_pay327 lanes) 0#32 1#32 t acc)
      (fun _ => iprop(Ost d L tok A (t.val + 1) 0 0 ∗ pts9 d L tok ∗ pts10 d L f)) := by
  have ht : t.val < 1000 := lt_of_lt_of_le (show t.val < 16 from t.isLt) (by decide)
  unfold k0_t9_body
  iintro ⟨H, H9, H10⟩
  rw [run_bind, k0_part14_eq_skeleton]
  unfold k0_part14_skel
  iapply (load11 d L) $$ H
  iintro %_ H
  iapply (zero11 d L (emitRow t) 0 (by decide) (k0_off22_eq t) rfl) $$ H
  iintro H
  iapply (load11 d L) $$ H
  iintro %_ H
  iapply (zero11 d L (emitRow t) 1 (by decide) (k0_off23_eq t) rfl) $$ H
  iintro H
  iapply (load11 d L) $$ H
  iintro %_ H
  iapply (zero11 d L (emitRow t) 2 (by decide) (k0_off24_eq t) rfl) $$ H
  iintro H
  iapply (load11 d L) $$ H
  iintro %_ H
  iapply (zero11 d L (emitRow t) 3 (by decide) (k0_off25_eq t) rfl) $$ H
  iintro H
  iapply (load11 d L) $$ H
  iintro %_ H
  iapply (zero11 d L (emitRow t) 4 (by decide) (k0_off26_eq t) rfl) $$ H
  iintro H
  iapply (load11 d L) $$ H
  iintro %_ H
  iapply (zero11 d L (emitRow t) 5 (by decide) (k0_off27_eq t) rfl) $$ H
  iintro H
  iapply (load11 d L) $$ H
  iintro %_ H
  iapply (zero11 d L (emitRow t) 6 (by decide) (k0_off28_eq t) rfl) $$ H
  iintro H
  iapply (load11 d L) $$ H
  iintro %_ H
  iapply (zero11 d L (emitRow t) 7 (by decide) (k0_off29_eq t) rfl) $$ H
  iintro H
  iapply (load11 d L) $$ H
  iintro %_ H
  iapply (zero11 d L (emitRow t) 8 (by decide) (k0_off30_eq t) rfl) $$ H
  iintro H
  iapply (load11 d L) $$ H
  iintro %_ H
  iapply (zero11 d L (emitRow t) 9 (by decide) (k0_off31_eq t) rfl) $$ H
  iintro H
  iapply (load11 d L) $$ H
  iintro %_ H
  iapply (zero11 d L (emitRow t) 10 (by decide) (k0_off32_eq t) rfl) $$ H
  iintro H
  iapply (load11 d L) $$ H
  iintro %_ H
  iapply run_pure
  rw [run_bind, k0_part15_eq_skeleton]
  unfold k0_part15_skel
  iapply (zero11 d L (emitRow t) 11 (by decide) (k0_off33_eq t) rfl) $$ H
  iintro H
  iapply (load11 d L) $$ H
  iintro %_ H
  iapply (zero11 d L (emitRow t) 12 (by decide) (k0_off34_eq t) rfl) $$ H
  iintro H
  iapply (load11 d L) $$ H
  iintro %_ H
  iapply (zero11 d L (emitRow t) 13 (by decide) (k0_off35_eq t) rfl) $$ H
  iintro H
  iapply (load11 d L) $$ H
  iintro %_ H
  iapply (zero11 d L (emitRow t) 14 (by decide) (k0_off36_eq t) rfl) $$ H
  iintro H
  iapply (load11 d L) $$ H
  iintro %_ H
  iapply (zero11 d L (emitRow t) 15 (by decide) (k0_off37_eq t) rfl) $$ H
  iintro H
  iapply (load11 d L) $$ H
  iintro %_ H
  iapply (zero11 d L (emitRow t) 16 (by decide) (k0_off38_eq t) rfl) $$ H
  iintro H
  iapply (load11 d L) $$ H
  iintro %_ H
  iapply (zero11 d L (emitRow t) 17 (by decide) (k0_off39_eq t) rfl) $$ H
  iintro H
  iapply (load11 d L) $$ H
  iintro %_ H
  iapply (zero11 d L (emitRow t) 18 (by decide) (k0_off40_eq t) rfl) $$ H
  iintro H
  iapply (load11 d L) $$ H
  iintro %_ H
  iapply (zero11 d L (emitRow t) 19 (by decide) (k0_off41_eq t) rfl) $$ H
  iintro H
  iapply (get10 d L 0 (emitRow t) hf (tok_index 8 t.val (by decide) ht) (fun h _ => h)) $$ H10
  iintro H10
  iapply (get9 d L hA 0 (emitRow t) rfl (fun h _ => h)) $$ H9
  iintro H9
  iapply run_pure
  rw [run_bind, k0_part16_eq_skeleton]
  unfold k0_part16_skel
  iapply (seg11 d L (tok := tok) (A := A) (emitRow t) 0 (w := 19 + 1) (n := 0) rfl rfl (emit_row t) (out_index 0 (by decide)) mask_iff (p := tokAt tok A 0 (emitRow t)) (fun _ => rfl) (fun h _ => h)) $$ H
  iintro H
  iapply (get10 d L 1 (emitRow t) hf (tok_index 24 t.val (by decide) ht) (fun h _ => h)) $$ H10
  iintro H10
  iapply (get9 d L hA 1 (emitRow t) rfl (fun h _ => h)) $$ H9
  iintro H9
  iapply (seg11 d L (tok := tok) (A := A) (emitRow t) 1 (w := 19 + 1) (n := 0 + 1) rfl rfl (emit_row t) (out_index 76 (by decide)) mask_iff (p := tokAt tok A 1 (emitRow t)) (fun _ => rfl) (fun h _ => h)) $$ H
  iintro H
  iapply (get10 d L 2 (emitRow t) hf (tok_index 40 t.val (by decide) ht) (fun h _ => h)) $$ H10
  iintro H10
  iapply (get9 d L hA 2 (emitRow t) rfl (fun h _ => h)) $$ H9
  iintro H9
  iapply run_pure
  iapply (seg11 d L (tok := tok) (A := A) (emitRow t) 2 (w := 19 + 1) (n := 0 + 1 + 1) rfl rfl (emit_row t) (out_index 153 (by decide)) mask_iff (p := tokAt tok A 2 (emitRow t)) (fun _ => rfl) (fun h _ => h)) $$ H
  iintro H
  iapply (get10 d L 3 (emitRow t) hf (tok_index 56 t.val (by decide) ht) (fun h _ => h)) $$ H10
  iintro H10
  iapply (get9 d L hA 3 (emitRow t) rfl (fun h _ => h)) $$ H9
  iintro H9
  iapply (seg11 d L (tok := tok) (A := A) (emitRow t) 3 (w := 19 + 1) (n := 0 + 1 + 1 + 1) rfl rfl (emit_row t) (out_index 230 (by decide)) mask_iff (p := tokAt tok A 3 (emitRow t)) (fun _ => rfl) (fun h _ => h)) $$ H
  iintro H
  iapply (get10 d L 4 (emitRow t) hf (tok_index 72 t.val (by decide) ht) (fun h _ => h)) $$ H10
  iintro H10
  iapply (get9 d L hA 4 (emitRow t) rfl (fun h _ => h)) $$ H9
  iintro H9
  iapply (seg11 d L (tok := tok) (A := A) (emitRow t) 4 (w := 19 + 1) (n := 0 + 1 + 1 + 1 + 1) rfl rfl (emit_row t) (out_index 307 (by decide)) mask_iff (p := tokAt tok A 4 (emitRow t)) (fun _ => rfl) (fun h _ => h)) $$ H
  iintro H
  iapply run_pure
  isplitl [H]
  · unfold Ost
    icases H with ⟨%g, %hg, H⟩
    iexists g
    isplitr
    · ipureintro; exact hg.next
    · iexact H
  · isplitl [H9] <;> iassumption

end Cert.Tile
-- ==== Proof.Core.lean ====
/-
  The vector subcore's computation, from the staged rows and the tokens to the output rows.
-/
module

public import proofs.«01_k».proof.Proof.Emit

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- The distance of the `i`th pair of chunk and token. -/
def pairDist (raw : Vec F S16x320 .f32) (tok : Vec F S80 .f32) (i : Fin 25) : FVec F S16 .f32 :=
  dist raw tok ⟨i.val / 5, by omega⟩ ⟨i.val % 5, by omega⟩

/-- The tokens assigned to the chunks, row by row. -/
def assigned (raw : Vec F S16x320 .f32) (tok : Vec F S80 .f32) : Fin 5 → IVec S16 32 :=
  fun c x => (rounds (fun i => pairDist raw tok i x) 5).2 c

/-- An assignment is the number of a token. -/
theorem assigned_lt (raw : Vec F S16x320 .f32) (tok : Vec F S80 .f32) (c : Fin 5) (x : S16.Idx) :
    ∃ k : Fin 5, assigned raw tok c x = BitVec.ofNat 32 k.val := rounds_lt _ _ _

/-- The output rows of sixteen staged rows. -/
def tileOut (raw : Vec F S16x320 .f32) (tok : Vec F S80 .f32) : Vec F S16x320 .f32 := rowsOut tok (assigned raw tok)

/-- The staging loop. -/
theorem stage_loop {raw : Vec F S16x320 .f32} {f : Vec F S5440 .f32} (v1 : BitVec 32) (h1 : k0_cond1 L = 1#1) {Q : Unit → sProp 𝕄} :
    iprop(pts7 d L raw ∗ pts8 d L f)
      ⊢ iprop((∀ g, ⌜Staged raw 16 0 g⌝ -∗ pts7 d L raw -∗ pts8 d L g -∗ Q ())
        -∗ run d L (Scf.Loop.for k0_t1_loop (k0_t1_ok L h1) () (k0_t1_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1)) Q) := by
  iintro ⟨H7, H8⟩ HQ
  iapply (run_for d L k0_t1_loop (k0_t1_ok L h1) () _ (fun n _ => iprop(Rst d L raw n 0 ∗ pts7 d L raw)) (fun t _ => stage_body d L v1 h1 t)) $$ [H7 H8]
  · isplitl [H8]
    · unfold Rst
      iexists f
      isplitr
      · ipureintro
        exact fun j y _ h => absurd h (by omega)
      · iexact H8
    · iexact H7
  · iintro %_ ⟨H8, H7⟩
    unfold Rst
    icases H8 with ⟨%g, %hg, H8⟩
    ispecialize HQ $$ %g
    ispecialize HQ $$ []
    · ipureintro; exact hg
    iapply HQ $$ H7 H8

/-- The loop of the chunks' sums of squares. -/
theorem pic_loop {raw : Vec F S16x320 .f32} {f : Vec F S5440 .f32} (hf : Staged raw 16 0 f) (v1 : BitVec 32) (h1 : k0_cond1 L = 1#1) {Q : Five (F := F) → sProp 𝕄} :
    pts8 d L f
      ⊢ iprop((pts8 d L f -∗ Q (picAcc raw 64))
        -∗ run d L (Scf.Loop.for k0_t2_loop (k0_t2_ok L h1) (k0_pay210 (F := F), k0_pay211 (F := F), k0_pay212 (F := F), k0_pay213 (F := F), k0_pay214 (F := F)) (k0_t2_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1)) Q) := by
  iintro H8 HQ
  iapply (run_for d L k0_t2_loop (k0_t2_ok L h1) _ _ (fun n acc => iprop(pts8 d L f ∗ ⌜acc = picAcc raw n⌝)) (fun t acc => pic_body d L hf v1 h1 t acc)) $$ [H8]
  · isplitl [H8]
    · iexact H8
    · ipureintro; rfl
  · iintro %acc ⟨H8, %hacc⟩
    obtain rfl : acc = picAcc raw 64 := hacc
    iapply HQ $$ H8

/-- The loop over token 0. -/
theorem seg_loop0 {raw : Vec F S16x320 .f32} {f : Vec F S5440 .f32} (hf : Staged raw 16 0 f) {tok : Vec F S80 .f32} (h1 : k0_cond1 L = 1#1)
    {v21_0 v21_1 v21_2 v21_3 v21_4 : FVec F S16 .f32} {Q : Ten (F := F) → sProp 𝕄} :
    iprop(pts8 d L f ∗ pts9 d L tok)
      ⊢ iprop((pts8 d L f -∗ pts9 d L tok -∗ Q (segAcc raw tok 0 13))
        -∗ run d L (Scf.Loop.for k0_t3_loop (k0_t3_ok L h1) (k0_pay225 (F := F), k0_pay226 (F := F), k0_pay227 (F := F), k0_pay228 (F := F), k0_pay229 (F := F), k0_pay230 (F := F), k0_pay231 (F := F), k0_pay232 (F := F), k0_pay233 (F := F), k0_pay234 (F := F)) (k0_t3_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 v21_0 v21_1 v21_2 v21_3 v21_4 (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) 0#32)) Q) :=
  seg_loop d L hf h1 0 k0_t3_loop (k0_t3_ok L h1) rfl _ (fun t => k0_pay42 0#32 1#32 t) (fun t => k0_pay43 lanes 0#32 1#32 t) (fun t => k0_pay46 lanes 0#32 1#32 t)
    (fun t => k0_pay49 lanes 0#32 1#32 t) (fun t => k0_pay52 lanes 0#32 1#32 t) (fun t => k0_pay237 lanes (Scf.iv 0#32 1#32 t)) (fun _ _ => rfl)
    (fun t => tok_index 8 t.val (by decide)) (fun t => col_index 0 0 t.val rfl (by decide)) (fun t => col_index 1088 64 t.val rfl (by decide))
    (fun t => col_index 2176 128 t.val rfl (by decide)) (fun t => col_index 3264 192 t.val rfl (by decide)) (fun t => col_index 4352 256 t.val rfl (by decide))

/-- The loop over token 1. -/
theorem seg_loop1 {raw : Vec F S16x320 .f32} {f : Vec F S5440 .f32} (hf : Staged raw 16 0 f) {tok : Vec F S80 .f32} (h1 : k0_cond1 L = 1#1)
    {v21_0 v21_1 v21_2 v21_3 v21_4 : FVec F S16 .f32} {Q : Ten (F := F) → sProp 𝕄} :
    iprop(pts8 d L f ∗ pts9 d L tok)
      ⊢ iprop((pts8 d L f -∗ pts9 d L tok -∗ Q (segAcc raw tok 1 13))
        -∗ run d L (Scf.Loop.for k0_t4_loop (k0_t4_ok L h1) (k0_pay225 (F := F), k0_pay226 (F := F), k0_pay227 (F := F), k0_pay228 (F := F), k0_pay229 (F := F), k0_pay230 (F := F), k0_pay231 (F := F), k0_pay232 (F := F), k0_pay233 (F := F), k0_pay234 (F := F)) (k0_t4_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 v21_0 v21_1 v21_2 v21_3 v21_4 (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) 0#32)) Q) :=
  seg_loop d L hf h1 1 k0_t4_loop (k0_t4_ok L h1) rfl _ (fun t => k0_pay55 0#32 1#32 t) (fun t => k0_pay56 lanes 0#32 1#32 t) (fun t => k0_pay59 lanes 0#32 1#32 t)
    (fun t => k0_pay62 lanes 0#32 1#32 t) (fun t => k0_pay65 lanes 0#32 1#32 t) (fun t => k0_pay247 lanes (Scf.iv 0#32 1#32 t)) (fun _ _ => rfl)
    (fun t => tok_index 21 t.val (by decide)) (fun t => col_index 204 12 t.val rfl (by decide)) (fun t => col_index 1292 76 t.val rfl (by decide))
    (fun t => col_index 2380 140 t.val rfl (by decide)) (fun t => col_index 3468 204 t.val rfl (by decide)) (fun t => col_index 4556 268 t.val rfl (by decide))

/-- The loop over token 2. -/
theorem seg_loop2 {raw : Vec F S16x320 .f32} {f : Vec F S5440 .f32} (hf : Staged raw 16 0 f) {tok : Vec F S80 .f32} (h1 : k0_cond1 L = 1#1)
    {v21_0 v21_1 v21_2 v21_3 v21_4 : FVec F S16 .f32} {Q : Ten (F := F) → sProp 𝕄} :
    iprop(pts8 d L f ∗ pts9 d L tok)
      ⊢ iprop((pts8 d L f -∗ pts9 d L tok -∗ Q (segAcc raw tok 2 13))
        -∗ run d L (Scf.Loop.for k0_t5_loop (k0_t5_ok L h1) (k0_pay225 (F := F), k0_pay226 (F := F), k0_pay227 (F := F), k0_pay228 (F := F), k0_pay229 (F := F), k0_pay230 (F := F), k0_pay231 (F := F), k0_pay232 (F := F), k0_pay233 (F := F), k0_pay234 (F := F)) (k0_t5_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 v21_0 v21_1 v21_2 v21_3 v21_4 (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) 0#32)) Q) :=
  seg_loop d L hf h1 2 k0_t5_loop (k0_t5_ok L h1) rfl _ (fun t => k0_pay68 0#32 1#32 t) (fun t => k0_pay69 lanes 0#32 1#32 t) (fun t => k0_pay72 lanes 0#32 1#32 t)
    (fun t => k0_pay75 lanes 0#32 1#32 t) (fun t => k0_pay78 lanes 0#32 1#32 t) (fun t => k0_pay257 lanes (Scf.iv 0#32 1#32 t)) (fun _ _ => rfl)
    (fun t => tok_index 34 t.val (by decide)) (fun t => col_index 425 25 t.val rfl (by decide)) (fun t => col_index 1513 89 t.val rfl (by decide))
    (fun t => col_index 2601 153 t.val rfl (by decide)) (fun t => col_index 3689 217 t.val rfl (by decide)) (fun t => col_index 4777 281 t.val rfl (by decide))

/-- The loop over token 3. -/
theorem seg_loop3 {raw : Vec F S16x320 .f32} {f : Vec F S5440 .f32} (hf : Staged raw 16 0 f) {tok : Vec F S80 .f32} (h1 : k0_cond1 L = 1#1)
    {v21_0 v21_1 v21_2 v21_3 v21_4 : FVec F S16 .f32} {Q : Ten (F := F) → sProp 𝕄} :
    iprop(pts8 d L f ∗ pts9 d L tok)
      ⊢ iprop((pts8 d L f -∗ pts9 d L tok -∗ Q (segAcc raw tok 3 13))
        -∗ run d L (Scf.Loop.for k0_t6_loop (k0_t6_ok L h1) (k0_pay225 (F := F), k0_pay226 (F := F), k0_pay227 (F := F), k0_pay228 (F := F), k0_pay229 (F := F), k0_pay230 (F := F), k0_pay231 (F := F), k0_pay232 (F := F), k0_pay233 (F := F), k0_pay234 (F := F)) (k0_t6_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 v21_0 v21_1 v21_2 v21_3 v21_4 (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) 0#32)) Q) :=
  seg_loop d L hf h1 3 k0_t6_loop (k0_t6_ok L h1) rfl _ (fun t => k0_pay81 0#32 1#32 t) (fun t => k0_pay82 lanes 0#32 1#32 t) (fun t => k0_pay85 lanes 0#32 1#32 t)
    (fun t => k0_pay88 lanes 0#32 1#32 t) (fun t => k0_pay91 lanes 0#32 1#32 t) (fun t => k0_pay267 lanes (Scf.iv 0#32 1#32 t)) (fun _ _ => rfl)
    (fun t => tok_index 47 t.val (by decide)) (fun t => col_index 646 38 t.val rfl (by decide)) (fun t => col_index 1734 102 t.val rfl (by decide))
    (fun t => col_index 2822 166 t.val rfl (by decide)) (fun t => col_index 3910 230 t.val rfl (by decide)) (fun t => col_index 4998 294 t.val rfl (by decide))

/-- The loop over token 4. -/
theorem seg_loop4 {raw : Vec F S16x320 .f32} {f : Vec F S5440 .f32} (hf : Staged raw 16 0 f) {tok : Vec F S80 .f32} (h1 : k0_cond1 L = 1#1)
    {v21_0 v21_1 v21_2 v21_3 v21_4 v69_9 v78 : FVec F S16 .f32} {Q : Ten (F := F) → sProp 𝕄} :
    iprop(pts8 d L f ∗ pts9 d L tok)
      ⊢ iprop((pts8 d L f -∗ pts9 d L tok -∗ Q (segAcc raw tok 4 13))
        -∗ run d L (Scf.Loop.for k0_t7_loop (k0_t7_ok L h1) (k0_pay225 (F := F), k0_pay226 (F := F), k0_pay227 (F := F), k0_pay228 (F := F), k0_pay229 (F := F), k0_pay230 (F := F), k0_pay231 (F := F), k0_pay232 (F := F), k0_pay233 (F := F), k0_pay234 (F := F)) (k0_t7_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 v21_0 v21_1 v21_2 v21_3 v21_4 (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) v69_9 v78)) Q) :=
  seg_loop d L hf h1 4 k0_t7_loop (k0_t7_ok L h1) rfl _ (fun t => k0_pay94 0#32 1#32 t) (fun t => k0_pay95 lanes 0#32 1#32 t) (fun t => k0_pay98 lanes 0#32 1#32 t)
    (fun t => k0_pay101 lanes 0#32 1#32 t) (fun t => k0_pay104 lanes 0#32 1#32 t) (fun t => k0_pay278 lanes (Scf.iv 0#32 1#32 t)) (fun _ _ => rfl)
    (fun t => tok_index 60 t.val (by decide)) (fun t => col_index 867 51 t.val rfl (by decide)) (fun t => col_index 1955 115 t.val rfl (by decide))
    (fun t => col_index 3043 179 t.val rfl (by decide)) (fun t => col_index 4131 243 t.val rfl (by decide)) (fun t => col_index 5219 307 t.val rfl (by decide))

set_option maxHeartbeats 2000000 in
/-- The distances of the first four tokens. -/
theorem part18 {raw : Vec F S16x320 .f32} {f : Vec F S5440 .f32} (hf : Staged raw 16 0 f) {tok : Vec F S80 .f32} (h1 : k0_cond1 L = 1#1) {Q : _ → sProp 𝕄} :
    iprop(pts8 d L f ∗ pts9 d L tok)
      ⊢ iprop((∀ r, ⌜r = ⟨dist raw tok 0 0, dist raw tok 1 0, dist raw tok 2 0, dist raw tok 3 0, dist raw tok 4 0, dist raw tok 0 1, dist raw tok 1 1, dist raw tok 2 1, dist raw tok 3 1, dist raw tok 4 1, dist raw tok 0 2, dist raw tok 1 2, dist raw tok 2 2, dist raw tok 3 2, dist raw tok 4 2, dif2 raw tok 4 3 13, dist raw tok 0 3, dist raw tok 1 3, dist raw tok 2 3, dist raw tok 3 3, k0_pay274 (pic2 raw 4 64) (gat2 raw 4 3 13)⟩⌝ -∗ pts8 d L f -∗ pts9 d L tok -∗ Q r)
        -∗ run d L (k0_part18 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 (pic2 raw 0 64) (pic2 raw 1 64) (pic2 raw 2 64) (pic2 raw 3 64) (pic2 raw 4 64) (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) 0#32) Q) := by
  iintro ⟨H8, H9⟩ HQ
  rw [k0_part18_eq_skeleton]
  unfold k0_part18_skel
  rw [run_bind]
  iapply (seg_loop0 d L hf h1) $$ [H8 H9]
  · isplitl [H8] <;> iassumption
  iintro H8 H9
  rw [run_bind]
  iapply (seg_loop1 d L hf h1) $$ [H8 H9]
  · isplitl [H8] <;> iassumption
  iintro H8 H9
  rw [run_bind]
  iapply (seg_loop2 d L hf h1) $$ [H8 H9]
  · isplitl [H8] <;> iassumption
  iintro H8 H9
  rw [run_bind]
  iapply (seg_loop3 d L hf h1) $$ [H8 H9]
  · isplitl [H8] <;> iassumption
  iintro H8 H9
  iapply run_pure
  iapply HQ $$ [] H8 H9
  ipureintro; rfl

set_option maxHeartbeats 2000000 in
/-- The distances of the last token. -/
theorem part19 {raw : Vec F S16x320 .f32} {f : Vec F S5440 .f32} (hf : Staged raw 16 0 f) {tok : Vec F S80 .f32} (h1 : k0_cond1 L = 1#1) {Q : _ → sProp 𝕄} :
    iprop(pts8 d L f ∗ pts9 d L tok)
      ⊢ iprop((∀ r, ⌜r = ⟨dist raw tok 4 3, dist raw tok 0 4, dist raw tok 1 4, dist raw tok 2 4, dist raw tok 3 4, dist raw tok 4 4, k0_pay286 (F := F), k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, 20#32⟩⌝ -∗ pts8 d L f -∗ pts9 d L tok -∗ Q r)
        -∗ run d L (k0_part19 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 (pic2 raw 0 64) (pic2 raw 1 64) (pic2 raw 2 64) (pic2 raw 3 64) (pic2 raw 4 64) (k0_pay225 (F := F)) (k0_pay226 (F := F)) (k0_pay227 (F := F)) (k0_pay228 (F := F)) (k0_pay229 (F := F)) (k0_pay230 (F := F)) (k0_pay231 (F := F)) (k0_pay232 (F := F)) (k0_pay233 (F := F)) (k0_pay234 (F := F)) (dif2 raw tok 4 3 13) (k0_pay274 (pic2 raw 4 64) (gat2 raw 4 3 13))) Q) := by
  iintro ⟨H8, H9⟩ HQ
  rw [k0_part19_eq_skeleton]
  unfold k0_part19_skel
  rw [run_bind]
  iapply (seg_loop4 d L hf h1) $$ [H8 H9]
  · isplitl [H8] <;> iassumption
  iintro H8 H9
  iapply run_pure
  iapply HQ $$ [] H8 H9
  ipureintro; rfl

set_option maxHeartbeats 2000000 in
/-- The rounds' loop. -/
theorem rounds_loop (raw : Vec F S16x320 .f32) (tok : Vec F S80 .f32) (h1 : k0_cond1 L = 1#1) {Q : Thirty (F := F) → sProp 𝕄} :
    iprop(Q (roundsV (pairDist raw tok) 5))
      ⊢ run d L (Scf.Loop.for k0_t8_loop (k0_t8_ok L h1) (dist raw tok 0 0, dist raw tok 0 1, dist raw tok 0 2, dist raw tok 0 3, dist raw tok 0 4, dist raw tok 1 0, dist raw tok 1 1, dist raw tok 1 2, dist raw tok 1 3, dist raw tok 1 4, dist raw tok 2 0, dist raw tok 2 1, dist raw tok 2 2, dist raw tok 2 3, dist raw tok 2 4, dist raw tok 3 0, dist raw tok 3 1, dist raw tok 3 2, dist raw tok 3 3, dist raw tok 3 4, dist raw tok 4 0, dist raw tok 4 1, dist raw tok 4 2, dist raw tok 4 3, dist raw tok 4 4, k0_pay312, k0_pay313, k0_pay314, k0_pay315, k0_pay316) (k0_t8_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 (dist raw tok 0 0) (dist raw tok 1 0) (dist raw tok 2 0) (dist raw tok 3 0) (dist raw tok 4 0) (dist raw tok 0 1) (dist raw tok 1 1) (dist raw tok 2 1) (dist raw tok 3 1) (dist raw tok 4 1) (dist raw tok 0 2) (dist raw tok 1 2) (dist raw tok 2 2) (dist raw tok 3 2) (dist raw tok 4 2) (dist raw tok 0 3) (dist raw tok 1 3) (dist raw tok 2 3) (dist raw tok 3 3) (dist raw tok 4 3) (dist raw tok 0 4) (dist raw tok 1 4) (dist raw tok 2 4) (dist raw tok 3 4) (dist raw tok 4 4) (k0_pay286 (F := F)) k0_pay287 k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305 k0_pay306 20#32)) Q := by
  iintro HQ
  iapply (run_for d L k0_t8_loop (k0_t8_ok L h1) _ _ (fun n acc => iprop(⌜acc = roundsV (pairDist raw tok) n⌝)) (fun t acc => by
    iintro %hacc
    subst hacc
    rw [show roundsV (pairDist raw tok) t.val = pack _ _ from rfl, round_body]
    iapply run_pure
    ipureintro; rfl)) $$ []
  · ipureintro; rfl
  · iintro %acc %hacc
    obtain rfl : acc = roundsV (pairDist raw tok) 5 := hacc
    iexact HQ

set_option maxHeartbeats 2000000 in
/-- The rounds, and the assignments put into their scratch. -/
theorem part20 {raw : Vec F S16x320 .f32} {tok : Vec F S80 .f32} (h1 : k0_cond1 L = 1#1) {g : Vec F S88 .i32} {Q : _ → sProp 𝕄} :
    pts10 d L g
      ⊢ iprop((Ast d L (F := F) (assigned raw tok) 5 -∗ Q ⟨k0_pay326 (F := F), k0_pay327 lanes, 0#32, 1#32⟩)
        -∗ run d L (k0_part20 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 (dist raw tok 0 0) (dist raw tok 1 0) (dist raw tok 2 0) (dist raw tok 3 0) (dist raw tok 4 0) (dist raw tok 0 1) (dist raw tok 1 1) (dist raw tok 2 1) (dist raw tok 3 1) (dist raw tok 4 1) (dist raw tok 0 2) (dist raw tok 1 2) (dist raw tok 2 2) (dist raw tok 3 2) (dist raw tok 4 2) (dist raw tok 0 3) (dist raw tok 1 3) (dist raw tok 2 3) (dist raw tok 3 3) (dist raw tok 4 3) (dist raw tok 0 4) (dist raw tok 1 4) (dist raw tok 2 4) (dist raw tok 3 4) (dist raw tok 4 4) (k0_pay286 (F := F)) k0_pay287 k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305 k0_pay306 20#32) Q) := by
  iintro H HQ
  rw [k0_part20_eq_skeleton]
  unfold k0_part20_skel
  rw [run_bind]
  iapply (rounds_loop d L raw tok h1)
  have e : ∀ A : Fin 5 → IVec S16 32, pts10 d L g ⊢ Ast d L (F := F) A 0 := fun A => by
    unfold Ast
    iintro H
    iexists g
    isplitr
    · ipureintro
      exact fun c x j h _ => absurd h (Nat.not_lt_zero _)
    · iexact H
  ihave H := (e (assigned raw tok)) $$ H
  iapply (put10 d L (A := assigned raw tok) 0 (n := 0) rfl (put_index 8 (by decide)) (fun h _ => h)) $$ H
  iintro H
  iapply (put10 d L (A := assigned raw tok) 1 (n := 0 + 1) rfl (put_index 24 (by decide)) (fun h _ => h)) $$ H
  iintro H
  iapply (put10 d L (A := assigned raw tok) 2 (n := 0 + 1 + 1) rfl (put_index 40 (by decide)) (fun h _ => h)) $$ H
  iintro H
  iapply (put10 d L (A := assigned raw tok) 3 (n := 0 + 1 + 1 + 1) rfl (put_index 56 (by decide)) (fun h _ => h)) $$ H
  iintro H
  iapply (put10 d L (A := assigned raw tok) 4 (n := 0 + 1 + 1 + 1 + 1) rfl (put_index 72 (by decide)) (fun h _ => h)) $$ H
  iintro H
  iapply run_pure
  iapply HQ $$ H

/-- The emission's loop. -/
theorem emit_loop {tok : Vec F S80 .f32} {A : Fin 5 → IVec S16 32} (hA : ∀ c x, ∃ k : Fin 5, A c x = BitVec.ofNat 32 k.val)
    (h1 : k0_cond1 L = 1#1) {g : Vec F S16x320 .f32} {Q : Unit → sProp 𝕄} :
    iprop(pts9 d L tok ∗ Ast d L (F := F) A 5 ∗ pts11 d L g)
      ⊢ iprop((∀ f, pts9 d L tok -∗ pts10 d L f -∗ pts11 d L (rowsOut tok A) -∗ Q ())
        -∗ run d L (Scf.Loop.for k0_t9_loop (k0_t9_ok L h1) () (k0_t9_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 lanes h1 k0_pay326 (k0_pay327 lanes) 0#32 1#32)) Q) := by
  unfold Ast
  iintro ⟨H9, ⟨%f, %hf, H10⟩, H11⟩ HQ
  iapply (run_for d L k0_t9_loop (k0_t9_ok L h1) () _ (fun n _ => iprop(Ost d L tok A n 0 0 ∗ pts9 d L tok ∗ pts10 d L f))
    (fun t acc => emit_body d L hA h1 t acc hf)) $$ [H9 H10 H11]
  · isplitl [H11]
    · unfold Ost
      iexists g
      isplitr
      · ipureintro
        exact fun y => ⟨fun h => absurd h (Nat.not_lt_zero _), fun _ h => absurd h (Nat.not_lt_zero _)⟩
      · iexact H11
    · isplitl [H9] <;> iassumption
  · iintro %_ ⟨H11, H9, H10⟩
    unfold Ost
    icases H11 with ⟨%o, %ho, H11⟩
    obtain rfl : o = rowsOut tok A := funext fun y => (ho y).1 (y 0).isLt
    ispecialize HQ $$ %f
    iapply HQ $$ H9 H10 H11

end Cert.Tile
-- ==== Proof.Fetch.lean ====
/-
  The copies into the vector subcore: its tile of the rows, and the tokens.
-/
module

public import proofs.«01_k».proof.Proof.Core

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- The tile's number. -/
def wid : BitVec 32 := Scalar.addi (Scalar.muli (BitVec.ofNat 32 (L 1).val) 2#32) (BitVec.ofNat 32 (L 0).val)

/-- Whether the tile is the last one. -/
def isLast : BitVec 1 := Scalar.cmpi .ne (Scalar.extui (Scalar.cmpi .eq (wid L) 23#32) : BitVec 32) 0#32

/-- The first row of the tile. -/
def row0 : ℕ := 32 * (L 1).val + 16 * (L 0).val

/-- A tile of sixteen rows, the last tile of seven, or none. -/
theorem tile_cases : ∀ L : grid0.Coords,
    (row0 L + 16 ≤ 375 ∧ k0_cond1 L = 1#1 ∧ k0_cond2 L = 1#1 ∧ k0_cond4 L = 1#1 ∧ ¬ isLast L = 1#1)
      ∨ (row0 L = 368 ∧ k0_cond1 L = 1#1 ∧ ¬ k0_cond2 L = 1#1 ∧ ¬ k0_cond4 L = 1#1 ∧ isLast L = 1#1)
      ∨ (375 ≤ row0 L ∧ ¬ k0_cond1 L = 1#1) := by decide +kernel

/-- The tile's rows, staged: row `l` is the array's row `row0 L + l` where there is one. -/
def Fetched (pic : Vec F S375x320 .f32) (raw : Vec F S16x320 .f32) : Prop :=
  ∀ (l : Fin 16) (w : Fin 320) (h : row0 L + l.val < 375), raw (ix2 l w) = pic (ix2 ⟨row0 L + l.val, h⟩ w)

/-- The sums that `k0_part17` returns. -/
abbrev sums (raw : Vec F S16x320 .f32) : Σ' (_ _ _ _ _ _ _ _ _ _ _ _ _ _ _ : FVec F S16 .f32), BitVec 32 :=
  ⟨pic2 raw 0 64, pic2 raw 1 64, pic2 raw 2 64, pic2 raw 3 64, pic2 raw 4 64, k0_pay225 (F := F), k0_pay226 (F := F), k0_pay227 (F := F), k0_pay228 (F := F), k0_pay229 (F := F), k0_pay230 (F := F), k0_pay231 (F := F), k0_pay232 (F := F), k0_pay233 (F := F), k0_pay234 (F := F), 0#32⟩

/-- The arrays of the launch, as the subcore reads them: at a share each. -/
abbrev picPts (q : PosShare TreeShare) (f : Vec F S375x320 .f32) : sProp 𝕄 := (aP).view.loc (thr d L) ↦{q} (f : Buf (Elt F) ((aP).view.loc (thr d L)))
abbrev tokPts (q : PosShare TreeShare) (f : Vec F S80 .f32) : sProp 𝕄 := (aT).view.loc (thr d L) ↦{q} (f : Buf (Elt F) ((aT).view.loc (thr d L)))
/-- The semaphore cells of the copies: the tokens', the full tile's in, the last tile's in, the full tile's out, the last tile's out. -/
abbrev semT : GSem nD τ sig := (thr d L, .dma cc0_scratch1.sem)
abbrev semA : GSem nD τ sig := (thr d L, .dma cc0_scoped0.sem)
abbrev semB : GSem nD τ sig := (thr d L, .dma cc0_scoped1.sem)
abbrev semC : GSem nD τ sig := (thr d L, .dma cc0_scoped2.sem)
abbrev semE : GSem nD τ sig := (thr d L, .dma cc0_scoped3.sem)

/-- The staging loop and the loop of the chunks' sums, one after the other. -/
theorem sum_loops {raw : Vec F S16x320 .f32} {f : Vec F S5440 .f32} (v1 : BitVec 32) (h1 : k0_cond1 L = 1#1) {α : Type}
    {k : Five (F := F) → Prog (TpuEff nD τ sig (Elt F) Λ₀ (.scVector (cV L) (jV L))) α} {Q : α → sProp 𝕄} :
    iprop(pts7 d L raw ∗ pts8 d L f)
      ⊢ iprop((∀ g, ⌜Staged raw 16 0 g⌝ -∗ pts7 d L raw -∗ pts8 d L g -∗ run d L (k (picAcc raw 64)) Q)
        -∗ run d L (Scf.Loop.for k0_t1_loop (k0_t1_ok L h1) () (k0_t1_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1) >>= fun _ =>
            Scf.Loop.for k0_t2_loop (k0_t2_ok L h1) (k0_pay210 (F := F), k0_pay211 (F := F), k0_pay212 (F := F), k0_pay213 (F := F), k0_pay214 (F := F)) (k0_t2_body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 v1 lanes k0_pay1 h1) >>= k) Q) := by
  iintro ⟨H7, H8⟩ HQ
  rw [run_bind]
  iapply (stage_loop d L v1 h1) $$ [H7 H8]
  · isplitl [H7] <;> iassumption
  iintro %g %hg H7 H8
  rw [run_bind]
  iapply (pic_loop d L hg v1 h1) $$ H8
  iintro H8
  ispecialize HQ $$ %g
  ispecialize HQ $$ []
  · ipureintro; exact hg
  iapply HQ $$ H7 H8

/-- A whole tile's rows are fetched by one copy. -/
theorem fetched_full (h : ∀ a, k0_off1 L a + S16x320.size a ≤ S375x320.size a) (pic : Vec F S375x320 .f32) :
    Fetched L pic (View.read (Elt F) ((aP).slice (Rect.unit (s := S375x320) (k0_off1 L) S16x320.size h) (fun _ => rfl)).view pic) := by
  intro l w hl
  refine congrArg pic (funext fun a => Fin.ext ?_)
  have e0 : k0_off1 L 0 = row0 L := by rw [k0_off1_eq]; rfl
  have e1 : k0_off1 L 1 = 0 := by rw [k0_off1_eq]; rfl
  match a with
  | ⟨0, _⟩ => show k0_off1 L 0 + 1 * l.val = row0 L + l.val; omega
  | ⟨1, _⟩ => show k0_off1 L 1 + 1 * w.val = w.val; omega

/-- The last tile's seven rows are fetched by a copy of seven rows. -/
theorem fetched_last (h0 : row0 L = 368) (pic : Vec F S375x320 .f32) (f7 : Vec F S16x320 .f32) :
    Fetched L pic (View.write (Elt F) ((s7).slice (Rect.unit (s := S16x320) ![0, 0] S7x320.size inb_S16x320_S7x320_0_0) (fun _ => rfl)).view f7
      (View.read (Elt F) ((aP).slice (Rect.unit (s := S375x320) ![368, 0] S7x320.size inb_S375x320_S7x320_368_0) (fun _ => rfl)).view pic) Finset.univ) := by
  intro l w hl
  have hl' : l.val < 7 := by omega
  have e : ix2 l w = ((s7).slice (Rect.unit (s := S16x320) ![0, 0] S7x320.size inb_S16x320_S7x320_0_0) (fun _ => rfl)).view.emb
      (ix2 (⟨l.val, hl'⟩ : Fin 7) w) := by
    funext a
    apply Fin.ext
    match a with
    | ⟨0, _⟩ => show l.val = 0 + 1 * l.val; omega
    | ⟨1, _⟩ => show w.val = 0 + 1 * w.val; omega
  rw [e, View.write_emb_of_mem _ _ (Finset.mem_univ _)]
  refine congrArg pic (funext fun a => Fin.ext ?_)
  match a with
  | ⟨0, _⟩ => show 368 + 1 * l.val = row0 L + l.val; omega
  | ⟨1, _⟩ => show 0 + 1 * w.val = w.val; omega

/-- A full tile: the copies in, the staging and the sums of the chunks. -/
theorem fetch_full (h1 : k0_cond1 L = 1#1) (h2 : k0_cond2 L = 1#1) (h3 : ¬ isLast L = 1#1) (O : CellTallies nD τ sig (HIx 1)) (W : Waits sig (HIx 1))
    (q q' : PosShare TreeShare) (pic : Vec F S375x320 .f32) (tok : Vec F S80 .f32) (f7 : Vec F S16x320 .f32) (f8 : Vec F S5440 .f32) (f9 : Vec F S80 .f32)
    {Q : _ → sProp 𝕄} :
    iprop(Transfers.MayWaits (thr d L) (default : HIx 1) O ∗ picPts d L q pic ∗ tokPts d L q' tok ∗ ((s7).view.loc (thr d L) ↦{fullShare} (f7 : Buf (Elt F) ((thr d L).loc cc0_scratch2))) ∗ pts8 d L f8 ∗ ((s9).view.loc (thr d L) ↦{fullShare} (f9 : Buf (Elt F) ((thr d L).loc cc0_scratch4)))
        ∗ semVal (semT d L) 0 ∗ semVal (semA d L) 0 ∗ owes (thr d L) O W)
      ⊢ iprop((∀ r raw f W', ⌜r = sums raw ∧ Fetched L pic raw ∧ Staged raw 16 0 f⌝ -∗ picPts d L q pic -∗ tokPts d L q' tok -∗ pts7 d L raw -∗ pts8 d L f -∗ pts9 d L tok
          -∗ semVal (semT d L) 0 -∗ semVal (semA d L) 0 -∗ owes (thr d L) O W' -∗ Q r)
        -∗ run d L (k0_part17 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 (wid L) lanes k0_pay1 h1) Q) := by
  iintro ⟨#Hmw, Hp, Ht, H7, H8, H9, Hs1, Hs2, HO⟩ HQ
  rw [k0_part17_eq_skeleton]
  unfold run
  sl_unfold [k0_part17_skel]
  sl_exec (disch := first | sl_exact h2 | sl_exact h3)
  rw [show View.write (Elt F) (s9).view f9 (fetch_full.sl.dma0 tok) Finset.univ = tok from View.write_whole_univ ..]
  iapply (sum_loops d L (wid L) h1) $$ [H7 H8]
  · isplitl [H7] <;> iassumption
  iintro %g %hg H7 H8
  iapply run_pure
  iapply HQ $$ [] Hp Ht H7 H8 H9 [Hs1] [Hs2] HO
  · ipureintro
    exact ⟨rfl, by rw [show View.write (Elt F) (s7).view f7 (fetch_full.sl.dma0_1 L h1 h2 pic) Finset.univ = fetch_full.sl.dma0_1 L h1 h2 pic from View.write_whole_univ ..]; exact fetched_full L _ pic, hg⟩
  · iexact Hs1
  · iexact Hs2

/-- The last tile: the same, of seven rows. -/
theorem fetch_last (h1 : k0_cond1 L = 1#1) (h2 : ¬ k0_cond2 L = 1#1) (h3 : isLast L = 1#1) (h0 : row0 L = 368) (O : CellTallies nD τ sig (HIx 1)) (W : Waits sig (HIx 1))
    (q q' : PosShare TreeShare) (pic : Vec F S375x320 .f32) (tok : Vec F S80 .f32) (f7 : Vec F S16x320 .f32) (f8 : Vec F S5440 .f32) (f9 : Vec F S80 .f32)
    {Q : _ → sProp 𝕄} :
    iprop(Transfers.MayWaits (thr d L) (default : HIx 1) O ∗ picPts d L q pic ∗ tokPts d L q' tok ∗ ((s7).view.loc (thr d L) ↦{fullShare} (f7 : Buf (Elt F) ((thr d L).loc cc0_scratch2))) ∗ pts8 d L f8 ∗ ((s9).view.loc (thr d L) ↦{fullShare} (f9 : Buf (Elt F) ((thr d L).loc cc0_scratch4)))
        ∗ semVal (semT d L) 0 ∗ semVal (semB d L) 0 ∗ owes (thr d L) O W)
      ⊢ iprop((∀ r raw f W', ⌜r = sums raw ∧ Fetched L pic raw ∧ Staged raw 16 0 f⌝ -∗ picPts d L q pic -∗ tokPts d L q' tok -∗ pts7 d L raw -∗ pts8 d L f -∗ pts9 d L tok
          -∗ semVal (semT d L) 0 -∗ semVal (semB d L) 0 -∗ owes (thr d L) O W' -∗ Q r)
        -∗ run d L (k0_part17 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 (wid L) lanes k0_pay1 h1) Q) := by
  iintro ⟨#Hmw, Hp, Ht, H7, H8, H9, Hs1, Hs2, HO⟩ HQ
  rw [k0_part17_eq_skeleton]
  unfold run
  sl_unfold [k0_part17_skel]
  sl_exec (disch := first | sl_exact h2 | sl_exact h3)
  rw [show View.write (Elt F) (s9).view f9 (fetch_last.sl.dma0 tok) Finset.univ = tok from View.write_whole_univ ..]
  iapply (sum_loops d L (wid L) h1) $$ [H7 H8]
  · isplitl [H7] <;> iassumption
  iintro %g %hg H7 H8
  iapply run_pure
  iapply HQ $$ [] Hp Ht H7 H8 H9 [Hs1] [Hs2] HO
  · ipureintro
    exact ⟨rfl, fetched_last L h0 pic f7, hg⟩
  · iexact Hs1
  · iexact Hs2

/-- The copies in, the staging and the sums of the chunks, of either tile. -/
theorem fetch (h1 : k0_cond1 L = 1#1) (O : CellTallies nD τ sig (HIx 1)) (W : Waits sig (HIx 1))
    (q q' : PosShare TreeShare) (pic : Vec F S375x320 .f32) (tok : Vec F S80 .f32) (f7 : Vec F S16x320 .f32) (f8 : Vec F S5440 .f32) (f9 : Vec F S80 .f32)
    {Q : _ → sProp 𝕄} :
    iprop(Transfers.MayWaits (thr d L) (default : HIx 1) O ∗ picPts d L q pic ∗ tokPts d L q' tok ∗ pts7 d L f7 ∗ pts8 d L f8 ∗ pts9 d L f9
        ∗ semVal (semT d L) 0 ∗ semVal (semA d L) 0 ∗ semVal (semB d L) 0 ∗ owes (thr d L) O W)
      ⊢ iprop((∀ r raw f W', ⌜r = sums raw ∧ Fetched L pic raw ∧ Staged raw 16 0 f⌝ -∗ picPts d L q pic -∗ tokPts d L q' tok -∗ pts7 d L raw -∗ pts8 d L f -∗ pts9 d L tok
          -∗ semVal (semT d L) 0 -∗ semVal (semA d L) 0 -∗ semVal (semB d L) 0 -∗ owes (thr d L) O W' -∗ Q r)
        -∗ run d L (k0_part17 (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3 (wid L) lanes k0_pay1 h1) Q) := by
  iintro ⟨Hmw, Hp, Ht, H7, H8, H9, HsT, HsA, HsB, HO⟩ HQ
  rcases tile_cases L with ⟨-, -, h2, -, h3⟩ | ⟨h0, -, h2, -, h3⟩ | ⟨-, h⟩
  · iapply (fetch_full d L h1 h2 h3 O W q q' pic tok f7 f8 f9) $$ [Hmw Hp Ht H7 H8 H9 HsT HsA HO]
    · isplitl [Hmw]; · iexact Hmw
      isplitl [Hp]; · iexact Hp
      isplitl [Ht]; · iexact Ht
      isplitl [H7]; · iexact H7
      isplitl [H8]; · iexact H8
      isplitl [H9]; · iexact H9
      isplitl [HsT]; · iexact HsT
      isplitl [HsA]; · iexact HsA
      iexact HO
    iintro %r %raw %f %W' %h Hp Ht H7 H8 H9 HsT HsA HO
    iapply HQ $$ [] Hp Ht H7 H8 H9 HsT HsA HsB HO
    ipureintro; exact h
  · iapply (fetch_last d L h1 h2 h3 h0 O W q q' pic tok f7 f8 f9) $$ [Hmw Hp Ht H7 H8 H9 HsT HsB HO]
    · isplitl [Hmw]; · iexact Hmw
      isplitl [Hp]; · iexact Hp
      isplitl [Ht]; · iexact Ht
      isplitl [H7]; · iexact H7
      isplitl [H8]; · iexact H8
      isplitl [H9]; · iexact H9
      isplitl [HsT]; · iexact HsT
      isplitl [HsB]; · iexact HsB
      iexact HO
    iintro %r %raw %f %W' %h Hp Ht H7 H8 H9 HsT HsB HO
    iapply HQ $$ [] Hp Ht H7 H8 H9 HsT HsA HsB HO
    ipureintro; exact h
  · exact absurd h1 h

end Cert.Tile
-- ==== Proof.Rows.lean ====
/-
  The result of the kernel row by row: a row of the result depends on the same row of the staged rows alone.
-/
module

public import proofs.«01_k».proof.Proof.Fetch

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- Sixteen copies of a row. -/
def line (p : Fin 320 → F .f32) : Vec F S16x320 .f32 := fun y => p (y 1)

/-- The distances in a row. -/
def rowDist (p : Fin 320 → F .f32) (tok : Vec F S80 .f32) (i : Fin 25) : F .f32 := pairDist (line p) tok i (ix1 0)

/-- The tokens assigned to a row's chunks. -/
def rowAssign (p : Fin 320 → F .f32) (tok : Vec F S80 .f32) (c : Fin 5) : BitVec 32 := (rounds (rowDist p tok) 5).2 c

/-- The kernel's result, before its last reshape, from its two arrays. -/
def result (pic : Vec F S375x320 .f32) (tok : Vec F S80 .f32) : Vec F S375x320 .f32 :=
  fun y => rowOut tok (rowAssign (fun w => pic (ix2 (y 0) w)) tok) (y 1)

/-- Running sums of equal terms are equal. -/
theorem csum_congr {g g' : ℕ → FVec F S16 .f32} {x x' : S16.Idx} (h : ∀ i, g i x = g' i x') (n : ℕ) : csum g n x = csum g' n x' := by
  induction n with
  | zero => rfl
  | succ n ih =>
    show FloatOps.addf (csum g n x) (FloatOps.mulf (g n x) (g n x)) = FloatOps.addf (csum g' n x') (FloatOps.mulf (g' n x') (g' n x'))
    rw [ih, h]

/-- A distance depends on its own row alone. -/
theorem pairDist_row (raw : Vec F S16x320 .f32) (tok : Vec F S80 .f32) (i : Fin 25) (x : S16.Idx) :
    pairDist raw tok i x = rowDist (fun w => raw (ix2 (x 0) w)) tok i := by
  unfold rowDist pairDist dist
  have h : ∀ w, col raw w x = col (line fun w => raw (ix2 (x 0) w)) w (ix1 0) := fun _ => rfl
  have h' : ∀ w k j, subf (col raw w) (tokv tok k j) x = subf (col (line fun w => raw (ix2 (x 0) w)) w) (tokv tok k j) (ix1 0) :=
    fun _ _ _ => rfl
  exact congrArg₂ FloatOps.addf (congrArg₂ FloatOps.subf (csum_congr (fun _ => h _) 64) (csum_congr (fun _ => h _) 13))
    (csum_congr (fun _ => h' _ _ _) 13)

/-- A row of a tile's output is the row's own. -/
theorem tileOut_row (raw : Vec F S16x320 .f32) (tok : Vec F S80 .f32) (y : S16x320.Idx) :
    tileOut raw tok y = rowOut tok (rowAssign (fun w => raw (ix2 (y 0) w)) tok) (y 1) := by
  show rowOut tok (fun c => (rounds (fun i => pairDist raw tok i (ix1 (y 0))) 5).2 c) (y 1) = _
  rw [show (fun i => pairDist raw tok i (ix1 (y 0))) = rowDist (fun w => raw (ix2 (y 0) w)) tok from
    funext fun i => pairDist_row raw tok i (ix1 (y 0))]
  rfl

/-- The tile's output is the result's rows. -/
theorem tileOut_result {pic : Vec F S375x320 .f32} {raw : Vec F S16x320 .f32} (h : Fetched L pic raw) (tok : Vec F S80 .f32)
    (l : Fin 16) (w : Fin 320) (hl : row0 L + l.val < 375) :
    tileOut raw tok (ix2 l w) = result pic tok (ix2 ⟨row0 L + l.val, hl⟩ w) := by
  rw [tileOut_row]
  show rowOut tok (rowAssign (fun w => raw (ix2 l w)) tok) w = rowOut tok (rowAssign (fun w => pic (ix2 ⟨row0 L + l.val, hl⟩ w)) tok) w
  rw [show (fun w => raw (ix2 l w)) = fun w => pic (ix2 ⟨row0 L + l.val, hl⟩ w) from funext fun w => h l w hl]

end Cert.Tile
-- ==== Proof.Tile.lean ====
/-
  One vector subcore's task: from its shares of the arrays to its rows of the result.
-/
module

public import proofs.«01_k».proof.Proof.Rows

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (d : Dev nD) (L : grid0.Coords)

/-- The rows of the tile. -/
def outSet : Finset S375x320.Idx := Finset.univ.filter fun y => row0 L ≤ (y 0).val ∧ (y 0).val < row0 L + 16

/-- The rows of the tile in the result's array. -/
abbrev outPts (f : Vec F S375x320 .f32) : sProp 𝕄 :=
  (aO).view.loc (thr d L) ↦[outSet L]{fullShare} (f : Buf (Elt F) ((aO).view.loc (thr d L)))

/-- The rows of the tile as the copies out name them. -/
abbrev fullOut (h : ∀ a, k0_off42 L a + S16x320.size a ≤ S375x320.size a) : Memref sig .scVector .hbm S16x320 .f32 :=
  (aO).slice (Rect.unit (s := S375x320) (k0_off42 L) S16x320.size h) (fun _ => rfl)
abbrev lastOut : Memref sig .scVector .hbm S7x320 .f32 :=
  (aO).slice (Rect.unit (s := S375x320) ![368, 0] S7x320.size inb_S375x320_S7x320_368_0) (fun _ => rfl)

omit [FloatOps F] in
/-- Where sixteen output rows lie. -/
theorem fullOut_emb (h0 : row0 L + 16 ≤ 375) (h : ∀ a, k0_off42 L a + S16x320.size a ≤ S375x320.size a) (y : S16x320.Idx) :
    (fullOut L h).view.emb y = ix2 (⟨row0 L + (y 0).val, have := (y 0).isLt; by change (y 0).val < 16 at this; omega⟩ : Fin 375) (y 1) := by
  have e0 : k0_off42 L 0 = row0 L := by rw [k0_off42_eq]; rfl
  have e1 : k0_off42 L 1 = 0 := by rw [k0_off42_eq]; rfl
  refine funext fun a => Fin.ext ?_
  match a with
  | ⟨0, _⟩ => show k0_off42 L 0 + 1 * (y 0).val = row0 L + (y 0).val; omega
  | ⟨1, _⟩ => show k0_off42 L 1 + 1 * (y 1).val = (y 1).val; omega

omit [FloatOps F] in
/-- Where the last seven lie. -/
theorem lastOut_emb (y : S7x320.Idx) :
    (lastOut).view.emb y = ix2 (⟨368 + (y 0).val, have := (y 0).isLt; by change (y 0).val < 7 at this; omega⟩ : Fin 375) (y 1) := by
  refine funext fun a => Fin.ext ?_
  match a with
  | ⟨0, _⟩ => show 368 + 1 * (y 0).val = 368 + (y 0).val; omega
  | ⟨1, _⟩ => show 0 + 1 * (y 1).val = (y 1).val; omega

omit [FloatOps F] in
/-- The sixteen rows are the subcore's. -/
theorem set_fullOut (h0 : row0 L + 16 ≤ 375) (h : ∀ a, k0_off42 L a + S16x320.size a ≤ S375x320.size a) :
    (fullOut L h).view.set = outSet L := by
  ext z
  unfold outSet
  simp only [Finset.mem_filter, Finset.mem_univ, true_and]
  constructor
  · intro hz
    obtain ⟨y, -, rfl⟩ := Finset.mem_map.1 hz
    have := (y 0).isLt
    change (y 0).val < 16 at this
    rw [fullOut_emb L h0 h]
    show row0 L ≤ row0 L + (y 0).val ∧ row0 L + (y 0).val < row0 L + 16
    omega
  · intro hz
    refine Finset.mem_map.2 ⟨ix2 (⟨(z 0).val - row0 L, by omega⟩ : Fin 16) (z 1), Finset.mem_univ _, ?_⟩
    rw [fullOut_emb L h0 h]
    refine funext fun a => Fin.ext ?_
    match a with
    | ⟨0, _⟩ => show row0 L + ((z 0).val - row0 L) = (z 0).val; omega
    | ⟨1, _⟩ => rfl

omit [FloatOps F] in
/-- The last seven are the last subcore's. -/
theorem set_lastOut (h0 : row0 L = 368) : (lastOut).view.set = outSet L := by
  ext z
  unfold outSet
  simp only [Finset.mem_filter, Finset.mem_univ, true_and]
  have hlt := (z 0).isLt
  change (z 0).val < 375 at hlt
  constructor
  · intro hz
    obtain ⟨y, -, rfl⟩ := Finset.mem_map.1 hz
    have := (y 0).isLt
    change (y 0).val < 7 at this
    rw [lastOut_emb]
    show row0 L ≤ 368 + (y 0).val ∧ 368 + (y 0).val < row0 L + 16
    omega
  · intro hz
    refine Finset.mem_map.2 ⟨ix2 (⟨(z 0).val - 368, by omega⟩ : Fin 7) (z 1), Finset.mem_univ _, ?_⟩
    rw [lastOut_emb]
    refine funext fun a => Fin.ext ?_
    match a with
    | ⟨0, _⟩ => show 368 + ((z 0).val - 368) = (z 0).val; omega
    | ⟨1, _⟩ => rfl

omit [FloatOps F] in
/-- The subcore's rows, as the copy out names them. -/
theorem pts_fullOut (h0 : row0 L + 16 ≤ 375) (h : ∀ a, k0_off42 L a + S16x320.size a ≤ S375x320.size a) (f : Vec F S375x320 .f32) :
    ((fullOut L h).view.loc (thr d L) ↦[(fullOut L h).view.set]{fullShare} (f : Buf (Elt F) ((aO).view.loc (thr d L))) : sProp 𝕄) = outPts d L f := by
  rw [set_fullOut L h0 h]
omit [FloatOps F] in
/-- The last rows, as the copy out names them. -/
theorem pts_lastOut (h0 : row0 L = 368) (f : Vec F S375x320 .f32) :
    ((lastOut).view.loc (thr d L) ↦[(lastOut).view.set]{fullShare} (f : Buf (Elt F) ((aO).view.loc (thr d L))) : sProp 𝕄) = outPts d L f := by
  rw [set_lastOut L h0]

/-- The copy out of a full tile leaves the result's rows. -/
theorem full_done (h0 : row0 L + 16 ≤ 375) (h : ∀ a, k0_off42 L a + S16x320.size a ≤ S375x320.size a) {pic : Vec F S375x320 .f32} {raw : Vec F S16x320 .f32}
    (hF : Fetched L pic raw) (tok : Vec F S80 .f32) (out : Vec F S375x320 .f32) :
    ((fullOut L h).view.loc (thr d L) ↦[(fullOut L h).view.set]{fullShare}
        ((fullOut L h).view.writes (Elt F) out [⟨Rect.whole S16x320, tileOut raw tok⟩] : Buf (Elt F) ((aO).view.loc (thr d L))) : sProp 𝕄)
      = outPts d L (result pic tok) := by
  have key : ∀ y : S16x320.Idx, tileOut raw tok y = result pic tok ((fullOut L h).view.emb y) := fun y => by
    have hy := (y 0).isLt
    change (y 0).val < 16 at hy
    rw [fullOut_emb L h0 h]
    have e := tileOut_result L hF tok (y 0) (y 1) (by omega)
    exact (congrArg (tileOut raw tok) (eq_ix2 y)).trans e
  refine Eq.trans (pointsTo_congr fun i hi => ?_) (pts_fullOut d L h0 h _)
  obtain ⟨y, -, rfl⟩ := Finset.mem_map.1 hi
  have e := congrFun (View.read_writes_whole (Val := Elt F) (fullOut L h).view out (tileOut raw tok)) y
  generalize (fullOut L h).view.writes (Elt F) out [⟨Rect.whole S16x320, tileOut raw tok⟩] = g at e ⊢
  exact e.trans (key y)

/-- The copy out of the last tile leaves the result's rows. -/
theorem last_done (h0 : row0 L = 368) {pic : Vec F S375x320 .f32} {raw : Vec F S16x320 .f32}
    (hF : Fetched L pic raw) (tok : Vec F S80 .f32) (out : Vec F S375x320 .f32) :
    ((lastOut).view.loc (thr d L) ↦[(lastOut).view.set]{fullShare}
        ((lastOut).view.writes (Elt F) out [⟨Rect.whole S7x320, View.read (Elt F) ((s11).slice (Rect.unit (s := S16x320) ![0, 0] S7x320.size inb_S16x320_S7x320_0_0) (fun _ => rfl)).view (tileOut raw tok)⟩]
          : Buf (Elt F) ((aO).view.loc (thr d L))) : sProp 𝕄)
      = outPts d L (result pic tok) := by
  rw [← pts_lastOut d L h0]
  refine pointsTo_congr fun i hi => ?_
  obtain ⟨y, -, rfl⟩ := Finset.mem_map.1 hi
  refine (congrFun (View.read_writes_whole (lastOut).view out _) y).trans ?_
  rw [lastOut_emb]
  have := (y 0).isLt
  change (y 0).val < 7 at this
  have e : ((s11).slice (Rect.unit (s := S16x320) ![0, 0] S7x320.size inb_S16x320_S7x320_0_0) (fun _ => rfl)).view.emb y
      = ix2 (⟨(y 0).val, by omega⟩ : Fin 16) (y 1) := by
    refine funext fun a => Fin.ext ?_
    match a with
    | ⟨0, _⟩ => show 0 + 1 * (y 0).val = (y 0).val; omega
    | ⟨1, _⟩ => show 0 + 1 * (y 1).val = (y 1).val; omega
  refine (congrArg (tileOut raw tok) e).trans ((tileOut_result L hF tok ⟨(y 0).val, by omega⟩ (y 1) (by show row0 L + (y 0).val < 375; omega)).trans ?_)
  exact congrArg (fun z => result pic tok (ix2 z (y 1))) (Fin.ext (show row0 L + (y 0).val = 368 + (y 0).val by omega))

set_option maxHeartbeats 1000000 in
/-- The body of the task, over its operands, its scratch buffers and its semaphores. -/
theorem body (O : CellTallies nD τ sig (HIx 1)) (W : Waits sig (HIx 1))
    (q q' : PosShare TreeShare) (pic : Vec F S375x320 .f32) (tok : Vec F S80 .f32) (out : Vec F S375x320 .f32)
    (f7 : Vec F S16x320 .f32) (f8 : Vec F S5440 .f32) (f9 : Vec F S80 .f32) (f10 : Vec F S88 .i32) (f11 : Vec F S16x320 .f32) :
    iprop(Transfers.MayWaits (thr d L) (default : HIx 1) O ∗ (picPts d L q pic ∗ tokPts d L q' tok ∗ outPts d L out)
        ∗ (pts7 d L f7 ∗ pts8 d L f8 ∗ pts9 d L f9 ∗ pts10 d L f10 ∗ pts11 d L f11)
        ∗ (semVal (semT d L) 0 ∗ semVal (semA d L) 0 ∗ semVal (semB d L) 0 ∗ semVal (semC d L) 0 ∗ semVal (semE d L) 0) ∗ owes (thr d L) O W)
      ⊢ run d L (cc0__body (F := F) L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3)
          fun _ => iprop((picPts d L q pic ∗ tokPts d L q' tok ∗ outPts d L (result pic tok))
            ∗ ((∃ f, pts7 d L f) ∗ (∃ f, pts8 d L f) ∗ (∃ f, pts9 d L f) ∗ (∃ f, pts10 d L f) ∗ ∃ f, pts11 d L f)
            ∗ (semVal (semT d L) 0 ∗ semVal (semA d L) 0 ∗ semVal (semB d L) 0 ∗ semVal (semC d L) 0 ∗ semVal (semE d L) 0)
            ∗ ∃ W', owes (thr d L) O W') := by
  iintro ⟨#Hmw, ⟨Hp, Ht, Ho⟩, ⟨H7, H8, H9, H10, H11⟩, ⟨HsT, HsA, HsB, HsC, HsE⟩, HO⟩
  rw [cc0__body_eq_skeleton]
  unfold cc0__body_skel
  by_cases h1 : k0_cond1 L = 1#1
  · rw [dif_pos h1]
    rw [run_bind]
    iapply (fetch d L h1 O W q q' pic tok f7 f8 f9) $$ [Hp Ht H7 H8 H9 HsT HsA HsB HO]
    · isplitr; · iexact Hmw
      isplitl [Hp]; · iexact Hp
      isplitl [Ht]; · iexact Ht
      isplitl [H7]; · iexact H7
      isplitl [H8]; · iexact H8
      isplitl [H9]; · iexact H9
      isplitl [HsT]; · iexact HsT
      isplitl [HsA]; · iexact HsA
      isplitl [HsB]; · iexact HsB
      iexact HO
    iintro %r %raw %f %W' %h Hp Ht H7 H8 H9 HsT HsA HsB HO
    obtain ⟨rfl, hF, hS⟩ := h
    rw [run_bind]
    iapply (part18 d L hS h1) $$ [H8 H9]
    · isplitl [H8] <;> iassumption
    iintro %r %hr H8 H9
    subst hr
    rw [run_bind]
    iapply (part19 d L hS h1) $$ [H8 H9]
    · isplitl [H8] <;> iassumption
    iintro %r %hr H8 H9
    subst hr
    rw [run_bind]
    iapply (part20 d L h1) $$ H10
    iintro H10
    rw [run_bind]
    iapply (emit_loop d L (assigned_lt raw tok) h1) $$ [H9 H10 H11]
    · isplitl [H9]; · iexact H9
      isplitl [H10]; · iexact H10
      iexact H11
    iintro %g H9 H10 H11
    ihave H11' := (Entails.of_eq (show pts11 d L (rowsOut tok (assigned raw tok)) = ((s11).view.loc (thr d L) ↦{fullShare} (tileOut raw tok : Buf (Elt F) ((thr d L).loc cc0_scratch6)) : sProp 𝕄) from rfl)) $$ H11
    unfold run
    rcases tile_cases L with ⟨h0, -, -, h4, h5⟩ | ⟨h0, -, -, h4, h5⟩ | ⟨-, h⟩
    · ihave Ho' := (Entails.of_eq (pts_fullOut d L h0 (k0_off42_inb L h1 h4) out).symm) $$ Ho
      sl_exec (disch := first | sl_exact h4 | sl_exact h5)
      iapply run_pure
      isplitl [Hp Ht Ho']
      · isplitl [Hp]; · iexact Hp
        isplitl [Ht]; · iexact Ht
        iapply (Entails.of_eq (full_done d L h0 (k0_off42_inb L h1 h4) hF tok out)); iexact Ho'
      isplitl [H7 H8 H9 H10 H11']
      · isplitl [H7]; · iexists _; iexact H7
        isplitl [H8]; · iexists _; iexact H8
        isplitl [H9]; · iexists _; iexact H9
        isplitl [H10]; · iexists _; iexact H10
        iexists _; iexact H11'
      isplitl [HsT HsA HsB HsC HsE]
      · isplitl [HsT]; · iexact HsT
        isplitl [HsA]; · iexact HsA
        isplitl [HsB]; · iexact HsB
        isplitl [HsC]; · iexact HsC
        iexact HsE
      iexists _; iexact HO
    · ihave Ho' := (Entails.of_eq (pts_lastOut d L h0 out).symm) $$ Ho
      sl_exec (disch := first | sl_exact h4 | sl_exact h5)
      iapply run_pure
      isplitl [Hp Ht Ho']
      · isplitl [Hp]; · iexact Hp
        isplitl [Ht]; · iexact Ht
        iapply (Entails.of_eq (last_done d L h0 hF tok out)); iexact Ho'
      isplitl [H7 H8 H9 H10 H11']
      · isplitl [H7]; · iexists _; iexact H7
        isplitl [H8]; · iexists _; iexact H8
        isplitl [H9]; · iexists _; iexact H9
        isplitl [H10]; · iexists _; iexact H10
        iexists _; iexact H11'
      isplitl [HsT HsA HsB HsC HsE]
      · isplitl [HsT]; · iexact HsT
        isplitl [HsA]; · iexact HsA
        isplitl [HsB]; · iexact HsB
        isplitl [HsC]; · iexact HsC
        iexact HsE
      iexists _; iexact HO
    · exact absurd h1 h
  · have hE : outSet L = ∅ := by
      rcases tile_cases L with ⟨-, h, -⟩ | ⟨-, h, -⟩ | ⟨h0, -⟩
      · exact absurd h h1
      · exact absurd h h1
      · exact Finset.filter_eq_empty_iff.2 fun y _ hy => by
          have := (y 0).isLt
          change (y 0).val < 375 at this
          omega
    rw [dif_neg h1]
    iapply run_pure
    isplitl [Hp Ht Ho]
    · isplitl [Hp]; · iexact Hp
      isplitl [Ht]; · iexact Ht
      iapply (Entails.of_eq (show outPts d L out = outPts d L (result pic tok) from pointsTo_congr fun i hi => absurd (hE ▸ hi) (Finset.notMem_empty i))); iexact Ho
    isplitl [H7 H8 H9 H10 H11]
    · isplitl [H7]; · iexists _; iexact H7
      isplitl [H8]; · iexists _; iexact H8
      isplitl [H9]; · iexists _; iexact H9
      isplitl [H10]; · iexists _; iexact H10
      iexists _; iexact H11
    isplitl [HsT HsA HsB HsC HsE]
    · isplitl [HsT]; · iexact HsT
      isplitl [HsA]; · iexact HsA
      isplitl [HsB]; · iexact HsB
      isplitl [HsC]; · iexact HsC
      iexact HsE
    iexists _; iexact HO

end Cert.Tile
-- ==== Proof.Launch.lean ====
/-
  The kernel's one call: what each vector subcore is handed and hands back, its task as the launch asks for it, and the
  arrays dealt over the thirty-two subcores and put together again.
-/
module

public import proofs.«01_k».proof.Proof.Tile

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

variable (m : (ℓ : Loc nD τ sig) → Buf (Elt F) ℓ)

/-! ## The coordinates and the shares -/

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of one subcore: the whole dealt over the cores, then over the subcores of a core. -/
def share (L : grid0.Coords) : PosShare TreeShare :=
  Transfers.dealOf (Transfers.dealOf fullShare Finset.univ (L 0)) Finset.univ (L 1)

/-- Something for every subcore. -/
def each (Φ : grid0.Coords → sProp 𝕄) : sProp 𝕄 :=
  bigSep Finset.univ fun c : Fin (grid0.bound 0) => bigSep Finset.univ fun i : Fin (grid0.bound 1) => Φ (coordsV c i)

omit [FloatOps F] in
/-- Handing out two things is handing out the two together. -/
theorem each_sep (Φ Ψ : grid0.Coords → sProp 𝕄) : each (fun L => iprop(Φ L ∗ Ψ L)) = iprop(each Φ ∗ each Ψ) := by
  unfold each
  simp only [bigSep_sep']

/-- There is a SparseCore. -/
theorem core_nonempty : (Finset.univ : Finset (Fin (grid0.bound 0))).Nonempty := ⟨(⟨0, by decide⟩ : Fin (grid0.bound 0)), Finset.mem_univ _⟩
/-- There is a subcore. -/
theorem sub_nonempty : (Finset.univ : Finset (Fin (grid0.bound 1))).Nonempty := ⟨(⟨0, by decide⟩ : Fin (grid0.bound 1)), Finset.mem_univ _⟩

abbrev picLoc (d : Dev nD) : Loc nD τ sig := (SparseCore.T d).loc main_v0
abbrev tokLoc (d : Dev nD) : Loc nD τ sig := (SparseCore.T d).loc main_v2
abbrev outLoc (d : Dev nD) : Loc nD τ sig := (SparseCore.T d).loc main_v3

omit [FloatOps F] in
/-- The picture held whole is a read share of it at every subcore. -/
theorem pic_each (d : Dev nD) (f : Vec F S375x320 .f32) :
    (picLoc d ↦{fullShare} (f : Buf (Elt F) (picLoc d)) : sProp 𝕄) = each fun L => picPts d L (share L) f := by
  rw [Transfers.pointsTo_deal Finset.univ core_nonempty fullShare]
  exact bigSep_congr fun c _ => Transfers.pointsTo_deal Finset.univ sub_nonempty _

omit [FloatOps F] in
/-- The token row held whole is a read share of it at every subcore. -/
theorem tok_each (d : Dev nD) (f : Vec F S80 .f32) :
    (tokLoc d ↦{fullShare} (f : Buf (Elt F) (tokLoc d)) : sProp 𝕄) = each fun L => tokPts d L (share L) f := by
  rw [Transfers.pointsTo_deal Finset.univ core_nonempty fullShare]
  exact bigSep_congr fun c _ => Transfers.pointsTo_deal Finset.univ sub_nonempty _

/-- The output rows of a subcore. -/
theorem mem_outSet (c : Fin (grid0.bound 0)) (i : Fin (grid0.bound 1)) (y : S375x320.Idx) :
    y ∈ outSet (coordsV c i) ↔ 32 * i.val + 16 * c.val ≤ (y 0).val ∧ (y 0).val < 32 * i.val + 16 * c.val + 16 := by
  unfold outSet
  exact Finset.mem_filter.trans (and_iff_right (Finset.mem_univ _))

/-- No two subcores write the same rows. -/
theorem outSet_disjoint : ∀ p ∈ (Finset.univ : Finset (Fin (grid0.bound 0) × Fin (grid0.bound 1))), ∀ q ∈ (Finset.univ : Finset (Fin (grid0.bound 0) × Fin (grid0.bound 1))),
    p ≠ q → Disjoint (outSet (coordsV p.1 p.2)) (outSet (coordsV q.1 q.2)) := by
  intro p _ q _ h
  rw [Finset.disjoint_left]
  intro y hp hq
  replace hp := (mem_outSet p.1 p.2 y).1 hp
  replace hq := (mem_outSet q.1 q.2 y).1 hq
  have b1 : p.1.val < 2 := p.1.isLt
  have b2 : q.1.val < 2 := q.1.isLt
  apply h
  refine Prod.ext (Fin.ext ?_) (Fin.ext ?_) <;> omega

/-- Together they write all of them. -/
theorem outSet_cover : (Finset.univ : Finset (Fin (grid0.bound 0) × Fin (grid0.bound 1))).biUnion (fun p => outSet (coordsV p.1 p.2)) = Finset.univ := by
  refine Finset.eq_univ_iff_forall.2 fun y => ?_
  have hy : (y 0).val < 375 := (y 0).isLt
  refine Finset.mem_biUnion.2 ⟨((⟨(y 0).val / 16 % 2, show _ < 2 by omega⟩ : Fin (grid0.bound 0)), (⟨(y 0).val / 32, show _ < 16 by omega⟩ : Fin (grid0.bound 1))), Finset.mem_univ _, (mem_outSet _ _ y).2 ?_⟩
  show 32 * ((y 0).val / 32) + 16 * ((y 0).val / 16 % 2) ≤ (y 0).val ∧ (y 0).val < 32 * ((y 0).val / 32) + 16 * ((y 0).val / 16 % 2) + 16
  omega

omit [FloatOps F] in
/-- The output held whole is each subcore's rows of it. -/
theorem out_each (d : Dev nD) (f : Vec F S375x320 .f32) :
    (outLoc d ↦{fullShare} (f : Buf (Elt F) (outLoc d)) : sProp 𝕄) = each fun L => outPts d L f := by
  unfold each
  rw [← bigSep_univ_prod (fun p : Fin (grid0.bound 0) × Fin (grid0.bound 1) => outPts (F := F) d (coordsV p.1 p.2) f)]
  refine Eq.trans ?_ (pointsTo_biUnion Finset.univ (ℓ := outLoc d) (fun p : Fin (grid0.bound 0) × Fin (grid0.bound 1) => outSet (coordsV p.1 p.2)) outSet_disjoint)
  rw [outSet_cover]

/-! ## What the call carries -/

/-- The picture as rows of 320 words, as the host lays it out before the call. -/
def picV (d : Dev nD) : Vec F S375x320 .f32 := shapeCast S375x320 (m ((SparseCore.T d).loc main_arg0)) shapeCasts_S375x5x64_S375x320
/-- The tokens as one row of 80 words, 8 zeros before and 7 after. -/
def tokV (d : Dev nD) : Vec F S80 .f32 :=
  pad S80 ![8] ![7] ![0] (shapeCast S65 (m ((SparseCore.T d).loc main_arg1)) shapeCasts_S5x13_S65) (sitofp .f32 (constantI S_ 32 0#32)) pads_S65_S80_870 h_S_

/-- What a subcore is handed: a read share of the picture and of the tokens, and its own rows of the output. -/
def given (d : Dev nD) (L : grid0.Coords) : sProp 𝕄 :=
  iprop(picPts d L (share L) (picV m d) ∗ tokPts d L (share L) (tokV m d) ∗ outPts d L (m (outLoc d)))
/-- What it hands back: the same, its rows at the result. -/
def taken (d : Dev nD) (L : grid0.Coords) : sProp 𝕄 :=
  iprop(picPts d L (share L) (picV m d) ∗ tokPts d L (share L) (tokV m d) ∗ outPts d L (result (picV m d) (tokV m d)))

/-- Each core is handed what its subcores are, and hands back what they do. -/
def P : (K (F := F)).Pay (nD := nD) (Val := Elt F) (Name := ℕ) (U := UU) where
  st := fun q d c => match q with | 0 => bigSep Finset.univ fun i : Fin (grid0.bound 1) => given m d (coordsV c i)
  dn := fun q d c => match q with | 0 => bigSep Finset.univ fun i : Fin (grid0.bound 1) => taken m d (coordsV c i)
  go := fun q d c i => match q with | 0 => given m d (coordsV c i)
  td := fun q d c i => match q with | 0 => taken m d (coordsV c i)
  x := fun _ _ => iprop(emp)

instance given_storable (d : Dev nD) (L : grid0.Coords) : BI.Storable (upEmb : UEmb _ 𝕄) (given m d L) := by
  unfold given; infer_instance
instance taken_storable (d : Dev nD) (L : grid0.Coords) : BI.Storable (upEmb : UEmb _ 𝕄) (taken m d L) := by
  unfold taken; infer_instance

instance P_storable : (P (F := F) m).IsStorable where
  st q d c := match q with
    | 0 => (inferInstance : BI.Storable (upEmb : UEmb _ 𝕄) (bigSep Finset.univ fun i : Fin (grid0.bound 1) => given m d (coordsV c i)))
  dn q d c := match q with
    | 0 => (inferInstance : BI.Storable (upEmb : UEmb _ 𝕄) (bigSep Finset.univ fun i : Fin (grid0.bound 1) => taken m d (coordsV c i)))
  go q d c i := match q with | 0 => given_storable m d (coordsV c i)
  td q d c i := match q with | 0 => taken_storable m d (coordsV c i)

/-- What a SparseCore is given is what its subcores are given, and likewise for what comes back. -/
theorem vecSplit : (K (F := F)).VecSplit' (P m) 0 := by
  intro d c
  show (bigSep Finset.univ fun i : Fin (grid0.bound 1) => given m d (coordsV c i)) ⊢ |={Set.univ}=> iprop(
      (bigSep Finset.univ fun i : Fin (grid0.bound 1) => given m d (coordsV c i))
      ∗ ((bigSep Finset.univ fun i : Fin (grid0.bound 1) => taken m d (coordsV c i))
          -∗ (bigSep Finset.univ fun i : Fin (grid0.bound 1) => taken m d (coordsV c i))))
  iintro H; imodintro
  isplitl [H]; · iexact H
  iintro H; iexact H

/-! ## The subcore's own semaphores and buffers -/

section Task

variable (d : Dev nD) (L : grid0.Coords)

/-- The index of a semaphore tells it from another. -/
theorem sem_ne (a b : DmaSem sig) (h : a ≠ b) : ((thr d L, SemLoc.dma a) : GSem nD τ sig) ≠ (thr d L, SemLoc.dma b) :=
  fun e => h (SemLoc.dma.inj (Prod.mk.inj e).2)

omit [FloatOps F] in
/-- The subcore's own semaphores: the five its copies signal, and the rest. -/
theorem ownSems0_V :
    (ownSems0 (thr d L) : sProp 𝕄)
      = iprop(semVal (semT d L) 0 ∗ semVal (semA d L) 0 ∗ semVal (semB d L) 0 ∗ semVal (semC d L) 0 ∗ semVal (semE d L) 0
          ∗ bigSep ((((((ownCells (thr d L)).erase (semT d L)).erase (semA d L)).erase (semB d L)).erase (semC d L)).erase (semE d L)) fun g => semVal g 0) := by
  unfold SparseCore.Cfg.ownSems0
  rw [SparseCore.bigSep_erase' ((mem_ownCells (g := (semT d L))).mpr ⟨rfl, by show (SemLoc.dma cc0_scratch1.sem : SemLoc sig).isScoped .scVector = true; decide⟩),
    SparseCore.bigSep_erase' (Finset.mem_erase.mpr ⟨sem_ne d L cc0_scoped0.sem cc0_scratch1.sem (by decide), ((mem_ownCells (g := (semA d L))).mpr ⟨rfl, by show (SemLoc.dma cc0_scoped0.sem : SemLoc sig).isScoped .scVector = true; decide⟩)⟩),
    SparseCore.bigSep_erase' (Finset.mem_erase.mpr ⟨sem_ne d L cc0_scoped1.sem cc0_scoped0.sem (by decide), (Finset.mem_erase.mpr ⟨sem_ne d L cc0_scoped1.sem cc0_scratch1.sem (by decide), ((mem_ownCells (g := (semB d L))).mpr ⟨rfl, by show (SemLoc.dma cc0_scoped1.sem : SemLoc sig).isScoped .scVector = true; decide⟩)⟩)⟩),
    SparseCore.bigSep_erase' (Finset.mem_erase.mpr ⟨sem_ne d L cc0_scoped2.sem cc0_scoped1.sem (by decide), (Finset.mem_erase.mpr ⟨sem_ne d L cc0_scoped2.sem cc0_scoped0.sem (by decide), (Finset.mem_erase.mpr ⟨sem_ne d L cc0_scoped2.sem cc0_scratch1.sem (by decide), ((mem_ownCells (g := (semC d L))).mpr ⟨rfl, by show (SemLoc.dma cc0_scoped2.sem : SemLoc sig).isScoped .scVector = true; decide⟩)⟩)⟩)⟩),
    SparseCore.bigSep_erase' (Finset.mem_erase.mpr ⟨sem_ne d L cc0_scoped3.sem cc0_scoped2.sem (by decide), (Finset.mem_erase.mpr ⟨sem_ne d L cc0_scoped3.sem cc0_scoped1.sem (by decide), (Finset.mem_erase.mpr ⟨sem_ne d L cc0_scoped3.sem cc0_scoped0.sem (by decide), (Finset.mem_erase.mpr ⟨sem_ne d L cc0_scoped3.sem cc0_scratch1.sem (by decide), ((mem_ownCells (g := (semE d L))).mpr ⟨rfl, by show (SemLoc.dma cc0_scoped3.sem : SemLoc sig).isScoped .scVector = true; decide⟩)⟩)⟩)⟩)⟩)]

omit [FloatOps F] in
/-- The subcore's own buffers: the five scratch buffers, each at some contents, and the rest. -/
theorem ownBufs_V :
    (ownBufs (thr d L) : sProp 𝕄)
      = iprop((∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((ownRefs (τ := τ) (.scVector (cV L) (jV L))).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch2) ) rfl)).trans ?_
  rw [SparseCore.bigSep_erase' (Finset.mem_erase.mpr ⟨fun e => absurd (Proc.devRef_injective _ e) (show (cc0_scratch3 : Ref sig .scVector) ≠ cc0_scratch2 by decide), (SparseCore.Cfg.mem_ownRefs_of_owner (p := Proc.scVector (cV L) (jV L)) (b := ((Proc.scVector (cV L) (jV L)).devRef cc0_scratch3)) rfl)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (SparseCore.Cfg.mem_ownRefs_of_owner (p := Proc.scVector (cV L) (jV L)) (b := ((Proc.scVector (cV L) (jV L)).devRef cc0_scratch4)) rfl)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (SparseCore.Cfg.mem_ownRefs_of_owner (p := Proc.scVector (cV L) (jV L)) (b := ((Proc.scVector (cV L) (jV L)).devRef cc0_scratch5)) rfl)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (SparseCore.Cfg.mem_ownRefs_of_owner (p := Proc.scVector (cV L) (jV L)) (b := ((Proc.scVector (cV L) (jV L)).devRef cc0_scratch6)) rfl)⟩)⟩)⟩)⟩)]

/-- One subcore's task: from its share of the arrays, its own buffers at anything and its semaphores at zero, the body runs
    to the end and leaves its rows at the result. -/
theorem tile_body (hF : (K (F := F)).Facts) (O : CellTallies nD τ sig (HIx 1)) (W : Waits sig (HIx 1)) (hO : ∀ g, O g none = 0) :
    iprop(levAts (K (F := F)).L (K (F := F)).lev ∗ emp ∗ given m d L
        ∗ scopedBufs (thr d L) ∗ scopedSems0 (thr d L) ∗ owes (thr d L) O W)
      ⊢ wp frame (wpE (defs₀ (F := F)) 𝒱₀ (thr d L) none) Set.univ
          (cc0__body L aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3)
          fun _ => iprop(taken m d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold given taken
  iintro ⟨#Hlv, -, Hg, ⟨⟨%f7, H7⟩, ⟨%f8, H8⟩, ⟨%f9, H9⟩, ⟨%f10, H10⟩, ⟨%f11, H11⟩, Hbufs⟩, ⟨HsT, HsA, HsB, HsC, HsE, Hsems⟩, HO⟩
  ihave Hmw := (show levAts (K (F := F)).L (K (F := F)).lev ⊢ Transfers.MayWaits (thr d L) (default : HIx 1) O from
    (K (F := F)).mayWaits_none (thr := thr d L) hO) $$ Hlv
  ihave HB := (body d L O W (share L) (share L) (picV m d) (tokV m d) (m (outLoc d)) f7 f8 f9 f10 f11) $$ [Hmw Hg H7 H8 H9 H10 H11 HsT HsA HsB HsC HsE HO]
  · isplitl [Hmw]; · iexact Hmw
    isplitl [Hg]; · iexact Hg
    isplitl [H7 H8 H9 H10 H11]
    · isplitl [H7]; · iexact H7
      isplitl [H8]; · iexact H8
      isplitl [H9]; · iexact H9
      isplitl [H10]; · iexact H10
      iexact H11
    isplitl [HsT HsA HsB HsC HsE]
    · isplitl [HsT]; · iexact HsT
      isplitl [HsA]; · iexact HsA
      isplitl [HsB]; · iexact HsB
      isplitl [HsC]; · iexact HsC
      iexact HsE
    iexact HO
  iapply wp_wand $$ HB
  iintro %r ⟨Hg, ⟨H7, H8, H9, H10, H11⟩, ⟨HsT, HsA, HsB, HsC, HsE⟩, ⟨%W', HO⟩⟩
  isplitl [Hg]; · iexact Hg
  isplitl [H7 H8 H9 H10 H11 Hbufs]
  · isplitl [H7]; · iexact H7
    isplitl [H8]; · iexact H8
    isplitl [H9]; · iexact H9
    isplitl [H10]; · iexact H10
    isplitl [H11]; · iexact H11
    iexact Hbufs
  isplitl [HsT HsA HsB HsC HsE Hsems]
  · isplitl [HsT]; · iexact HsT
    isplitl [HsA]; · iexact HsA
    isplitl [HsB]; · iexact HsB
    isplitl [HsC]; · iexact HsC
    isplitl [HsE]; · iexact HsE
    iexact Hsems
  iexists W'
  isplitr
  swap; · iexact HO
  ipureintro; intro p _
  rcases p.2 with _ | q
  · exact .inr (.inl rfl)
  · exact .inr (.inr (congrArg some (Subsingleton.elim q 0)))

end Task

/-- The program of a subcore. -/
theorem defs₀_vector (c : Fin τ.nSC) (s : Fin τ.nSub) :
    defs₀ (F := F) (.scVector c s) 0 ()
      = SparseCore.onTile hcore0 hsub0 (fun c s => cc0__body (coordsV c s) aP (Memref.isWhole_whole _) aT (Memref.isWhole_whole _) aO (Memref.isWhole_whole _) cc0_scratch0 cc0_scratch1 s7 (Memref.isWhole_whole _) s8 (Memref.isWhole_whole _) s9 (Memref.isWhole_whole _)
      s10 (Memref.isWhole_whole _) s11 (Memref.isWhole_whole _) cc0_scoped0 cc0_scoped1 cc0_scoped2 cc0_scoped3) ⟨⟩ c s := rfl

/-- Every subcore meets its obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Cert.Tile

end
-- ==== Proof.Main.lean ====
/-
  The host's program around the call, and the run of the whole kernel: it ends, its arguments are unchanged, every
  semaphore is at zero, and the result is the picture's rows worked out one by one.
-/
module

public import proofs.«01_k».proof.Proof.Launch
public import Idealize.ShloMosaic.Lib.StableHlo.RunRead

@[expose] public section

set_option maxRecDepth 16384

noncomputable section

namespace Cert.Tile

open Cert.KernelIdeal Cert.KernelIdeal.Gen Cert.Lanes
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aP" => (Memref.whole Cert.KernelIdeal.main_v0_scv : Memref Cert.KernelIdeal.sig Kind.scVector Space.hbm Cert.KernelIdeal.S375x320 EltTy.f32)
local notation "aT" => (Memref.whole Cert.KernelIdeal.main_v2_scv : Memref Cert.KernelIdeal.sig Kind.scVector Space.hbm Cert.KernelIdeal.S80 EltTy.f32)
local notation "aO" => (Memref.whole Cert.KernelIdeal.main_v3_scv : Memref Cert.KernelIdeal.sig Kind.scVector Space.hbm Cert.KernelIdeal.S375x320 EltTy.f32)
local notation "s7" => (Memref.whole Cert.KernelIdeal.cc0_scratch2 : Memref Cert.KernelIdeal.sig Kind.scVector Space.vmem Cert.KernelIdeal.S16x320 EltTy.f32)
local notation "s8" => (Memref.whole Cert.KernelIdeal.cc0_scratch3 : Memref Cert.KernelIdeal.sig Kind.scVector Space.vmem Cert.KernelIdeal.S5440 EltTy.f32)
local notation "s9" => (Memref.whole Cert.KernelIdeal.cc0_scratch4 : Memref Cert.KernelIdeal.sig Kind.scVector Space.vmem Cert.KernelIdeal.S80 EltTy.f32)
local notation "s10" => (Memref.whole Cert.KernelIdeal.cc0_scratch5 : Memref Cert.KernelIdeal.sig Kind.scVector Space.vmem Cert.KernelIdeal.S88 EltTy.i32)
local notation "s11" => (Memref.whole Cert.KernelIdeal.cc0_scratch6 : Memref Cert.KernelIdeal.sig Kind.scVector Space.vmem Cert.KernelIdeal.S16x320 EltTy.f32)

open Idealize.ShloMosaic.StableHlo (held wp_hlo_within)

variable (m : (ℓ : Loc nD τ sig) → Buf (Elt F) ℓ) (ρ : Dev nD → PrngReg)

/-! ## The host's lines -/

/-- The lines before the call: the two arguments laid out flat, and the tokens padded with zeros. -/
abbrev before : List (HloOp τ sig (Elt F)) :=
  [StableHlo.reshape main_arg0 main_v0 (rfl : (.f32 : EltTy) = .f32) shapeCasts_S375x5x64_S375x320,
    StableHlo.reshape main_arg1 main_v1 (rfl : (.f32 : EltTy) = .f32) shapeCasts_S5x13_S65,
    StableHlo.nullary main_c (constantI S_ 32 0#32),
    StableHlo.TRef.unary (.of main_c : StableHlo.TRef sig ⟨S_, .i32⟩) main_call0.v0 (sitofp .f32),
    StableHlo.TRef.binary (.of main_v1 : StableHlo.TRef sig ⟨S65, .f32⟩) main_call0.v0 main_call0.v1 (fun x v => pad S80 ![8] ![7] ![0] x v pads_S65_S80_870 h_S_)]

/-- The line after the call: the result laid out as the first argument is. -/
abbrev opLast : HloOp τ sig (Elt F) := StableHlo.reshape main_v3 main_v4 (rfl : (.f32 : EltTy) = .f32) shapeCasts_S375x320_S375x5x64

/-- The host's program: the lines before, the call, the line after. -/
theorem main_eq (d : Dev nD) :
    main (F := F) d = (StableHlo.seq before >>= fun _ => ((K (F := F)).run d 0 >>= fun _ => StableHlo.seq [opLast])) := by
  simp only [main, fn_pad.body, before, opLast, StableHlo.seq, bind_assoc, pure_bind]

abbrev dv (b : Ref sig .tc) : DevRef τ sig := Proc.devRef .tc b
/-- The TensorCore's arrays. -/
abbrev arrays : Finset (DevRef τ sig) :=
  {dv main_arg0, dv main_arg1, dv main_v0, dv main_v1, dv main_c, dv main_call0_v0, dv main_v2, dv main_v3, dv main_v4}
/-- The three the call takes. -/
abbrev callArrays : Finset (DevRef τ sig) := {dv main_v0, dv main_v2, dv main_v3}
/-- The three the claims read. -/
abbrev endArrays : Finset (DevRef τ sig) := {dv main_arg0, dv main_arg1, dv main_v4}

/-- The launch's contents, those before the call, those after it, and the last. -/
def V0 (d : Dev nD) : Valuation τ sig (Elt F) := fun b => m (d, b)
/-- The arrays after the lines before the call. -/
def V1 (d : Dev nD) : Valuation τ sig (Elt F) := StableHlo.after before (V0 m d)
/-- The arrays after the call. -/
def V2 (d : Dev nD) : Valuation τ sig (Elt F) := Function.update (V1 m d) (dv main_v3) (result (picV m d) (tokV m d))
/-- The arrays at the end. -/
def V3 (d : Dev nD) : Valuation τ sig (Elt F) := StableHlo.after [opLast] (V2 m d)

omit [FloatOps F] in
/-- What the host begins with is its arrays, as they are. -/
theorem unscoped_held (d : Dev nD) : (unscopedBufs d (fun b => m ((SparseCore.T d).loc b)) : sProp 𝕄) = held (T d) arrays (V0 m d) := by
  unfold unscopedBufs held arrays
  rw [show (Finset.univ.filter fun b : Ref sig .tc => ¬ b.isScoped)
      = {main_arg0, main_arg1, main_v0, main_v1, main_c, main_call0_v0, main_v2, main_v3, main_v4} by decide]
  repeat rw [SparseCore.bigSep_insert' (by decide)]
  rw [bigSep_singleton]
  repeat rw [SparseCore.bigSep_insert' (by decide)]
  rw [bigSep_singleton]
  rfl

/-- The lines before the call touch only the arrays. -/
theorem before_within : ∀ op ∈ before (F := F), op.bufs ⊆ arrays := by
  intro op h
  simp only [before, List.mem_cons, List.not_mem_nil, or_false] at h
  rcases h with h | h | h | h | h
  · subst h; exact show ({dv main_arg0, dv main_v0} : Finset (DevRef τ sig)) ⊆ arrays by decide
  · subst h; exact show ({dv main_arg1, dv main_v1} : Finset (DevRef τ sig)) ⊆ arrays by decide
  · subst h; exact show ({dv main_c} : Finset (DevRef τ sig)) ⊆ arrays by decide
  · subst h; exact show ({dv main_c, dv main_call0_v0} : Finset (DevRef τ sig)) ⊆ arrays by decide
  · subst h; exact show ({dv main_v1, dv main_call0_v0, dv main_v2} : Finset (DevRef τ sig)) ⊆ arrays by decide

/-- They make no new array. -/
theorem before_fresh : ∀ op ∈ before (F := F), op.fresh = ∅ := by
  intro op h
  simp only [before, List.mem_cons, List.not_mem_nil, or_false] at h
  rcases h with h | h | h | h | h <;> subst h <;> rfl

/-- The last line touches only the arrays. -/
theorem last_within : ∀ op ∈ [opLast (F := F)], op.bufs ⊆ arrays := by
  intro op h
  cases List.mem_singleton.1 h
  exact show ({dv main_v3, dv main_v4} : Finset (DevRef τ sig)) ⊆ arrays by decide

/-- Before the call: the picture's rows. -/
theorem V1_pic (d : Dev nD) : V1 m d (dv main_v0) = picV m d := by
  unfold V1 before; after_reads_simp; rfl
/-- The padded tokens. -/
theorem V1_tok (d : Dev nD) : V1 m d (dv main_v2) = tokV m d := by
  unfold V1 before; after_reads_simp; rfl
/-- The output, untouched. -/
theorem V1_out (d : Dev nD) : V1 m d (dv main_v3) = m (outLoc d) := by
  unfold V1 before; after_reads_simp; rfl
/-- The picture argument, untouched. -/
theorem V1_arg0 (d : Dev nD) : V1 m d (dv main_arg0) = m ((SparseCore.T d).loc main_arg0) := by
  unfold V1 before; after_reads_simp; rfl
/-- The tokens argument, untouched. -/
theorem V1_arg1 (d : Dev nD) : V1 m d (dv main_arg1) = m ((SparseCore.T d).loc main_arg1) := by
  unfold V1 before; after_reads_simp; rfl

/-- The call leaves its result in the output. -/
theorem V2_out (d : Dev nD) : V2 m d (dv main_v3) = result (picV m d) (tokV m d) := Function.update_self _ _ _
/-- And the rest as it was. -/
theorem V2_ne (d : Dev nD) (b : DevRef τ sig) (h : b ≠ dv main_v3) : V2 m d b = V1 m d b := Function.update_of_ne h _ _

/-- The result as the host leaves it. -/
def answer (d : Dev nD) : Vec F S375x5x64 .f32 := shapeCast S375x5x64 (result (picV m d) (tokV m d)) shapeCasts_S375x320_S375x5x64

/-- At the end: the picture argument, untouched. -/
theorem V3_arg0 (d : Dev nD) : V3 m d (dv main_arg0) = m ((SparseCore.T d).loc main_arg0) := by
  have h := StableHlo.reshape_result_ne (τ := τ) (Val := Elt F) main_v3 main_v4 rfl shapeCasts_S375x320_S375x5x64 (by decide) (by decide) (V2 m d) (r := main_arg0) (by decide)
  exact h.trans ((V2_ne m d _ (by decide)).trans (V1_arg0 m d))
/-- The tokens argument, untouched. -/
theorem V3_arg1 (d : Dev nD) : V3 m d (dv main_arg1) = m ((SparseCore.T d).loc main_arg1) := by
  have h := StableHlo.reshape_result_ne (τ := τ) (Val := Elt F) main_v3 main_v4 rfl shapeCasts_S375x320_S375x5x64 (by decide) (by decide) (V2 m d) (r := main_arg1) (by decide)
  exact h.trans ((V2_ne m d _ (by decide)).trans (V1_arg1 m d))
/-- The answer, in the result's array. -/
theorem V3_answer (d : Dev nD) : V3 m d (dv main_v4) = answer m d := by
  have h := StableHlo.reshape_result (τ := τ) (Val := Elt F) main_v3 main_v4 rfl shapeCasts_S375x320_S375x5x64 (by decide) (by decide) (V2 m d)
  refine h.trans ?_
  show shapeCast S375x5x64 (V2 m d (dv main_v3)) shapeCasts_S375x320_S375x5x64 = _
  rw [V2_out]; rfl

omit [FloatOps F] in
/-- The call's three arrays, one by one. -/
theorem held_call (d : Dev nD) (W : Valuation τ sig (Elt F)) :
    (held (T d) callArrays W : sProp 𝕄)
      = iprop((picLoc d ↦{fullShare} W (dv main_v0)) ∗ (tokLoc d ↦{fullShare} W (dv main_v2)) ∗ outLoc d ↦{fullShare} W (dv main_v3)) := by
  unfold held callArrays
  rw [SparseCore.bigSep_insert' (by decide), SparseCore.bigSep_insert' (by decide), bigSep_singleton]

omit [FloatOps F] in
/-- The arguments and the result, one by one. -/
theorem held_end (d : Dev nD) (W : Valuation τ sig (Elt F)) :
    (held (T d) endArrays W : sProp 𝕄)
      = iprop(((SparseCore.T d).loc main_arg0 ↦{fullShare} W (dv main_arg0)) ∗ ((SparseCore.T d).loc main_arg1 ↦{fullShare} W (dv main_arg1))
          ∗ (SparseCore.T d).loc main_v4 ↦{fullShare} W (dv main_v4)) := by
  unfold held endArrays
  rw [SparseCore.bigSep_insert' (by decide), SparseCore.bigSep_insert' (by decide), bigSep_singleton]

/-- The three arrays before the call are what every subcore is given. -/
theorem call_given (d : Dev nD) : (held (T d) callArrays (V1 m d) : sProp 𝕄) = each (given m d) := by
  rw [held_call, V1_pic, V1_tok, V1_out, pic_each, tok_each, out_each, ← each_sep, ← each_sep]
  rfl

/-- What every subcore hands back is the three arrays after the call. -/
theorem call_taken (d : Dev nD) : (held (T d) callArrays (V2 m d) : sProp 𝕄) = each (taken m d) := by
  rw [held_call, V2_out, V2_ne m d (dv main_v0) (by decide), V2_ne m d (dv main_v2) (by decide), V1_pic, V1_tok, pic_each, tok_each, out_each,
    ← each_sep, ← each_sep]
  rfl

/-- The call changes no other array. -/
theorem rest_same (d : Dev nD) : (held (T d) (arrays \ callArrays) (V1 m d) : sProp 𝕄) = held (T d) (arrays \ callArrays) (V2 m d) := by
  unfold held
  refine bigSep_congr fun b hb => ?_
  rw [V2_ne m d b (fun e => (Finset.mem_sdiff.1 hb).2 (e ▸ (by decide : dv main_v3 ∈ callArrays)))]

/-! ## The launch -/

/-- The counters of the launch, at their start. -/
def u₀ : UU := (initOf (K (F := F)).hsCells (K (F := F)).hsToks, 1)

omit [FloatOps F] in
/-- Nothing, many times. -/
theorem bigSep_emp' {I : Type} (s : Finset I) : (bigSep s fun _ => iprop(emp)) = (iprop(emp) : sProp 𝕄) := bigSep_emp_const s

/-- What the launch needs at its start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What the call is given is what each subcore is given. -/
theorem st0_eq (d : Dev nD) : (bigSep Finset.univ fun c : Fin ((K (F := F)).nCore 0) => (P m).st 0 d c) = each (given m d) := rfl
/-- And likewise for what comes back. -/
theorem dn0_eq (d : Dev nD) : (bigSep Finset.univ fun c : Fin ((K (F := F)).nCore 0) => (P m).dn 0 d c) = each (taken m d) := rfl

/-- What the host leaves the claims: the arguments as they were, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v4 ↦{fullShare} (answer m d : Buf (Elt F) ((SparseCore.T d).loc main_v4)))

/-- What the host ends with. -/
theorem fin_held (d : Dev nD) : (held (T d) endArrays (V3 m d) : sProp 𝕄) = FIN m d := by
  rw [held_end, V3_arg0, V3_arg1, V3_answer]

set_option backward.isDefEq.respectTransparency.types false in
/-- The host's program on one device: the lines before, the call from the three arrays, the line after. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq (defs := (K (F := F)).defs (D (F := F))) (𝒱 := 𝒱) (bd := none) (E := Set.univ) d arrays
    (fun _ => (K (F := F)).run d 0 >>= fun _ => StableHlo.seq [opLast]) before before_within before_fresh (V0 m d)) $$ [Hb Hheld]
  · isplitl [Hb] <;> iassumption
  iintro ⟨Hb, Hheld⟩
  ihave Hh := (Entails.of_eq (show (held (T d) arrays (StableHlo.after before (V0 m d)) : sProp 𝕄)
    = iprop(each (given m d) ∗ held (T d) (arrays \ callArrays) (V2 m d)) from by
      rw [← call_given, ← rest_same]; exact StableHlo.held_sub_split (T d) (by decide) (V1 m d))) $$ Hheld
  icases Hh with ⟨Hgiven, Hrest⟩
  rw [wp_bind]
  iapply ((K (F := F)).wp_run (D (F := F)) 𝒱 (EH := EH) (P := P m) κ d 0) $$ [Hst Hgiven Hb Hrest Hts]
  isplitr; · iexact Hctx
  isplitl [Hst]; · iexact Hst
  isplitl [Hgiven]
  · rw [st0_eq]; iexact Hgiven
  iintro ⟨Hst, Hdn⟩
  ihave Htaken := (Entails.of_eq (dn0_eq m d)) $$ Hdn
  ihave Hheld := (Entails.of_eq (show iprop(each (taken m d) ∗ held (T d) (arrays \ callArrays) (V2 m d)) = (held (T d) arrays (V2 m d) : sProp 𝕄) from by
      rw [← call_taken]; exact (StableHlo.held_sub_split (T d) (by decide) (V2 m d)).symm)) $$ [Htaken Hrest]
  · isplitl [Htaken] <;> iassumption
  rw [show (StableHlo.seq [opLast (F := F)] : Prog _ PUnit) = (StableHlo.seq [opLast] >>= fun _ => pure ⟨⟩) from rfl]
  iapply (StableHlo.wp_seq (defs := (K (F := F)).defs (D (F := F))) (𝒱 := 𝒱) (bd := none) (E := Set.univ) d arrays
    (fun _ => pure ⟨⟩) [opLast] last_within (fun op h => by cases List.mem_singleton.1 h; rfl) (V2 m d)) $$ [Hb Hheld]
  · isplitl [Hb] <;> iassumption
  iintro ⟨Hb, Hheld⟩
  ihave Hh := (Entails.of_eq (show (held (T d) arrays (StableHlo.after [opLast] (V2 m d)) : sProp 𝕄)
    = iprop(FIN m d ∗ held (T d) (arrays \ endArrays) (V3 m d)) from by
      rw [← fin_held]; exact StableHlo.held_sub_split (T d) (by decide) (V3 m d))) $$ Hheld
  icases Hh with ⟨Hfin, -⟩
  rw [wp_pure]
  imodintro
  isplitl [Hst]; · iexact Hst
  isplitl [Hfin]; · iexact Hfin
  isplitl [Hb] <;> iassumption

/-- What the claims read of one device's final memory. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v4) = answer m d

/-- From what the host ends with, the memory at the end. -/
theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v4) (I := Finset.univ) (q := fullShare)
    (f := (answer m d : Buf (Elt F) ((SparseCore.T d).loc main_v4)))) $$ [HSI H4]
  · isplitl [HSI] <;> iassumption
  icases H with %h4
  ipureintro
  exact ⟨funext fun i => h0 i (Finset.mem_univ i), funext fun i => h1 i (Finset.mem_univ i), funext fun i => h4 i (Finset.mem_univ i)⟩

/-- The kernel's run: it ends with the arguments unchanged, the result at `answer`, and every semaphore at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v4) = answer m c) ∧ r.2.sem = fun _ => 0

/-- The kernel runs to its end with its answer, its arguments unchanged and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Tile

end
-- ==== Proof.Same.lean ====
/-
  The kernel as printed and the kernel as printed for the ideal instance are one and the same program.
-/
module

public import proofs.«01_k».proof.Defs
public import proofs.«01_k».proof.Proof.Gen.Kernel
public import proofs.«01_k».proof.Proof.Gen.KernelIdeal

@[expose] public section

set_option maxRecDepth 65536

noncomputable section

namespace Cert.Same

open Idealize.ShloMosaic Idealize.SL.Sem

attribute [local instance] Cert.Kernel.Gen.facts Cert.KernelIdeal.Gen.facts

/-- The same buffers, -/
theorem same_sig : Cert.Kernel.sig = Cert.KernelIdeal.sig := rfl

set_option maxHeartbeats 4000000 in
/-- the same calls, -/
theorem same_defs {F : FTy → Type} [FloatOps F] : (Cert.Kernel.defs (F := F)) = (Cert.KernelIdeal.defs (F := F)) := rfl

set_option maxHeartbeats 4000000 in
/-- and the same threads. -/
theorem same_threads {F : FTy → Type} [FloatOps F] : (Cert.Kernel.threads (F := F)) = (Cert.KernelIdeal.threads (F := F)) := rfl

end Cert.Same

end
-- ==== Proof.Frames.lean ====
/-
  The kernel's two frame claims, from its run. The kernel as printed and its idealized print are the same program, so one run,
  proved at every instance of the floats, serves both.
-/
module

public import proofs.«01_k».proof.Proof.Main
public import proofs.«01_k».proof.Proof.Same

@[expose] public section

set_option maxRecDepth 65536

noncomputable section

namespace Cert.Frames

open Idealize.ShloMosaic Idealize.SL.Sem

attribute [local instance] Cert.Kernel.Gen.facts Cert.KernelIdeal.Gen.facts

/-- The idealized kernel runs to its end, leaving its arguments as they were and every semaphore at zero. -/
theorem frame_ideal : Cert.quiescent_KernelIdeal := fun m ρ _ =>
  (θ_run Cert.KernelIdeal.defs _ _).mono (fun _ h => ⟨fun c => ⟨(h.1 c).1, (h.1 c).2.1⟩, h.2⟩) (Cert.Tile.run_main (F := Ideal) m ρ)

set_option maxHeartbeats 4000000 in
/-- The kernel runs to its end, leaving its arguments as they were and every semaphore at zero. -/
theorem frame_kernel : Cert.quiescent_Kernel := by
  intro m ρ _
  rw [Cert.Same.same_threads, Cert.Same.same_defs]
  exact (θ_run Cert.KernelIdeal.defs _ _).mono (fun _ h => ⟨fun c => ⟨(h.1 c).1, (h.1 c).2.1⟩, h.2⟩) (Cert.Tile.run_main (F := Bits) m ρ)

end Cert.Frames

end
-- ==== Proof.RefFrame.lean ====
/-
  The reference run: it ends, and leaves its arguments and every semaphore as they were.
-/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead

@[expose] public section

set_option maxRecDepth 16384

noncomputable section

namespace Cert.RefFrame

open Idealize.ShloMosaic Idealize.SL.Sem Cert.ReferenceIdeal

attribute [local instance] Cert.ReferenceIdeal.Gen.facts

set_option maxHeartbeats 4000000 in
/-- The reference runs to its end, leaving its arguments and every semaphore as they were. -/
theorem frame : Cert.quiescent_ReferenceIdeal := by
  intro m g _
  have h : θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
    hlo_run
  exact (θ_run defs _ _).mono (fun r h => ⟨h, sem_eq_zero_of_no_sems (by decide) r.2⟩) h

end Cert.RefFrame

end
-- ==== Proof.RefOps.lean ====
/-
  The reference as lines of host operations: the distances, the five rounds, and the rows put together from the chosen
  tokens. Its run ends, and every buffer is what the lines leave in it.
-/
module

public import proofs.«01_k».proof.Defs
public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.Ref

open Idealize.ShloMosaic Idealize.ShloMosaic.TcCoe Idealize.ShloMosaic.StableHlo Idealize.SL.Sem
open Cert.ReferenceIdeal Cert.ReferenceIdeal.Gen

variable {F : FTy → Type} [FloatOps F]

/-- The masked distances. -/
abbrev fn_whereOps (arg0 : StableHlo.TRef sig ⟨S375x5x5, .i1⟩) (arg1 : StableHlo.TRef sig ⟨S_, .f32⟩) (arg2 : StableHlo.TRef sig ⟨S375x5x5, .f32⟩) (φ : fn_where.Bufs) : List (HloOp τ sig (Elt F)) :=
  [ StableHlo.TRef.unary arg1 φ.v0 id,
      StableHlo.TRef.unary φ.v0 φ.v1 (broadcastInDim S375x5x5 ![] bcast_S_S375x5x5),
      StableHlo.TRef.ternary arg0 φ.v1 arg2 φ.v2 select ]

/-- The least of a row, and the first place where it stands. -/
abbrev fn_argminOps (arg0 : StableHlo.TRef sig ⟨S375x25, .f32⟩) (φ : fn_argmin.Bufs) : List (HloOp τ sig (Elt F)) :=
  [ StableHlo.TRef.nullary φ.v0 (iotaInDim S375x25 32 1),
      StableHlo.TRef.nullary φ.cst (constant S_ .f32 0x7F800000#32),
      StableHlo.TRef.nullary φ.c (constantI S_ 32 0#32),
      StableHlo.TRef.quaternary arg0 φ.v0 φ.cst φ.c φ.v1_0 (fun x y u v j => (Host.argReduce reducer_argmin_f32_i32 x y u v reducesTo_S375x25_S375_d1 h_S_ j).1),
      StableHlo.TRef.quaternary arg0 φ.v0 φ.cst φ.c φ.v1_1 (fun x y u v j => (Host.argReduce reducer_argmin_f32_i32 x y u v reducesTo_S375x25_S375_d1 h_S_ j).2) ]

/-- One round. -/
abbrev fn_pickOps (arg0 : StableHlo.TRef sig ⟨S375x5x5, .f32⟩) (arg1 : StableHlo.TRef sig ⟨S375x5, .i1⟩) (arg2 : StableHlo.TRef sig ⟨S375x5, .i1⟩) (arg3 : StableHlo.TRef sig ⟨S375x5, .i32⟩) (φ : fn_pick.Bufs) : List (HloOp τ sig (Elt F)) :=
  [ StableHlo.TRef.unary arg1 φ.v0 (broadcastInDim S375x5x1 ![0, 1] bcast_S375x5_S375x5x1_0_1),
      StableHlo.TRef.unary arg2 φ.v1 (broadcastInDim S375x1x5 ![0, 2] bcast_S375x5_S375x1x5_0_2),
      StableHlo.TRef.unary φ.v0 φ.v2 (broadcastInDim S375x5x5 ![0, 1, 2] bcast_S375x5x1_S375x5x5_0_1_2),
      StableHlo.TRef.unary φ.v1 φ.v3 (broadcastInDim S375x5x5 ![0, 1, 2] bcast_S375x1x5_S375x5x5_0_1_2),
      StableHlo.TRef.binary φ.v2 φ.v3 φ.v4 ori,
      StableHlo.TRef.nullary φ.cst (constant S_ .f32 0x7F800000#32) ]
    ++ fn_whereOps φ.v4 φ.cst arg0 φ.call0
    ++ [ StableHlo.TRef.reshape φ.call0.v2 φ.v6 (rfl : (.f32 : EltTy) = .f32) shapeCasts_S375x5x5_S375x25 ]
    ++ fn_argminOps φ.v6 φ.call1
    ++ [ StableHlo.TRef.nullary φ.c (constantI S_ 32 5#32),
      StableHlo.TRef.unary φ.c φ.v8 (broadcastInDim S375 ![] bcast_S_S375),
      StableHlo.TRef.binary φ.call1.v1_1 φ.v8 φ.v9 Host.divsi,
      StableHlo.TRef.unary φ.v9 φ.v10 (broadcastInDim S375x1 ![0] bcast_S375_S375x1_0),
      StableHlo.TRef.nullary φ.c_0 (constantI S_ 32 5#32),
      StableHlo.TRef.unary φ.c_0 φ.v11 (broadcastInDim S375 ![] bcast_S_S375),
      StableHlo.TRef.binary φ.call1.v1_1 φ.v11 φ.v12 Host.remsi,
      StableHlo.TRef.unary φ.v12 φ.v13 (broadcastInDim S375x1 ![0] bcast_S375_S375x1_0),
      StableHlo.TRef.nullary φ.v14 (iotaInDim S375x5 32 1),
      StableHlo.TRef.unary φ.v10 φ.v15 (broadcastInDim S375x5 ![0, 1] bcast_S375x1_S375x5_0_1),
      StableHlo.TRef.binary φ.v14 φ.v15 φ.v16 (cmpi .eq),
      StableHlo.TRef.unary φ.v13 φ.v17 (broadcastInDim S375x5 ![0, 1] bcast_S375x1_S375x5_0_1),
      StableHlo.TRef.ternary φ.v16 φ.v17 arg3 φ.v18 select,
      StableHlo.TRef.unary φ.v10 φ.v19 (broadcastInDim S375x5 ![0, 1] bcast_S375x1_S375x5_0_1),
      StableHlo.TRef.binary φ.v14 φ.v19 φ.v20 (cmpi .eq),
      StableHlo.TRef.binary arg1 φ.v20 φ.v21 ori,
      StableHlo.TRef.unary φ.v13 φ.v22 (broadcastInDim S375x5 ![0, 1] bcast_S375x1_S375x5_0_1),
      StableHlo.TRef.binary φ.v14 φ.v22 φ.v23 (cmpi .eq),
      StableHlo.TRef.binary arg2 φ.v23 φ.v24 ori ]

/-- The tokens chosen. -/
abbrev fn_takeOps (arg0 : StableHlo.TRef sig ⟨S5x13, .f32⟩) (arg1 : StableHlo.TRef sig ⟨S375x5, .i32⟩) (φ : fn_take.Bufs) : List (HloOp τ sig (Elt F)) :=
  [ StableHlo.TRef.unary arg1 φ.v0 (broadcastInDim S375x5x1 ![0, 1] bcast_S375x5_S375x5x1_0_1),
      StableHlo.TRef.binary arg0 φ.v0 φ.v1 (fun x i => Host.gather gather_S5x13_S375x5x1_S375x5x13_2_0_n_n_0_2_113 x i) ]

/-- One token with zeros around it. -/
abbrev fn_padOps (arg0 : StableHlo.TRef sig ⟨S375x13, .f32⟩) (arg1 : StableHlo.TRef sig ⟨S_, .i32⟩) (φ : fn_pad.Bufs) : List (HloOp τ sig (Elt F)) :=
  [ StableHlo.TRef.unary arg1 φ.v0 (sitofp .f32),
      StableHlo.TRef.binary arg0 φ.v0 φ.v1 (fun x v => pad S375x64 ![0, 0] ![0, 51] ![0, 0] x v pads_S375x13_S375x64_000_0510 h_S_) ]

/-- One token with zeros around it. -/
abbrev fn_pad_0Ops (arg0 : StableHlo.TRef sig ⟨S375x13, .f32⟩) (arg1 : StableHlo.TRef sig ⟨S_, .i32⟩) (φ : fn_pad_0.Bufs) : List (HloOp τ sig (Elt F)) :=
  [ StableHlo.TRef.unary arg1 φ.v0 (sitofp .f32),
      StableHlo.TRef.binary arg0 φ.v0 φ.v1 (fun x v => pad S375x64 ![0, 12] ![0, 39] ![0, 0] x v pads_S375x13_S375x64_000_12390 h_S_) ]

/-- One token with zeros around it. -/
abbrev fn_pad_1Ops (arg0 : StableHlo.TRef sig ⟨S375x13, .f32⟩) (arg1 : StableHlo.TRef sig ⟨S_, .i32⟩) (φ : fn_pad_1.Bufs) : List (HloOp τ sig (Elt F)) :=
  [ StableHlo.TRef.unary arg1 φ.v0 (sitofp .f32),
      StableHlo.TRef.binary arg0 φ.v0 φ.v1 (fun x v => pad S375x64 ![0, 25] ![0, 26] ![0, 0] x v pads_S375x13_S375x64_000_25260 h_S_) ]

/-- One token with zeros around it. -/
abbrev fn_pad_2Ops (arg0 : StableHlo.TRef sig ⟨S375x13, .f32⟩) (arg1 : StableHlo.TRef sig ⟨S_, .i32⟩) (φ : fn_pad_2.Bufs) : List (HloOp τ sig (Elt F)) :=
  [ StableHlo.TRef.unary arg1 φ.v0 (sitofp .f32),
      StableHlo.TRef.binary arg0 φ.v0 φ.v1 (fun x v => pad S375x64 ![0, 38] ![0, 13] ![0, 0] x v pads_S375x13_S375x64_000_38130 h_S_) ]

/-- One token with zeros around it. -/
abbrev fn_pad_3Ops (arg0 : StableHlo.TRef sig ⟨S375x13, .f32⟩) (arg1 : StableHlo.TRef sig ⟨S_, .i32⟩) (φ : fn_pad_3.Bufs) : List (HloOp τ sig (Elt F)) :=
  [ StableHlo.TRef.unary arg1 φ.v0 (sitofp .f32),
      StableHlo.TRef.binary arg0 φ.v0 φ.v1 (fun x v => pad S375x64 ![0, 51] ![0, 0] ![0, 0] x v pads_S375x13_S375x64_000_5100 h_S_) ]

/-- The distances, and nothing taken yet. -/
abbrev distOps : List (HloOp τ sig (Elt F)) :=
  [ StableHlo.unary main_arg0 main_v0 ((extractStridedSlice S375x5x13 ![0, 0, 0] · slices_S375x5x64_S375x5x13_0_0_0) : (⟨S375x5x64, .f32⟩ : BufTy).Contents (Elt F) → (⟨S375x5x13, .f32⟩ : BufTy).Contents (Elt F)),
      StableHlo.unary main_arg0 main_v1 ((extractStridedSlice S375x5x13 ![0, 0, 12] · slices_S375x5x64_S375x5x13_0_0_12) : (⟨S375x5x64, .f32⟩ : BufTy).Contents (Elt F) → (⟨S375x5x13, .f32⟩ : BufTy).Contents (Elt F)),
      StableHlo.unary main_arg0 main_v2 ((extractStridedSlice S375x5x13 ![0, 0, 25] · slices_S375x5x64_S375x5x13_0_0_25) : (⟨S375x5x64, .f32⟩ : BufTy).Contents (Elt F) → (⟨S375x5x13, .f32⟩ : BufTy).Contents (Elt F)),
      StableHlo.unary main_arg0 main_v3 ((extractStridedSlice S375x5x13 ![0, 0, 38] · slices_S375x5x64_S375x5x13_0_0_38) : (⟨S375x5x64, .f32⟩ : BufTy).Contents (Elt F) → (⟨S375x5x13, .f32⟩ : BufTy).Contents (Elt F)),
      StableHlo.unary main_arg0 main_v4 ((extractStridedSlice S375x5x13 ![0, 0, 51] · slices_S375x5x64_S375x5x13_0_0_51) : (⟨S375x5x64, .f32⟩ : BufTy).Contents (Elt F) → (⟨S375x5x13, .f32⟩ : BufTy).Contents (Elt F)),
      StableHlo.unary main_v0 main_v5 (broadcastInDim S375x5x1x13 ![0, 1, 3] bcast_S375x5x13_S375x5x1x13_0_1_3 : (⟨S375x5x13, .f32⟩ : BufTy).Contents (Elt F) → (⟨S375x5x1x13, .f32⟩ : BufTy).Contents (Elt F)),
      StableHlo.unary main_v1 main_v6 (broadcastInDim S375x5x1x13 ![0, 1, 3] bcast_S375x5x13_S375x5x1x13_0_1_3 : (⟨S375x5x13, .f32⟩ : BufTy).Contents (Elt F) → (⟨S375x5x1x13, .f32⟩ : BufTy).Contents (Elt F)),
      StableHlo.unary main_v2 main_v7 (broadcastInDim S375x5x1x13 ![0, 1, 3] bcast_S375x5x13_S375x5x1x13_0_1_3 : (⟨S375x5x13, .f32⟩ : BufTy).Contents (Elt F) → (⟨S375x5x1x13, .f32⟩ : BufTy).Contents (Elt F)),
      StableHlo.unary main_v3 main_v8 (broadcastInDim S375x5x1x13 ![0, 1, 3] bcast_S375x5x13_S375x5x1x13_0_1_3 : (⟨S375x5x13, .f32⟩ : BufTy).Contents (Elt F) → (⟨S375x5x1x13, .f32⟩ : BufTy).Contents (Elt F)),
      StableHlo.unary main_v4 main_v9 (broadcastInDim S375x5x1x13 ![0, 1, 3] bcast_S375x5x13_S375x5x1x13_0_1_3 : (⟨S375x5x13, .f32⟩ : BufTy).Contents (Elt F) → (⟨S375x5x1x13, .f32⟩ : BufTy).Contents (Elt F)),
      StableHlo.nary ![main_v5, main_v6, main_v7, main_v8, main_v9] main_v10 (fun u => (concatenate S375x5x5x13 2 [⟨S375x5x1x13, (u 0 : (⟨S375x5x1x13, .f32⟩ : BufTy).Contents (Elt F))⟩, ⟨S375x5x1x13, (u 1 : (⟨S375x5x1x13, .f32⟩ : BufTy).Contents (Elt F))⟩, ⟨S375x5x1x13, (u 2 : (⟨S375x5x1x13, .f32⟩ : BufTy).Contents (Elt F))⟩, ⟨S375x5x1x13, (u 3 : (⟨S375x5x1x13, .f32⟩ : BufTy).Contents (Elt F))⟩, ⟨S375x5x1x13, (u 4 : (⟨S375x5x1x13, .f32⟩ : BufTy).Contents (Elt F))⟩] concatenates_S375x5x1x13_S375x5x1x13_S375x5x1x13_S375x5x1x13_S375x5x1x13_S375x5x5x13_d2 : (⟨S375x5x5x13, .f32⟩ : BufTy).Contents (Elt F))),
      StableHlo.unary main_arg1 main_v11 (broadcastInDim S1x1x5x13 ![2, 3] bcast_S5x13_S1x1x5x13_2_3 : (⟨S5x13, .f32⟩ : BufTy).Contents (Elt F) → (⟨S1x1x5x13, .f32⟩ : BufTy).Contents (Elt F)),
      StableHlo.unary main_v11 main_v12 (broadcastInDim S375x5x5x13 ![0, 1, 2, 3] bcast_S1x1x5x13_S375x5x5x13_0_1_2_3 : (⟨S1x1x5x13, .f32⟩ : BufTy).Contents (Elt F) → (⟨S375x5x5x13, .f32⟩ : BufTy).Contents (Elt F)),
      StableHlo.binary main_v10 main_v12 main_v13 (subf : (⟨S375x5x5x13, .f32⟩ : BufTy).Contents (Elt F) → (⟨S375x5x5x13, .f32⟩ : BufTy).Contents (Elt F) → (⟨S375x5x5x13, .f32⟩ : BufTy).Contents (Elt F)),
      StableHlo.binary main_arg0 main_arg0 main_v14 (mulf : (⟨S375x5x64, .f32⟩ : BufTy).Contents (Elt F) → (⟨S375x5x64, .f32⟩ : BufTy).Contents (Elt F) → (⟨S375x5x64, .f32⟩ : BufTy).Contents (Elt F)),
      StableHlo.nullary main_cst (constant S_ .f32 0x00000000#32),
      StableHlo.binary main_v14 main_cst main_v15 ((fun x v => Host.reduceAdd x v reducesTo_S375x5x64_S375x5_d2 h_S_) : (⟨S375x5x64, .f32⟩ : BufTy).Contents (Elt F) → (⟨S_, .f32⟩ : BufTy).Contents (Elt F) → (⟨S375x5, .f32⟩ : BufTy).Contents (Elt F)),
      StableHlo.unary main_v15 main_v16 (broadcastInDim S375x5x1 ![0, 1] bcast_S375x5_S375x5x1_0_1 : (⟨S375x5, .f32⟩ : BufTy).Contents (Elt F) → (⟨S375x5x1, .f32⟩ : BufTy).Contents (Elt F)),
      StableHlo.binary main_v10 main_v10 main_v17 (mulf : (⟨S375x5x5x13, .f32⟩ : BufTy).Contents (Elt F) → (⟨S375x5x5x13, .f32⟩ : BufTy).Contents (Elt F) → (⟨S375x5x5x13, .f32⟩ : BufTy).Contents (Elt F)),
      StableHlo.nullary main_cst_0 (constant S_ .f32 0x00000000#32),
      StableHlo.binary main_v17 main_cst_0 main_v18 ((fun x v => Host.reduceAdd x v reducesTo_S375x5x5x13_S375x5x5_d3 h_S_) : (⟨S375x5x5x13, .f32⟩ : BufTy).Contents (Elt F) → (⟨S_, .f32⟩ : BufTy).Contents (Elt F) → (⟨S375x5x5, .f32⟩ : BufTy).Contents (Elt F)),
      StableHlo.unary main_v16 main_v19 (broadcastInDim S375x5x5 ![0, 1, 2] bcast_S375x5x1_S375x5x5_0_1_2 : (⟨S375x5x1, .f32⟩ : BufTy).Contents (Elt F) → (⟨S375x5x5, .f32⟩ : BufTy).Contents (Elt F)),
      StableHlo.binary main_v19 main_v18 main_v20 (subf : (⟨S375x5x5, .f32⟩ : BufTy).Contents (Elt F) → (⟨S375x5x5, .f32⟩ : BufTy).Contents (Elt F) → (⟨S375x5x5, .f32⟩ : BufTy).Contents (Elt F)),
      StableHlo.binary main_v13 main_v13 main_v21 (mulf : (⟨S375x5x5x13, .f32⟩ : BufTy).Contents (Elt F) → (⟨S375x5x5x13, .f32⟩ : BufTy).Contents (Elt F) → (⟨S375x5x5x13, .f32⟩ : BufTy).Contents (Elt F)),
      StableHlo.nullary main_cst_1 (constant S_ .f32 0x00000000#32),
      StableHlo.binary main_v21 main_cst_1 main_v22 ((fun x v => Host.reduceAdd x v reducesTo_S375x5x5x13_S375x5x5_d3 h_S_) : (⟨S375x5x5x13, .f32⟩ : BufTy).Contents (Elt F) → (⟨S_, .f32⟩ : BufTy).Contents (Elt F) → (⟨S375x5x5, .f32⟩ : BufTy).Contents (Elt F)),
      StableHlo.binary main_v20 main_v22 main_v23 (addf : (⟨S375x5x5, .f32⟩ : BufTy).Contents (Elt F) → (⟨S375x5x5, .f32⟩ : BufTy).Contents (Elt F) → (⟨S375x5x5, .f32⟩ : BufTy).Contents (Elt F)),
      StableHlo.nullary main_c (constantI S_ 1 0#1),
      StableHlo.unary main_c main_v24 (broadcastInDim S375x5 ![] bcast_S_S375x5 : (⟨S_, .i1⟩ : BufTy).Contents (Elt F) → (⟨S375x5, .i1⟩ : BufTy).Contents (Elt F)),
      StableHlo.nullary main_c_2 (constantI S_ 1 0#1),
      StableHlo.unary main_c_2 main_v25 (broadcastInDim S375x5 ![] bcast_S_S375x5 : (⟨S_, .i1⟩ : BufTy).Contents (Elt F) → (⟨S375x5, .i1⟩ : BufTy).Contents (Elt F)),
      StableHlo.nullary main_c_3 (constantI S_ 32 0#32),
      StableHlo.unary main_c_3 main_v26 (broadcastInDim S375x5 ![] bcast_S_S375x5 : (⟨S_, .i32⟩ : BufTy).Contents (Elt F) → (⟨S375x5, .i32⟩ : BufTy).Contents (Elt F)) ]

/-- Round 0. -/
abbrev round0 : List (HloOp τ sig (Elt F)) :=
  fn_pickOps (.of main_v23) (.of main_v24) (.of main_v25) (.of main_v26) main_call0

/-- Round 1. -/
abbrev round1 : List (HloOp τ sig (Elt F)) :=
  fn_pickOps (.of main_v23) (.of main_v27_0) (.of main_v27_1) (.of main_v27_2) main_call1

/-- Round 2. -/
abbrev round2 : List (HloOp τ sig (Elt F)) :=
  fn_pickOps (.of main_v23) (.of main_v28_0) (.of main_v28_1) (.of main_v28_2) main_call2

/-- Round 3. -/
abbrev round3 : List (HloOp τ sig (Elt F)) :=
  fn_pickOps (.of main_v23) (.of main_v29_0) (.of main_v29_1) (.of main_v29_2) main_call3

/-- Round 4. -/
abbrev round4 : List (HloOp τ sig (Elt F)) :=
  fn_pickOps (.of main_v23) (.of main_v30_0) (.of main_v30_1) (.of main_v30_2) main_call4

/-- The rows, from the chosen tokens. -/
abbrev rowOps : List (HloOp τ sig (Elt F)) :=
  fn_takeOps (.of main_arg1) (.of main_v31_2) main_call5
    ++ [ StableHlo.unary main_v32 main_v33 ((extractStridedSlice S375x1x13 ![0, 0, 0] · slices_S375x5x13_S375x1x13_0_0_0) : (⟨S375x5x13, .f32⟩ : BufTy).Contents (Elt F) → (⟨S375x1x13, .f32⟩ : BufTy).Contents (Elt F)),
      StableHlo.reshape main_v33 main_v34 (rfl : (.f32 : EltTy) = .f32) shapeCasts_S375x1x13_S375x13,
      StableHlo.nullary main_c_4 (constantI S_ 32 0#32) ]
    ++ fn_padOps (.of main_v34) (.of main_c_4) main_call6
    ++ [ StableHlo.unary main_v32 main_v36 ((extractStridedSlice S375x1x13 ![0, 1, 0] · slices_S375x5x13_S375x1x13_0_1_0) : (⟨S375x5x13, .f32⟩ : BufTy).Contents (Elt F) → (⟨S375x1x13, .f32⟩ : BufTy).Contents (Elt F)),
      StableHlo.reshape main_v36 main_v37 (rfl : (.f32 : EltTy) = .f32) shapeCasts_S375x1x13_S375x13,
      StableHlo.nullary main_c_5 (constantI S_ 32 0#32) ]
    ++ fn_pad_0Ops (.of main_v37) (.of main_c_5) main_call7
    ++ [ StableHlo.unary main_v32 main_v39 ((extractStridedSlice S375x1x13 ![0, 2, 0] · slices_S375x5x13_S375x1x13_0_2_0) : (⟨S375x5x13, .f32⟩ : BufTy).Contents (Elt F) → (⟨S375x1x13, .f32⟩ : BufTy).Contents (Elt F)),
      StableHlo.reshape main_v39 main_v40 (rfl : (.f32 : EltTy) = .f32) shapeCasts_S375x1x13_S375x13,
      StableHlo.nullary main_c_6 (constantI S_ 32 0#32) ]
    ++ fn_pad_1Ops (.of main_v40) (.of main_c_6) main_call8
    ++ [ StableHlo.unary main_v32 main_v42 ((extractStridedSlice S375x1x13 ![0, 3, 0] · slices_S375x5x13_S375x1x13_0_3_0) : (⟨S375x5x13, .f32⟩ : BufTy).Contents (Elt F) → (⟨S375x1x13, .f32⟩ : BufTy).Contents (Elt F)),
      StableHlo.reshape main_v42 main_v43 (rfl : (.f32 : EltTy) = .f32) shapeCasts_S375x1x13_S375x13,
      StableHlo.nullary main_c_7 (constantI S_ 32 0#32) ]
    ++ fn_pad_2Ops (.of main_v43) (.of main_c_7) main_call9
    ++ [ StableHlo.unary main_v32 main_v45 ((extractStridedSlice S375x1x13 ![0, 4, 0] · slices_S375x5x13_S375x1x13_0_4_0) : (⟨S375x5x13, .f32⟩ : BufTy).Contents (Elt F) → (⟨S375x1x13, .f32⟩ : BufTy).Contents (Elt F)),
      StableHlo.reshape main_v45 main_v46 (rfl : (.f32 : EltTy) = .f32) shapeCasts_S375x1x13_S375x13,
      StableHlo.nullary main_c_8 (constantI S_ 32 0#32) ]
    ++ fn_pad_3Ops (.of main_v46) (.of main_c_8) main_call10
    ++ [ StableHlo.unary main_v35 main_v48 (broadcastInDim S375x1x64 ![0, 2] bcast_S375x64_S375x1x64_0_2 : (⟨S375x64, .f32⟩ : BufTy).Contents (Elt F) → (⟨S375x1x64, .f32⟩ : BufTy).Contents (Elt F)),
      StableHlo.unary main_v38 main_v49 (broadcastInDim S375x1x64 ![0, 2] bcast_S375x64_S375x1x64_0_2 : (⟨S375x64, .f32⟩ : BufTy).Contents (Elt F) → (⟨S375x1x64, .f32⟩ : BufTy).Contents (Elt F)),
      StableHlo.unary main_v41 main_v50 (broadcastInDim S375x1x64 ![0, 2] bcast_S375x64_S375x1x64_0_2 : (⟨S375x64, .f32⟩ : BufTy).Contents (Elt F) → (⟨S375x1x64, .f32⟩ : BufTy).Contents (Elt F)),
      StableHlo.unary main_v44 main_v51 (broadcastInDim S375x1x64 ![0, 2] bcast_S375x64_S375x1x64_0_2 : (⟨S375x64, .f32⟩ : BufTy).Contents (Elt F) → (⟨S375x1x64, .f32⟩ : BufTy).Contents (Elt F)),
      StableHlo.unary main_v47 main_v52 (broadcastInDim S375x1x64 ![0, 2] bcast_S375x64_S375x1x64_0_2 : (⟨S375x64, .f32⟩ : BufTy).Contents (Elt F) → (⟨S375x1x64, .f32⟩ : BufTy).Contents (Elt F)),
      StableHlo.nary ![main_v48, main_v49, main_v50, main_v51, main_v52] main_v53 (fun u => (concatenate S375x5x64 1 [⟨S375x1x64, (u 0 : (⟨S375x1x64, .f32⟩ : BufTy).Contents (Elt F))⟩, ⟨S375x1x64, (u 1 : (⟨S375x1x64, .f32⟩ : BufTy).Contents (Elt F))⟩, ⟨S375x1x64, (u 2 : (⟨S375x1x64, .f32⟩ : BufTy).Contents (Elt F))⟩, ⟨S375x1x64, (u 3 : (⟨S375x1x64, .f32⟩ : BufTy).Contents (Elt F))⟩, ⟨S375x1x64, (u 4 : (⟨S375x1x64, .f32⟩ : BufTy).Contents (Elt F))⟩] concatenates_S375x1x64_S375x1x64_S375x1x64_S375x1x64_S375x1x64_S375x5x64_d1 : (⟨S375x5x64, .f32⟩ : BufTy).Contents (Elt F))) ]

/-- The whole reference. -/
abbrev ops : List (HloOp τ sig (Elt F)) := distOps ++ (round0 ++ (round1 ++ (round2 ++ (round3 ++ (round4 ++ rowOps)))))

/-- The called functions, as lists of operations: the selection, -/
theorem where_eq (a b c φ) : fn_where.body (F := F) a b c φ = seq (fn_whereOps a b c φ) := by
  simp only [fn_where.body, fn_whereOps, seq]
/-- the first least element of every row, -/
theorem argmin_eq (a φ) : fn_argmin.body (F := F) a φ = seq (fn_argminOps a φ) := by
  simp only [fn_argmin.body, fn_argminOps, seq]
/-- a round, -/
theorem pick_eq (a b c e φ) : fn_pick.body (F := F) a b c e φ = seq (fn_pickOps a b c e φ) := by
  simp only [fn_pick.body, fn_pickOps, where_eq, argmin_eq, seq_append, seq, bind_assoc, pure_bind]
/-- the choice of tokens, -/
theorem take_eq (a b φ) : fn_take.body (F := F) a b φ = seq (fn_takeOps a b φ) := by
  simp only [fn_take.body, fn_takeOps, seq]
/-- and the five paddings. -/
theorem pad_eq (a b φ) : fn_pad.body (F := F) a b φ = seq (fn_padOps a b φ) := by
  simp only [fn_pad.body, fn_padOps, seq]
/-- The second. -/
theorem pad_0_eq (a b φ) : fn_pad_0.body (F := F) a b φ = seq (fn_pad_0Ops a b φ) := by
  simp only [fn_pad_0.body, fn_pad_0Ops, seq]
/-- The third. -/
theorem pad_1_eq (a b φ) : fn_pad_1.body (F := F) a b φ = seq (fn_pad_1Ops a b φ) := by
  simp only [fn_pad_1.body, fn_pad_1Ops, seq]
/-- The fourth. -/
theorem pad_2_eq (a b φ) : fn_pad_2.body (F := F) a b φ = seq (fn_pad_2Ops a b φ) := by
  simp only [fn_pad_2.body, fn_pad_2Ops, seq]
/-- The fifth. -/
theorem pad_3_eq (a b φ) : fn_pad_3.body (F := F) a b φ = seq (fn_pad_3Ops a b φ) := by
  simp only [fn_pad_3.body, fn_pad_3Ops, seq]

/-- The reference, as a list of operations. -/
theorem main_eq (c : Dev nD) : main (F := F) c = seq ops := by
  simp only [main, main_part0, main_part1, pick_eq, take_eq, pad_eq, pad_0_eq, pad_1_eq, pad_2_eq, pad_3_eq,
    ops, distOps, round0, round1, round2, round3, round4, rowOps, seq_append, seq, bind_assoc, pure_bind]

/-- It has no scoped buffer. -/
theorem scopedRefs_eq : (Finset.univ.filter fun b : Ref sig .tc => b.isScoped) = ∅ := by decide
/-- And no scoped semaphore. -/
theorem scopedSems_eq : (Finset.univ.filter fun sm : SemLoc sig => sm.isScoped .tc) = ∅ := by decide

end Cert.Ref

end
-- ==== Proof.RefReads.lean ====
/-
  What each round of the reference leaves, as functions of what it finds: the classes and tokens taken, and the assignment.
-/
module

public import proofs.«01_k».proof.Proof.RefOps
public import Idealize.ShloMosaic.Lib.Tactic.CleanTypes

@[expose] public section

set_option maxRecDepth 16384

noncomputable section

namespace Cert.Ref

open Idealize.ShloMosaic Idealize.ShloMosaic.TcCoe Idealize.ShloMosaic.StableHlo Idealize.SL.Sem
open Cert.ReferenceIdeal Cert.ReferenceIdeal.Gen

variable {F : FTy → Type} [FloatOps F]

attribute [local irreducible] Host.argReduce shapeCast broadcastInDim Host.divsi Host.remsi

/-- The distances, infinite where the class or the token is taken. -/
def masked (dist : Vec F S375x5x5 .f32) (ru cu : Vec F S375x5 .i1) : Vec F S375x5x5 .f32 :=
  select (ori (broadcastInDim S375x5x5 ![0, 1, 2] bcast_S375x5x1_S375x5x5_0_1_2 (broadcastInDim S375x5x1 ![0, 1] bcast_S375x5_S375x5x1_0_1 ru))
      (broadcastInDim S375x5x5 ![0, 1, 2] bcast_S375x1x5_S375x5x5_0_1_2 (broadcastInDim S375x1x5 ![0, 2] bcast_S375x5_S375x1x5_0_2 cu)))
    (broadcastInDim S375x5x5 ![] bcast_S_S375x5x5 (id (constant S_ .f32 0x7F800000#32))) dist

/-- The number of the pair that a round takes, in every row. -/
def flat (dist : Vec F S375x5x5 .f32) (ru cu : Vec F S375x5 .i1) : Vec F S375 .i32 :=
  fun j => (Host.argReduce reducer_argmin_f32_i32 (shapeCast S375x25 (masked dist ru cu) shapeCasts_S375x5x5_S375x25) (iotaInDim S375x25 32 1)
    (constant S_ .f32 0x7F800000#32) (constantI S_ 32 0#32) reducesTo_S375x25_S375_d1 h_S_ j).2

/-- Its class and its token, a column each. -/
def classOf (f : Vec F S375 .i32) : Vec F S375x1 .i32 :=
  broadcastInDim S375x1 ![0] bcast_S375_S375x1_0 (Host.divsi f (broadcastInDim S375 ![] bcast_S_S375 (constantI S_ 32 5#32)))
/-- The token of the pair that a round takes. -/
def tokenOf (f : Vec F S375 .i32) : Vec F S375x1 .i32 :=
  broadcastInDim S375x1 ![0] bcast_S375_S375x1_0 (Host.remsi f (broadcastInDim S375 ![] bcast_S_S375 (constantI S_ 32 5#32)))

/-- Those of five that a column names. -/
def named (x : Vec F S375x1 .i32) : Vec F S375x5 .i1 :=
  cmpi .eq (iotaInDim S375x5 32 1) (broadcastInDim S375x5 ![0, 1] bcast_S375x1_S375x5_0_1 x)

/-- The classes taken after a round, the tokens taken, and the assignment. -/
def nextRows (ru : Vec F S375x5 .i1) (f : Vec F S375 .i32) : Vec F S375x5 .i1 := ori ru (named (F := F) (classOf (F := F) f))
/-- The tokens taken after a round. -/
def nextCols (cu : Vec F S375x5 .i1) (f : Vec F S375 .i32) : Vec F S375x5 .i1 := ori cu (named (F := F) (tokenOf (F := F) f))
/-- The assignment after a round. -/
def nextAssign (a : Vec F S375x5 .i32) (f : Vec F S375 .i32) : Vec F S375x5 .i32 :=
  select (named (F := F) (classOf (F := F) f)) (broadcastInDim S375x5 ![0, 1] bcast_S375x1_S375x5_0_1 (tokenOf (F := F) f)) a

/-- One round: the classes taken, the tokens taken and the assignment. -/
def next (D : Vec F S375x5x5 .f32) (s : Vec F S375x5 .i1 × Vec F S375x5 .i1 × Vec F S375x5 .i32) :
    Vec F S375x5 .i1 × Vec F S375x5 .i1 × Vec F S375x5 .i32 :=
  (nextRows (F := F) s.1 (flat (F := F) D s.1 s.2.1), nextCols (F := F) s.2.1 (flat (F := F) D s.1 s.2.1), nextAssign (F := F) s.2.2 (flat (F := F) D s.1 s.2.1))

/-- The operations of a round. -/
abbrev round : Fin 5 → List (HloOp τ sig (Elt F))
  | 0 => round0 | 1 => round1 | 2 => round2 | 3 => round3 | 4 => round4

/-- The classes taken, the tokens taken and the assignment, in the buffers that hold them before a round, or after the last. -/
abbrev found (V : Valuation τ sig (Elt F)) : Fin 6 → Vec F S375x5 .i1 × Vec F S375x5 .i1 × Vec F S375x5 .i32
  | 0 => (V main_v24, V main_v25, V main_v26)
  | 1 => (V main_v27_0, V main_v27_1, V main_v27_2)
  | 2 => (V main_v28_0, V main_v28_1, V main_v28_2)
  | 3 => (V main_v29_0, V main_v29_1, V main_v29_2)
  | 4 => (V main_v30_0, V main_v30_1, V main_v30_2)
  | 5 => (V main_v31_0, V main_v31_1, V main_v31_2)

/-- What a round leaves: the next state, and the distances and the tokens as they were. -/
theorem round_reads (V : Valuation τ sig (Elt F)) (k : Fin 5) :
    (found (after (round k) V) k.succ).1 = (next (V main_v23) (found V k.castSucc)).1
      ∧ (found (after (round k) V) k.succ).2.1 = (next (V main_v23) (found V k.castSucc)).2.1
      ∧ (found (after (round k) V) k.succ).2.2 = (next (V main_v23) (found V k.castSucc)).2.2
      ∧ after (round k) V (Proc.devRef .tc main_v23) = V main_v23 ∧ after (round k) V (Proc.devRef .tc main_arg1) = V main_arg1 := by
  match k with
  | 0 | 1 | 2 | 3 | 4 =>
    refine ⟨?_, ?_, ?_, ?_, ?_⟩ <;> dsimp only [round, found, next, Fin.succ, Fin.castSucc] <;> after_reads_simp
    all_goals simp -implicitDefEqProofs only [StableHlo.TRef.toBuf, StableHlo.TRef.ofBuf, cast_cast, cast_eq]
    · clean_types; rfl
    · clean_types; rfl
    · clean_types; rfl

/-- Thirteen words of every class, from word `s` on. -/
def under (s : ℕ) (h : S375x5x64.Slices ![0, 0, s] S375x5x13) (x : Vec F S375x5x64 .f32) : Vec F S375x5x1x13 .f32 :=
  broadcastInDim S375x5x1x13 ![0, 1, 3] bcast_S375x5x13_S375x5x1x13_0_1_3 (extractStridedSlice S375x5x13 ![0, 0, s] x h)

/-- Five such, one after another. -/
def stack (a b c d e : Vec F S375x5x1x13 .f32) : Vec F S375x5x5x13 .f32 :=
  concatenate S375x5x5x13 2 [⟨S375x5x1x13, a⟩, ⟨S375x5x1x13, b⟩, ⟨S375x5x1x13, c⟩, ⟨S375x5x1x13, d⟩, ⟨S375x5x1x13, e⟩]
    concatenates_S375x5x1x13_S375x5x1x13_S375x5x1x13_S375x5x1x13_S375x5x1x13_S375x5x5x13_d2

/-- The words of every class that lie under every token. -/
def gathered (x : Vec F S375x5x64 .f32) : Vec F S375x5x5x13 .f32 :=
  stack (under 0 slices_S375x5x64_S375x5x13_0_0_0 x) (under 12 slices_S375x5x64_S375x5x13_0_0_12 x) (under 25 slices_S375x5x64_S375x5x13_0_0_25 x) (under 38 slices_S375x5x64_S375x5x13_0_0_38 x) (under 51 slices_S375x5x64_S375x5x13_0_0_51 x)

/-- The tokens, for every row and class. -/
def spread (t : Vec F S5x13 .f32) : Vec F S375x5x5x13 .f32 :=
  broadcastInDim S375x5x5x13 ![0, 1, 2, 3] bcast_S1x1x5x13_S375x5x5x13_0_1_2_3 (broadcastInDim S1x1x5x13 ![2, 3] bcast_S5x13_S1x1x5x13_2_3 t)

/-- The sums of thirteen squares. -/
def squares (g : Vec F S375x5x5x13 .f32) : Vec F S375x5x5 .f32 :=
  Host.reduceAdd (mulf g g) (constant S_ .f32 0x00000000#32) reducesTo_S375x5x5x13_S375x5x5_d3 h_S_

/-- The distances, from the words that lie under the tokens. -/
def distFrom (g : Vec F S375x5x5x13 .f32) (x : Vec F S375x5x64 .f32) (t : Vec F S5x13 .f32) : Vec F S375x5x5 .f32 :=
  addf (subf (broadcastInDim S375x5x5 ![0, 1, 2] bcast_S375x5x1_S375x5x5_0_1_2 (broadcastInDim S375x5x1 ![0, 1] bcast_S375x5_S375x5x1_0_1
      (Host.reduceAdd (mulf x x) (constant S_ .f32 0x00000000#32) reducesTo_S375x5x64_S375x5_d2 h_S_)))
    (squares g)) (squares (subf g (spread t)))

/-- The distances. -/
def distances (x : Vec F S375x5x64 .f32) (t : Vec F S5x13 .f32) : Vec F S375x5x5 .f32 := distFrom (gathered x) x t

/-- No class and no token taken, and no assignment made. -/
def noneTaken : Vec F S375x5 .i1 := broadcastInDim S375x5 ![] bcast_S_S375x5 (constantI S_ 1 0#1)
/-- No assignment made. -/
def noAssign : Vec F S375x5 .i32 := broadcastInDim S375x5 ![] bcast_S_S375x5 (constantI S_ 32 0#32)

/-- The five windows of the picture's words, as they are stacked. -/
theorem under_reads (V : Valuation τ sig (Elt F)) :
    upto distOps V 10 (Proc.devRef .tc main_v5) = under 0 slices_S375x5x64_S375x5x13_0_0_0 (V main_arg0)
      ∧ upto distOps V 10 (Proc.devRef .tc main_v6) = under 12 slices_S375x5x64_S375x5x13_0_0_12 (V main_arg0)
      ∧ upto distOps V 10 (Proc.devRef .tc main_v7) = under 25 slices_S375x5x64_S375x5x13_0_0_25 (V main_arg0)
      ∧ upto distOps V 10 (Proc.devRef .tc main_v8) = under 38 slices_S375x5x64_S375x5x13_0_0_38 (V main_arg0)
      ∧ upto distOps V 10 (Proc.devRef .tc main_v9) = under 51 slices_S375x5x64_S375x5x13_0_0_51 (V main_arg0) := by
  refine ⟨?_, ?_, ?_, ?_, ?_⟩ <;> after_reads_simp <;> rfl

/-- What comes before the rounds. -/
theorem dist_reads (V : Valuation τ sig (Elt F)) :
    after distOps V (Proc.devRef .tc main_v23) = distances (V main_arg0) (V main_arg1)
      ∧ after distOps V (Proc.devRef .tc main_v24) = noneTaken (F := F)
      ∧ after distOps V (Proc.devRef .tc main_v25) = noneTaken (F := F)
      ∧ after distOps V (Proc.devRef .tc main_v26) = noAssign (F := F)
      ∧ after distOps V (Proc.devRef .tc main_arg1) = V main_arg1 := by
  refine ⟨?_, ?_, ?_, ?_, ?_⟩ <;> after_reads_simp
  · change distFrom (stack (upto distOps V 10 (Proc.devRef .tc main_v5)) (upto distOps V 10 (Proc.devRef .tc main_v6)) (upto distOps V 10 (Proc.devRef .tc main_v7)) (upto distOps V 10 (Proc.devRef .tc main_v8)) (upto distOps V 10 (Proc.devRef .tc main_v9))) (V main_arg0) (V main_arg1) = distances (V main_arg0) (V main_arg1)
    obtain ⟨h0, h1, h2, h3, h4⟩ := under_reads V
    rw [h0, h1, h2, h3, h4]
    rfl
  · rfl
  · rfl
  · rfl

/-- The tokens chosen. -/
def chosen (t : Vec F S5x13 .f32) (a : Vec F S375x5 .i32) : Vec F S375x5x13 .f32 :=
  Host.gather gather_S5x13_S375x5x1_S375x5x13_2_0_n_n_0_2_113 t (broadcastInDim S375x5x1 ![0, 1] bcast_S375x5_S375x5x1_0_1 a)

/-- A class's token, on its segment. -/
def placed (k : ℕ) (lo hi : Fin S375x13.rank → ℕ) (hk : S375x5x13.Slices ![0, k, 0] S375x1x13) (hp : S375x13.Pads lo hi ![0, 0] S375x64) (u : Vec F S375x5x13 .f32) : Vec F S375x1x64 .f32 :=
  broadcastInDim S375x1x64 ![0, 2] bcast_S375x64_S375x1x64_0_2
    (pad S375x64 lo hi ![0, 0] (shapeCast S375x13 (extractStridedSlice S375x1x13 ![0, k, 0] u hk) shapeCasts_S375x1x13_S375x13)
      (sitofp .f32 (constantI S_ 32 0#32)) hp h_S_)

/-- Five rows, one under another. -/
def stackRows (a b c d e : Vec F S375x1x64 .f32) : Vec F S375x5x64 .f32 :=
  concatenate S375x5x64 1 [⟨S375x1x64, a⟩, ⟨S375x1x64, b⟩, ⟨S375x1x64, c⟩, ⟨S375x1x64, d⟩, ⟨S375x1x64, e⟩]
    concatenates_S375x1x64_S375x1x64_S375x1x64_S375x1x64_S375x1x64_S375x5x64_d1

/-- The result's rows. -/
def rows (t : Vec F S5x13 .f32) (a : Vec F S375x5 .i32) : Vec F S375x5x64 .f32 :=
  stackRows
    (placed 0 ![0, 0] ![0, 51] slices_S375x5x13_S375x1x13_0_0_0 pads_S375x13_S375x64_000_0510 (chosen t a))
    (placed 1 ![0, 12] ![0, 39] slices_S375x5x13_S375x1x13_0_1_0 pads_S375x13_S375x64_000_12390 (chosen t a))
    (placed 2 ![0, 25] ![0, 26] slices_S375x5x13_S375x1x13_0_2_0 pads_S375x13_S375x64_000_25260 (chosen t a))
    (placed 3 ![0, 38] ![0, 13] slices_S375x5x13_S375x1x13_0_3_0 pads_S375x13_S375x64_000_38130 (chosen t a))
    (placed 4 ![0, 51] ![0, 0] slices_S375x5x13_S375x1x13_0_4_0 pads_S375x13_S375x64_000_5100 (chosen t a))

/-- The five rows of the result, as they are stacked. -/
theorem placed_reads (V : Valuation τ sig (Elt F)) :
    upto rowOps V 32 (Proc.devRef .tc main_v48) = placed 0 ![0, 0] ![0, 51] slices_S375x5x13_S375x1x13_0_0_0 pads_S375x13_S375x64_000_0510 (chosen (V main_arg1) (V main_v31_2))
      ∧ upto rowOps V 32 (Proc.devRef .tc main_v49) = placed 1 ![0, 12] ![0, 39] slices_S375x5x13_S375x1x13_0_1_0 pads_S375x13_S375x64_000_12390 (chosen (V main_arg1) (V main_v31_2))
      ∧ upto rowOps V 32 (Proc.devRef .tc main_v50) = placed 2 ![0, 25] ![0, 26] slices_S375x5x13_S375x1x13_0_2_0 pads_S375x13_S375x64_000_25260 (chosen (V main_arg1) (V main_v31_2))
      ∧ upto rowOps V 32 (Proc.devRef .tc main_v51) = placed 3 ![0, 38] ![0, 13] slices_S375x5x13_S375x1x13_0_3_0 pads_S375x13_S375x64_000_38130 (chosen (V main_arg1) (V main_v31_2))
      ∧ upto rowOps V 32 (Proc.devRef .tc main_v52) = placed 4 ![0, 51] ![0, 0] slices_S375x5x13_S375x1x13_0_4_0 pads_S375x13_S375x64_000_5100 (chosen (V main_arg1) (V main_v31_2)) := by
  refine ⟨?_, ?_, ?_, ?_, ?_⟩ <;> after_reads_simp
  all_goals
    simp -implicitDefEqProofs only [StableHlo.TRef.toBuf, StableHlo.TRef.ofBuf, cast_cast, cast_eq]
    clean_types
    rfl

/-- What comes after the rounds. -/
theorem rows_reads (V : Valuation τ sig (Elt F)) :
    after rowOps V (Proc.devRef .tc main_v53) = rows (V main_arg1) (V main_v31_2) := by
  after_reads_simp
  change stackRows (upto rowOps V 32 (Proc.devRef .tc main_v48)) (upto rowOps V 32 (Proc.devRef .tc main_v49)) (upto rowOps V 32 (Proc.devRef .tc main_v50)) (upto rowOps V 32 (Proc.devRef .tc main_v51)) (upto rowOps V 32 (Proc.devRef .tc main_v52)) = rows (V main_arg1) (V main_v31_2)
  obtain ⟨h0, h1, h2, h3, h4⟩ := placed_reads V
  rw [h0, h1, h2, h3, h4]
  rfl

end Cert.Ref

end
-- ==== Proof.RefRun.lean ====
/-
  The reference's run: it ends, and its result is a function of its two arguments.
-/
module

public import proofs.«01_k».proof.Proof.RefReads

@[expose] public section

set_option maxRecDepth 16384

noncomputable section

namespace Cert.Ref

open Idealize.ShloMosaic Idealize.ShloMosaic.TcCoe Idealize.ShloMosaic.StableHlo Idealize.SL.Sem
open Cert.ReferenceIdeal Cert.ReferenceIdeal.Gen

variable {F : FTy → Type} [FloatOps F]

/-- The classes taken, the tokens taken and the assignment after `n` rounds. -/
def state (D : Vec F S375x5x5 .f32) : ℕ → Vec F S375x5 .i1 × Vec F S375x5 .i1 × Vec F S375x5 .i32
  | 0 => (noneTaken (F := F), noneTaken (F := F), noAssign (F := F))
  | n + 1 => next D (state D n)

/-- The reference's result, from its arguments. -/
def value (x : Vec F S375x5x64 .f32) (t : Vec F S5x13 .f32) : Vec F S375x5x64 .f32 := rows t (state (distances x t) 5).2.2

/-- Two lists of operations, one after the other. -/
theorem after_two (l k : List (HloOp τ sig (Elt F))) (V : Valuation τ sig (Elt F)) : after (l ++ k) V = after k (after l V) := by
  induction l generalizing V with
  | nil => rfl
  | cons a l ih => exact ih _

/-- What the buffers hold before a round, or after the last: the distances, the state and the tokens. -/
def Holds (D : Vec F S375x5x5 .f32) (t : Vec F S5x13 .f32) (k : Fin 6) (V : Valuation τ sig (Elt F)) : Prop :=
  V main_v23 = D ∧ found V k = state D k.val ∧ V main_arg1 = t

/-- A round takes the state to the next. -/
theorem step {D : Vec F S375x5x5 .f32} {t : Vec F S5x13 .f32} (k : Fin 5) {V : Valuation τ sig (Elt F)} (hV : Holds D t k.castSucc V) :
    Holds D t k.succ (after (round k) V) := by
  obtain ⟨hD, hs, ht⟩ := hV
  have h := round_reads V k
  rw [hD, hs] at h
  exact ⟨h.2.2.2.1, Prod.ext h.1 (Prod.ext h.2.1 h.2.2.1), h.2.2.2.2.trans ht⟩

/-- The operations leave the value in the result's buffer. -/
theorem out_eq (V : Valuation τ sig (Elt F)) : after ops V (Proc.devRef .tc main_v53) = value (V main_arg0) (V main_arg1) := by
  have h := dist_reads V
  have h0 : Holds (distances (V main_arg0) (V main_arg1)) (V main_arg1) 0 (after distOps V) :=
    ⟨h.1, Prod.ext h.2.1 (Prod.ext h.2.2.1 h.2.2.2.1), h.2.2.2.2⟩
  have h5 := step 4 (step 3 (step 2 (step 1 (step 0 h0))))
  rw [ops, after_two, after_two, after_two, after_two, after_two, after_two]
  refine (rows_reads _).trans ?_
  exact congrArg₂ rows h5.2.2 (congrArg (fun s => s.2.2) h5.2.1)

/-- The operations are on the device's buffers, and determined. -/
def Good (l : List (HloOp τ sig (Elt F))) : Prop := ∀ op ∈ l, op.bufs ⊆ tcRefs τ sig ∧ op.fresh = ∅

/-- No operation. -/
theorem good_nil : Good ([] : List (HloOp τ sig (Elt F))) := fun _ h => nomatch h
/-- One operation more. -/
theorem good_cons (a : HloOp τ sig (Elt F)) (l : List (HloOp τ sig (Elt F))) (ha : a.bufs ⊆ tcRefs τ sig ∧ a.fresh = ∅)
    (hl : Good l) : Good (a :: l) := fun op h => by
  rcases List.mem_cons.1 h with h | h
  · subst h; exact ha
  · exact hl op h
/-- The kinds of operation, one by one: a constant, -/
theorem nullary_good (y : Ref sig .tc) (v hy) : (nullary (τ := τ) (Val := Elt F) y v hy).bufs ⊆ tcRefs τ sig ∧ (nullary (τ := τ) (Val := Elt F) y v hy).fresh = ∅ :=
  ⟨nullary_bufs_sub .., rfl⟩
/-- of one array, -/
theorem unary_good (x y : Ref sig .tc) (f hx hy) : (unary (τ := τ) (Val := Elt F) x y f hx hy).bufs ⊆ tcRefs τ sig ∧ (unary (τ := τ) (Val := Elt F) x y f hx hy).fresh = ∅ :=
  ⟨unary_bufs_sub .., rfl⟩
/-- of two, -/
theorem binary_good (a b y : Ref sig .tc) (f ha hb hy) : (binary (τ := τ) (Val := Elt F) a b y f ha hb hy).bufs ⊆ tcRefs τ sig ∧ (binary (τ := τ) (Val := Elt F) a b y f ha hb hy).fresh = ∅ :=
  ⟨binary_bufs_sub .., rfl⟩
/-- of three, -/
theorem ternary_good (c a b y : Ref sig .tc) (f hc ha hb hy) : (ternary (τ := τ) (Val := Elt F) c a b y f hc ha hb hy).bufs ⊆ tcRefs τ sig ∧ (ternary (τ := τ) (Val := Elt F) c a b y f hc ha hb hy).fresh = ∅ :=
  ⟨ternary_bufs_sub .., rfl⟩
/-- of four, -/
theorem quaternary_good (a b c e y : Ref sig .tc) (f ha hb hc he hy) : (quaternary (τ := τ) (Val := Elt F) a b c e y f ha hb hc he hy).bufs ⊆ tcRefs τ sig ∧ (quaternary (τ := τ) (Val := Elt F) a b c e y f ha hb hc he hy).fresh = ∅ :=
  ⟨quaternary_bufs_sub .., rfl⟩
/-- a reshape, -/
theorem reshape_good (x y : Ref sig .tc) (he hn hx hy) : (reshape (τ := τ) (Val := Elt F) x y he hn hx hy).bufs ⊆ tcRefs τ sig ∧ (reshape (τ := τ) (Val := Elt F) x y he hn hx hy).fresh = ∅ :=
  ⟨reshape_bufs_sub .., rfl⟩
/-- of a list of arrays. -/
theorem nary_good {n : ℕ} (xs : Fin n → Ref sig .tc) (y : Ref sig .tc) (f hxs hy) : (nary (τ := τ) (Val := Elt F) xs y f hxs hy).bufs ⊆ tcRefs τ sig ∧ (nary (τ := τ) (Val := Elt F) xs y f hxs hy).fresh = ∅ :=
  ⟨nary_bufs_sub .., rfl⟩
/-- Two lists. -/
theorem good_append (l k : List (HloOp τ sig (Elt F))) (hl : Good l) (hk : Good k) : Good (l ++ k) :=
  fun op h => (List.mem_append.1 h).elim (hl op) (hk op)

/-- A round's operations. -/
theorem good_pick (a b c e φ) : Good (fn_pickOps (F := F) a b c e φ) := by
  unfold fn_pickOps fn_whereOps fn_argminOps
  simp only [List.cons_append, List.nil_append]
  repeat' (first | exact good_nil | refine good_cons _ _ (by with_reducible first | exact nullary_good .. | exact unary_good .. | exact binary_good .. | exact ternary_good .. | exact quaternary_good .. | exact reshape_good .. | exact nary_good ..) ?_)
/-- The distances' operations. -/
theorem good_dist : Good (distOps (F := F)) := by
  unfold distOps
  repeat' (first | exact good_nil | refine good_cons _ _ (by with_reducible first | exact nullary_good .. | exact unary_good .. | exact binary_good .. | exact ternary_good .. | exact quaternary_good .. | exact reshape_good .. | exact nary_good ..) ?_)
/-- The rows' operations. -/
theorem good_rows : Good (rowOps (F := F)) := by
  unfold rowOps fn_takeOps fn_padOps fn_pad_0Ops fn_pad_1Ops fn_pad_2Ops fn_pad_3Ops
  simp only [List.cons_append, List.nil_append]
  repeat' (first | exact good_nil | refine good_cons _ _ (by with_reducible first | exact nullary_good .. | exact unary_good .. | exact binary_good .. | exact ternary_good .. | exact quaternary_good .. | exact reshape_good .. | exact nary_good ..) ?_)
/-- All of them. -/
theorem good_ops : Good (ops (F := F)) :=
  good_append _ _ good_dist (good_append _ _ (good_pick _ _ _ _ _) (good_append _ _ (good_pick _ _ _ _ _) (good_append _ _ (good_pick _ _ _ _ _)
    (good_append _ _ (good_pick _ _ _ _ _) (good_append _ _ (good_pick _ _ _ _ _) good_rows)))))

/-- No operation writes an argument. -/
theorem args_eq (V : Valuation τ sig (Elt F)) :
    after ops V (Proc.devRef .tc main_arg0) = V main_arg0 ∧ after ops V (Proc.devRef .tc main_arg1) = V main_arg1 := by
  constructor <;> after_reads_simp

/-- The reference runs to its end, leaves its value, and leaves its arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v53)
          = value (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run _ _ _).mono (fun _ h c => ⟨(h c main_v53).trans (out_eq _), (h c main_arg0).trans (args_eq _).1, (h c main_arg1).trans (args_eq _).2⟩)
    (run_seq scopedRefs_eq scopedSems_eq defs main (fun _ => ops) main_eq (fun _ => List.forall_iff_forall_mem.2 fun op h => (good_ops op h).1) m ρ
      (fun _ op h => (good_ops op h).2))

end Cert.Ref

end
-- ==== Proof.Argmin.lean ====
/-
  The least of twenty-five distances and the first place where it stands: the kernel's tree of comparisons and the reference's fold both find it.
-/
module

public import proofs.«01_k».proof.Proof.Rounds
public import proofs.«01_k».proof.Proof.RefRun
public import Idealize.ShloMosaic.Lib.Pointwise

@[expose] public section

set_option maxRecDepth 16384

noncomputable section

namespace Cert.Equal

open Idealize.ShloMosaic

/-- A pair of a distance and a number, to be ordered by the distance and then by the number. -/
abbrev Pair : Type := Ideal .f32 × BitVec 32

/-- Its place in that order. -/
def key (p : Pair) : EReal ×ₗ ℤ := toLex (p.1, p.2.toInt)

/-- Keys are ordered by distance, and by number where the distances are equal. -/
theorem key_le (p q : Pair) : key p ≤ key q ↔ (p.1 : EReal) < q.1 ∨ ((p.1 : EReal) = q.1 ∧ p.2.toInt ≤ q.2.toInt) := Prod.Lex.toLex_le_toLex

/-- A key names its pair. -/
theorem key_inj {p q : Pair} (h : key p = key q) : p = q := by
  have h' : ((p.1, p.2.toInt) : EReal × ℤ) = (q.1, q.2.toInt) := toLex.injective h
  rw [Prod.mk.injEq] at h'
  exact Prod.ext h'.1 (BitVec.eq_of_toInt_eq h'.2)

/-- The float comparison “less” is the order of the extended reals. -/
theorem cmp_lt (a b : Ideal .f32) : (FloatOps.cmpf .olt a b = 1#1) ↔ (a : EReal) < b := by
  rw [Ideal.cmpf_def]
  show BitVec.ofBool (decide ((a : EReal) < b)) = 1#1 ↔ _
  by_cases h : (a : EReal) < b <;> simp [h]

/-- The float comparison “equal” is their equality. -/
theorem cmp_eq (a b : Ideal .f32) : (FloatOps.cmpf .oeq a b = 1#1) ↔ (a : EReal) = b := by
  rw [Ideal.cmpf_def]
  show BitVec.ofBool (decide ((a : EReal) = b)) = 1#1 ↔ _
  by_cases h : (a : EReal) = b <;> simp [h]

/-- No extended real differs from itself. -/
theorem cmp_ne (a : Ideal .f32) : FloatOps.cmpf .une a a = 0#1 := by
  rw [Ideal.cmpf_def]
  show BitVec.ofBool (decide ((a : EReal) ≠ a)) = 0#1
  simp

/-- The signed comparison of words is that of their integers. -/
theorem cmp_slt (a b : BitVec 32) : (IntOp.cmpi .slt a b = 1#1) ↔ a.toInt < b.toInt := by
  show BitVec.ofBool (a.slt b) = 1#1 ↔ _
  rw [BitVec.slt_eq_decide]
  by_cases h : a.toInt < b.toInt <;> simp [h]

/-! ## The kernel's tree -/

/-- `p` is the first of the least among the candidates from `a` to before `b`. -/
def IsLeast (D : Fin 25 → Ideal .f32) (a b : ℕ) (p : Pair) : Prop :=
  (∃ i : Fin 25, a ≤ i.val ∧ i.val < b ∧ p = Cert.Tile.cand D i) ∧ ∀ i : Fin 25, a ≤ i.val → i.val < b → key p ≤ key (Cert.Tile.cand D i)

/-- A candidate's number, read signed, is its position. -/
theorem cand_toInt (i : Fin 25) : (BitVec.ofNat 32 i.val).toInt = i.val := by revert i; decide

/-- A candidate is the least of itself alone. -/
theorem isLeast_cand (D : Fin 25 → Ideal .f32) (i : Fin 25) : IsLeast D i.val (i.val + 1) (Cert.Tile.cand D i) :=
  ⟨⟨i, le_rfl, Nat.lt_succ_self _, rfl⟩, fun j h h' => by rw [show j = i from Fin.ext (by omega)]⟩

/-- The kernel's choice of two is the least of two adjoining ranges together. -/
theorem isLeast_least {D : Fin 25 → Ideal .f32} {a b c : ℕ} {p q : Pair} (hp : IsLeast D a b p) (hq : IsLeast D b c q) :
    IsLeast D a c (Cert.Tile.least p q) := by
  obtain ⟨⟨i, hi, hi', ep⟩, lp⟩ := hp
  obtain ⟨⟨j, hj, hj', eq⟩, lq⟩ := hq
  by_cases h : FloatOps.cmpf .olt q.1 p.1 = 1#1
  · have e : Cert.Tile.least p q = q := by
      unfold Cert.Tile.least Scalar.select
      exact Prod.ext (if_pos h) (if_pos h)
    rw [e]
    have hqp : key q ≤ key p := (key_le _ _).2 (Or.inl ((cmp_lt _ _).1 h))
    refine ⟨⟨j, by omega, hj', eq⟩, fun k h1 h2 => ?_⟩
    by_cases hk : k.val < b
    · exact hqp.trans (lp k h1 hk)
    · exact lq k (by omega) h2
  · have e : Cert.Tile.least p q = p := by
      unfold Cert.Tile.least Scalar.select
      exact Prod.ext (if_neg h) (if_neg h)
    rw [e]
    have hpq : key p ≤ key q := by
      refine (key_le _ _).2 ?_
      rcases lt_or_eq_of_le (not_lt.1 fun hh => h ((cmp_lt _ _).2 hh)) with h' | h'
      · exact Or.inl h'
      · refine Or.inr ⟨h', ?_⟩
        rw [ep, eq]
        show (BitVec.ofNat 32 i.val).toInt ≤ (BitVec.ofNat 32 j.val).toInt
        rw [cand_toInt, cand_toInt]
        omega
    refine ⟨⟨i, hi, by omega, ep⟩, fun k h1 h2 => ?_⟩
    by_cases hk : k.val < b
    · exact lp k h1 hk
    · exact hpq.trans (lq k (by omega) h2)

/-- What the kernel finds is the least of all twenty-five candidates. -/
theorem best_isLeast (D : Fin 25 → Ideal .f32) : IsLeast D 0 25 (Cert.Tile.best D) := by
  unfold Cert.Tile.best
  have c := isLeast_cand D
  exact isLeast_least
    (isLeast_least
      (isLeast_least (isLeast_least (isLeast_least (c 0) (c 1)) (isLeast_least (c 2) (c 3))) (isLeast_least (isLeast_least (c 4) (c 5)) (isLeast_least (c 6) (c 7))))
      (isLeast_least (isLeast_least (isLeast_least (c 8) (c 9)) (isLeast_least (c 10) (c 11))) (isLeast_least (isLeast_least (c 12) (c 13)) (isLeast_least (c 14) (c 15)))))
    (isLeast_least
      (isLeast_least (isLeast_least (isLeast_least (c 16) (c 17)) (isLeast_least (c 18) (c 19))) (isLeast_least (isLeast_least (c 20) (c 21)) (isLeast_least (c 22) (c 23))))
      (c 24))

/-! ## The reference's fold -/

/-- A selection by a true bit. -/
theorem select_pos {α : Type} {c : BitVec 1} {a b : α} (h : c = 1#1) : Scalar.select c a b = a := if_pos h
/-- A selection by a false bit. -/
theorem select_neg {α : Type} {c : BitVec 1} {a b : α} (h : c ≠ 1#1) : Scalar.select c a b = b := if_neg h

/-- The reference's step keeps the pair of the smaller key. -/
theorem reducer_eq (p q : Pair) : Cert.ReferenceIdeal.reducer_argmin_f32_i32 p q = if key p ≤ key q then p else q := by
  have bit : ∀ a : BitVec 1, a ≠ 1#1 → a = 0#1 := by decide
  rcases lt_trichotomy (p.1 : EReal) q.1 with h | h | h
  · have hk : key p ≤ key q := (key_le _ _).2 (Or.inl h)
    rw [if_pos hk]
    unfold Cert.ReferenceIdeal.reducer_argmin_f32_i32
    simp only [(cmp_lt _ _).2 h]
    exact Prod.ext (select_pos (by rw [cmp_ne]; decide)) (select_pos (by rw [cmp_ne]; generalize IntOp.andi _ _ = z; revert z; decide))
  · have h2 : FloatOps.cmpf .olt p.1 q.1 = 0#1 := bit _ fun hh => absurd ((cmp_lt _ _).1 hh) (by rw [h]; exact lt_irrefl _)
    have h3 := (cmp_eq _ _).2 h
    unfold Cert.ReferenceIdeal.reducer_argmin_f32_i32
    simp only [h2, h3, cmp_ne]
    by_cases hs : p.2.toInt < q.2.toInt
    · rw [if_pos ((key_le _ _).2 (Or.inr ⟨h, hs.le⟩))]
      refine Prod.ext ((select_neg (c := IntOp.ori 0#1 0#1) (a := p.1) (b := q.1) (by decide)).trans h.symm) (select_pos ?_)
      rw [(cmp_slt _ _).2 hs]
      decide
    · have e0 : IntOp.cmpi .slt p.2 q.2 = 0#1 := bit _ fun hh => hs ((cmp_slt _ _).1 hh)
      have hq : (if key p ≤ key q then p else q) = q := by
        by_cases hk : key p ≤ key q
        · rw [if_pos hk]
          exact key_inj (le_antisymm hk ((key_le _ _).2 (Or.inr ⟨h.symm, not_lt.1 hs⟩)))
        · rw [if_neg hk]
      rw [hq]
      refine Prod.ext (select_neg (c := IntOp.ori 0#1 0#1) (a := p.1) (b := q.1) (by decide)) (select_neg ?_)
      rw [e0]
      decide
  · have h2 : FloatOps.cmpf .olt p.1 q.1 = 0#1 := bit _ fun hh => absurd ((cmp_lt _ _).1 hh) (lt_asymm h)
    have h3 : FloatOps.cmpf .oeq p.1 q.1 = 0#1 := bit _ fun hh => absurd ((cmp_eq _ _).1 hh) h.ne'
    have hk : ¬ key p ≤ key q := fun hk => by
      rcases (key_le _ _).1 hk with h' | h'
      · exact lt_asymm h h'
      · exact h.ne' h'.1
    rw [if_neg hk]
    unfold Cert.ReferenceIdeal.reducer_argmin_f32_i32
    simp only [h2, h3, cmp_ne]
    refine Prod.ext (select_neg (c := IntOp.ori 0#1 0#1) (a := p.1) (b := q.1) (by decide)) (select_neg ?_)
    generalize IntOp.cmpi _ _ _ = z
    revert z
    decide

/-- A fold of the reference's step ends at the least key it has met. -/
theorem fold_isLeast (l : List Pair) (a : Pair) :
    l.foldl Cert.ReferenceIdeal.reducer_argmin_f32_i32 a ∈ a :: l ∧ ∀ p ∈ a :: l, key (l.foldl Cert.ReferenceIdeal.reducer_argmin_f32_i32 a) ≤ key p := by
  induction l generalizing a with
  | nil => exact ⟨List.mem_singleton.2 rfl, fun p h => by rw [List.mem_singleton.1 h]; exact le_rfl⟩
  | cons b l ih =>
    have h := ih (Cert.ReferenceIdeal.reducer_argmin_f32_i32 a b)
    have hr := reducer_eq a b
    rw [List.foldl_cons]
    refine ⟨?_, ?_⟩
    · rcases List.mem_cons.1 h.1 with h1 | h1
      · rw [h1, hr]
        split <;> simp
      · exact List.mem_cons_of_mem _ (List.mem_cons_of_mem _ h1)
    · have hm := h.2 _ List.mem_cons_self
      rw [hr] at hm
      intro p hp
      rcases List.mem_cons.1 hp with rfl | hp
      · refine (h.2 _ List.mem_cons_self).trans ((congrArg key hr).le.trans ?_)
        split
        · exact le_rfl
        · exact le_of_not_ge ‹_›
      · rcases List.mem_cons.1 hp with rfl | hp
        · refine (h.2 _ List.mem_cons_self).trans ((congrArg key hr).le.trans ?_)
          split
          · assumption
          · exact le_rfl
        · exact h.2 _ (List.mem_cons_of_mem _ hp)

/-! ## The two agree -/

open Cert.ReferenceIdeal Cert.ReferenceIdeal.Gen

/-- The pairs folded over for a row are the row's distances with their numbers. -/
theorem mem_fiber (x : Vec Ideal S375x25 .f32) (n : Fin 375) (p : Pair) :
    p ∈ Host.argReduceFiber x (iotaInDim S375x25 32 1) reducesTo_S375x25_S375_d1 (ix1 n) ↔ ∃ k : Fin 25, p = (x (ix2 n k), BitVec.ofNat 32 k.val) := by
  have hd : ∀ (a : Fin 375) (k : Fin 25), reducesTo_S375x25_S375_d1.drop (ix2 a k) = ix1 a := fun a k => by
    funext b
    match b with
    | ⟨0, _⟩ => rfl
  have hi : ∀ k : Fin 25, (iotaInDim S375x25 32 1 : IVec S375x25 32) (ix2 n k) = BitVec.ofNat 32 k.val := fun k => rfl
  unfold Host.argReduceFiber
  rw [List.mem_map]
  constructor
  · rintro ⟨m, hm, rfl⟩
    have hm' := of_decide_eq_true (List.mem_filter.1 hm).2
    obtain ⟨a, k, e⟩ : ∃ (a : Fin 375) (k : Fin 25), S375x25.rowMajor.symm m = ix2 a k := ⟨_, _, eq_ix2 _⟩
    rw [e, hd] at hm'
    have h0 : a = n := congrFun hm' 0
    subst h0
    refine ⟨k, ?_⟩
    rw [e]
    rfl
  · rintro ⟨k, rfl⟩
    refine ⟨S375x25.rowMajor (ix2 n k), List.mem_filter.2 ⟨List.mem_finRange _, ?_⟩, ?_⟩
    · rw [Equiv.symm_apply_apply, hd]
      exact decide_eq_true rfl
    · rw [Equiv.symm_apply_apply]
      rfl

/-- The number that the reference's reduction finds in a row is the kernel's. -/
theorem argmin_eq (x : Vec Ideal S375x25 .f32) (n : Fin 375) :
    (Host.argReduce (reducer_argmin_f32_i32 (F := Ideal)) x (iotaInDim S375x25 32 1) (constant S_ .f32 0x7F800000#32) (constantI S_ 32 0#32) reducesTo_S375x25_S375_d1 h_S_ (ix1 n)).2
      = (Cert.Tile.best (F := Ideal) fun i => x (ix2 n i)).2 := by
  rw [Ideal.argReduce_eq_reduce2, Host.reduce2_eq_foldl_fiber]
  obtain ⟨hm, hl⟩ := fold_isLeast (Host.argReduceFiber x (iotaInDim S375x25 32 1) reducesTo_S375x25_S375_d1 (ix1 n))
    ((constant S_ .f32 0x7F800000#32 : FVec Ideal S_ .f32) (Shape.Idx.first h_S_), (constantI S_ 32 0#32) (Shape.Idx.first h_S_))
  obtain ⟨⟨i, _, _, hb⟩, hbl⟩ := best_isLeast fun i => x (ix2 n i)
  refine congrArg Prod.snd (key_inj (le_antisymm ?_ ?_))
  · rw [hb]
    exact hl _ (List.mem_cons_of_mem _ ((mem_fiber x n _).2 ⟨i, rfl⟩))
  · rcases List.mem_cons.1 hm with h | h
    · rw [h]
      refine (hbl 0 le_rfl (by decide)).trans ((key_le _ _).2 ?_)
      have ht : ((constant S_ .f32 0x7F800000#32 : FVec Ideal S_ .f32) (Shape.Idx.first h_S_) : EReal) = ⊤ := by
        show Ideal.ofBits .f32 0x7F800000#32 = ⊤
        simp [Ideal.ofBits, Ideal.ieee]
      rcases lt_or_eq_of_le (le_top : (x (ix2 n 0) : EReal) ≤ ⊤) with h1 | h1
      · exact Or.inl (h1.trans_eq ht.symm)
      · exact Or.inr ⟨h1.trans ht.symm, le_rfl⟩
    · obtain ⟨k, hk⟩ := (mem_fiber x n _).1 h
      rw [hk]
      exact hbl k (Nat.zero_le _) k.isLt

end Cert.Equal

end
-- ==== Proof.Greedy.lean ====
/-
  The reference's rounds are the kernel's, row by row, over the extended reals.
-/
module

public import proofs.«01_k».proof.Proof.Argmin

@[expose] public section

set_option maxRecDepth 16384

noncomputable section

namespace Cert.Equal

open Idealize.ShloMosaic
open Cert.ReferenceIdeal Cert.ReferenceIdeal.Gen Cert.Ref

/-- The pair of a class and a token that a number below twenty-five names. -/
abbrev cls (i : Fin 25) : Fin 5 := ⟨i.val / 5, by omega⟩
abbrev tkn (i : Fin 25) : Fin 5 := ⟨i.val % 5, by omega⟩

/-- A masked distance. -/
theorem masked_at (D : Vec Ideal S375x5x5 .f32) (ru cu : Vec Ideal S375x5 .i1) (n : Fin 375) (c k : Fin 5) :
    masked D ru cu (ix3 n c k) = Scalar.select (IntOp.ori (ru (ix2 n c)) (cu (ix2 n k))) (Scalar.ofBits (F := Ideal) .f32 0x7F800000#32) (D (ix3 n c k)) := by
  unfold masked
  pointwise
  rfl

/-- The distances of a row, laid flat. -/
theorem row_at (x : Vec Ideal S375x5x5 .f32) (n : Fin 375) (i : Fin 25) :
    shapeCast S375x25 x shapeCasts_S375x5x5_S375x25 (ix2 n i) = x (ix3 n (cls i) (tkn i)) := by
  pointwise

/-- The reference's choice in a row is the kernel's choice among the row's masked distances. -/
theorem flat_at (D : Vec Ideal S375x5x5 .f32) (ru cu : Vec Ideal S375x5 .i1) (n : Fin 375) :
    flat D ru cu (ix1 n) = (Cert.Tile.best (F := Ideal) fun i => masked D ru cu (ix3 n (cls i) (tkn i))).2 := by
  refine (argmin_eq _ n).trans ?_
  exact congrArg (fun D => (Cert.Tile.best (F := Ideal) D).2) (funext fun i => row_at (masked D ru cu) n i)

/-- The quotient by five of a pair's number. -/
theorem host_div (i : Fin 25) : IntOp.divsi .host (BitVec.ofNat 32 i.val) 5#32 = BitVec.ofNat 32 (i.val / 5) := by
  revert i
  decide

/-- The remainder. -/
theorem host_rem (i : Fin 25) : IntOp.remsi .host (BitVec.ofNat 32 i.val) 5#32 = BitVec.ofNat 32 (i.val % 5) := by
  revert i
  decide

/-- Equality of words does not mind the order. -/
theorem eq_comm_word (a b : BitVec 32) : IntOp.cmpi .eq a b = IntOp.cmpi .eq b a := by
  unfold IntOp.cmpi
  exact congrArg BitVec.ofBool (BEq.comm)

/-- The class a round's number names, as the reference and as the kernel finds it. -/
theorem class_at (f : Vec Ideal S375 .i32) (n : Fin 375) (c : Fin 5) (i : Fin 25) (h : f (ix1 n) = BitVec.ofNat 32 i.val) :
    Cert.Ref.named (F := Ideal) (classOf (F := Ideal) f) (ix2 n c) = IntOp.cmpi .eq (Cert.Tile.chunkOf (f (ix1 n))) (BitVec.ofNat 32 c.val) := by
  unfold Cert.Ref.named classOf
  pointwise
  rw [h, Cert.Tile.chunkOf_ofNat, host_div, eq_comm_word]

/-- And the token. -/
theorem token_at (f : Vec Ideal S375 .i32) (n : Fin 375) (c : Fin 5) (i : Fin 25) (h : f (ix1 n) = BitVec.ofNat 32 i.val) :
    Cert.Ref.named (F := Ideal) (Cert.Ref.tokenOf (F := Ideal) f) (ix2 n c) = IntOp.cmpi .eq (Cert.Tile.tokenOf (f (ix1 n))) (BitVec.ofNat 32 c.val) := by
  unfold Cert.Ref.named Cert.Ref.tokenOf
  pointwise
  rw [h, Cert.Tile.tokenOf_ofNat, host_rem, eq_comm_word]

/-- The classes taken after a round. -/
theorem nextRows_at (ru : Vec Ideal S375x5 .i1) (f : Vec Ideal S375 .i32) (n : Fin 375) (c : Fin 5) (i : Fin 25) (h : f (ix1 n) = BitVec.ofNat 32 i.val) :
    nextRows (F := Ideal) ru f (ix2 n c) = IntOp.ori (ru (ix2 n c)) (IntOp.cmpi .eq (Cert.Tile.chunkOf (f (ix1 n))) (BitVec.ofNat 32 c.val)) :=
  congrArg (IntOp.ori (ru (ix2 n c))) (class_at f n c i h)

/-- The tokens taken after a round. -/
theorem nextCols_at (cu : Vec Ideal S375x5 .i1) (f : Vec Ideal S375 .i32) (n : Fin 375) (c : Fin 5) (i : Fin 25) (h : f (ix1 n) = BitVec.ofNat 32 i.val) :
    nextCols (F := Ideal) cu f (ix2 n c) = IntOp.ori (cu (ix2 n c)) (IntOp.cmpi .eq (Cert.Tile.tokenOf (f (ix1 n))) (BitVec.ofNat 32 c.val)) :=
  congrArg (IntOp.ori (cu (ix2 n c))) (token_at f n c i h)

/-- The token of a round, spread over the classes. -/
theorem tokenOf_at (f : Vec Ideal S375 .i32) (n : Fin 375) (c : Fin 5) (i : Fin 25) (h : f (ix1 n) = BitVec.ofNat 32 i.val) :
    broadcastInDim S375x5 ![0, 1] bcast_S375x1_S375x5_0_1 (Cert.Ref.tokenOf (F := Ideal) f) (ix2 n c) = Cert.Tile.tokenOf (f (ix1 n)) := by
  unfold Cert.Ref.tokenOf
  pointwise
  rw [h, Cert.Tile.tokenOf_ofNat, host_rem]

/-- The assignment after a round is the kernel's. -/
theorem nextAssign_at (a : Vec Ideal S375x5 .i32) (f : Vec Ideal S375 .i32) (n : Fin 375) (c : Fin 5) (i : Fin 25) (h : f (ix1 n) = BitVec.ofNat 32 i.val) :
    nextAssign (F := Ideal) a f (ix2 n c) = Cert.Tile.assign (f (ix1 n)) c (a (ix2 n c)) := by
  change Scalar.select (Cert.Ref.named (F := Ideal) (classOf (F := Ideal) f) (ix2 n c))
    (broadcastInDim S375x5 ![0, 1] bcast_S375x1_S375x5_0_1 (Cert.Ref.tokenOf (F := Ideal) f) (ix2 n c)) (a (ix2 n c)) = _
  rw [class_at f n c i h, tokenOf_at f n c i h]
  rfl

/-- Two more bits in a mask: one more selection of the same value. -/
theorem select_more {α : Type} (a b c d : BitVec 1) (x v : α) :
    Scalar.select (IntOp.ori (IntOp.ori a c) (IntOp.ori b d)) x v = Scalar.select (IntOp.ori c d) x (Scalar.select (IntOp.ori a b) x v) := by
  have h : ∀ e : BitVec 1, e = 0#1 ∨ e = 1#1 := by decide
  rcases h a with rfl | rfl <;> rcases h b with rfl | rfl <;> rcases h c with rfl | rfl <;> rcases h d with rfl | rfl <;> rfl

/-- After any number of rounds, the reference's masked distances of a row are what the kernel has of that row, and so is the assignment. -/
theorem state_eq (D : Vec Ideal S375x5x5 .f32) (n : Fin 375) (r : ℕ) :
    (fun i : Fin 25 => masked D (state D r).1 (state D r).2.1 (ix3 n (cls i) (tkn i))) = (Cert.Tile.rounds (F := Ideal) (fun i => D (ix3 n (cls i) (tkn i))) r).1
      ∧ (fun c : Fin 5 => (state D r).2.2 (ix2 n c)) = (Cert.Tile.rounds (F := Ideal) (fun i => D (ix3 n (cls i) (tkn i))) r).2 := by
  induction r with
  | zero =>
    constructor
    · funext i
      rw [masked_at]
      change Scalar.select (IntOp.ori (noneTaken (F := Ideal) (ix2 n (cls i))) (noneTaken (F := Ideal) (ix2 n (tkn i)))) _ _ = D _
      unfold noneTaken
      pointwise
      rfl
    · funext c
      change noAssign (F := Ideal) (ix2 n c) = 0#32
      unfold noAssign
      pointwise
  | succ r ih =>
    obtain ⟨h1, h2⟩ := ih
    have hf : flat D (state D r).1 (state D r).2.1 (ix1 n) = (Cert.Tile.best (F := Ideal) (Cert.Tile.rounds (F := Ideal) (fun i => D (ix3 n (cls i) (tkn i))) r).1).2 := by
      rw [flat_at, h1]
    obtain ⟨j, hj⟩ := Cert.Tile.best_lt (F := Ideal) (Cert.Tile.rounds (F := Ideal) (fun i => D (ix3 n (cls i) (tkn i))) r).1
    have hj' := hf.trans hj
    constructor
    · funext i
      rw [masked_at]
      change Scalar.select (IntOp.ori (nextRows (F := Ideal) (state D r).1 (flat D (state D r).1 (state D r).2.1) (ix2 n (cls i)))
        (nextCols (F := Ideal) (state D r).2.1 (flat D (state D r).1 (state D r).2.1) (ix2 n (tkn i)))) _ _ = _
      rw [nextRows_at _ _ n _ j hj', nextCols_at _ _ n _ j hj', select_more, ← masked_at, hf]
      change _ = Cert.Tile.retire _ i ((Cert.Tile.rounds (F := Ideal) (fun i => D (ix3 n (cls i) (tkn i))) r).1 i)
      rw [← congrFun h1 i]
      rfl
    · funext c
      change nextAssign (F := Ideal) (state D r).2.2 (flat D (state D r).1 (state D r).2.1) (ix2 n c) = _
      rw [nextAssign_at _ _ n c j hj', hf]
      change _ = Cert.Tile.assign _ c ((Cert.Tile.rounds (F := Ideal) (fun i => D (ix3 n (cls i) (tkn i))) r).2 c)
      rw [← congrFun h2 c]

end Cert.Equal

end
-- ==== Proof.RefDist.lean ====
/-
  The reference's distances, read at one pair of class and token of one row, over the extended reals.
-/
module

public import proofs.«01_k».proof.Proof.RefRun
public import Idealize.ShloMosaic.Lib.Pointwise

@[expose] public section

set_option maxRecDepth 16384

noncomputable section

namespace Cert.Ref

open Idealize.ShloMosaic
open Cert.ReferenceIdeal Cert.ReferenceIdeal.Gen

/-- The first word of the segment under a token. -/
def start (k : Fin 5) : ℕ := match k with | 0 => 0 | 1 => 12 | 2 => 25 | 3 => 38 | 4 => 51

/-- Every window ends within its class's words. -/
theorem start_le : ∀ k : Fin 5, start k + 13 ≤ 64 := by decide

section Any
variable {F : FTy → Type} [FloatOps F]

/-- A word of a window. -/
theorem under_at (s : ℕ) (h : S375x5x64.Slices ![0, 0, s] S375x5x13) (x : Vec F S375x5x64 .f32) (n : Fin 375) (c : Fin 5) (m : Fin 13) (hs : s + 13 ≤ 64) :
    under s h x (ix4 n c (0 : Fin 1) m) = x (ix3 n c ⟨s + m.val, by omega⟩) := by
  unfold under
  pointwise

/-- A word of a token. -/
theorem spread_at (t : Vec F S5x13 .f32) (n : Fin 375) (c k : Fin 5) (m : Fin 13) : spread t (ix4 n c k m) = t (ix2 k m) := by
  unfold spread
  pointwise

/-- A word of the stacked windows. -/
theorem stack_at (f : Fin 5 → Vec F S375x5x1x13 .f32) (n : Fin 375) (c k : Fin 5) (m : Fin 13) :
    stack (f 0) (f 1) (f 2) (f 3) (f 4) (ix4 n c k m) = f k (ix4 n c (0 : Fin 1) m) := by
  unfold stack
  fin_cases k
  all_goals pointwise

/-- A gathered word is the picture's. -/
theorem gathered_at (x : Vec F S375x5x64 .f32) (n : Fin 375) (c k : Fin 5) (m : Fin 13) :
    gathered x (ix4 n c k m) = x (ix3 n c ⟨start k + m.val, by have := start_le k; omega⟩) := by
  refine (stack_at ![under 0 slices_S375x5x64_S375x5x13_0_0_0 x, under 12 slices_S375x5x64_S375x5x13_0_0_12 x, under 25 slices_S375x5x64_S375x5x13_0_0_25 x,
    under 38 slices_S375x5x64_S375x5x13_0_0_38 x, under 51 slices_S375x5x64_S375x5x13_0_0_51 x] n c k m).trans ?_
  fin_cases k
  · exact under_at 0 slices_S375x5x64_S375x5x13_0_0_0 x n c m (by decide)
  · exact under_at 12 slices_S375x5x64_S375x5x13_0_0_12 x n c m (by decide)
  · exact under_at 25 slices_S375x5x64_S375x5x13_0_0_25 x n c m (by decide)
  · exact under_at 38 slices_S375x5x64_S375x5x13_0_0_38 x n c m (by decide)
  · exact under_at 51 slices_S375x5x64_S375x5x13_0_0_51 x n c m (by decide)

end Any

/-- A sum of thirteen squares. -/
theorem squares_at (g : Vec Ideal S375x5x5x13 .f32) (n : Fin 375) (c k : Fin 5) :
    squares g (ix3 n c k) = ∑ m : Fin 13, g (ix4 n c k m) * g (ix4 n c k m) := by
  unfold squares
  pointwise

/-- A distance, from the gathered words. -/
theorem distFrom_at (g : Vec Ideal S375x5x5x13 .f32) (x : Vec Ideal S375x5x64 .f32) (t : Vec Ideal S5x13 .f32) (n : Fin 375) (c k : Fin 5) :
    distFrom g x t (ix3 n c k) = ((∑ w : Fin 64, x (ix3 n c w) * x (ix3 n c w)) - squares g (ix3 n c k)) + squares (subf g (spread t)) (ix3 n c k) := by
  unfold distFrom
  pointwise

/-- The distance between a class and a token: the squares of the class's words outside the token's segment, and those of its differences from the token. -/
theorem distances_at (x : Vec Ideal S375x5x64 .f32) (t : Vec Ideal S5x13 .f32) (n : Fin 375) (c k : Fin 5) :
    distances x t (ix3 n c k)
      = ((∑ w : Fin 64, x (ix3 n c w) * x (ix3 n c w))
          - ∑ m : Fin 13, x (ix3 n c ⟨start k + m.val, by have := start_le k; omega⟩) * x (ix3 n c ⟨start k + m.val, by have := start_le k; omega⟩))
        + ∑ m : Fin 13, (x (ix3 n c ⟨start k + m.val, by have := start_le k; omega⟩) - t (ix2 k m)) * (x (ix3 n c ⟨start k + m.val, by have := start_le k; omega⟩) - t (ix2 k m)) := by
  have h : ∀ m : Fin 13, subf (gathered x) (spread t) (ix4 n c k m) = x (ix3 n c ⟨start k + m.val, by have := start_le k; omega⟩) - t (ix2 k m) := fun m =>
    congrArg₂ (fun a b : EReal => a - b) (gathered_at x n c k m) (spread_at t n c k m)
  unfold distances
  rw [distFrom_at, squares_at, squares_at]
  simp only [h, gathered_at]

end Cert.Ref

end
-- ==== Proof.RefRows.lean ====
/-
  The reference's rows, read at one word.
-/
module

public import proofs.«01_k».proof.Proof.RefDist
public import Idealize.ShloMosaic.Lib.Pointwise

@[expose] public section

set_option maxRecDepth 16384

noncomputable section

namespace Cert.Ref

open Idealize.ShloMosaic
open Cert.ReferenceIdeal Cert.ReferenceIdeal.Gen

variable {F : FTy → Type} [FloatOps F]

/-- A word of a placed token: the token's on the segment, zero elsewhere. -/
theorem placed_at (k s hi : ℕ) (hk : S375x5x13.Slices ![0, k, 0] S375x1x13) (hp : S375x13.Pads ![0, s] ![0, hi] ![0, 0] S375x64) (hk5 : k < 5)
    (u : Vec F S375x5x13 .f32) (n : Fin 375) (w : Fin 64) :
    placed k ![0, s] ![0, hi] hk hp u (ix3 n (0 : Fin 1) w)
      = if h : s ≤ w.val ∧ w.val < s + 13 then u (ix3 n ⟨k, hk5⟩ ⟨w.val - s, by omega⟩) else FloatOps.sitofp .f32 (0#32) := by
  unfold placed
  pointwise
  by_cases h : s ≤ w.val ∧ w.val < s + 13
  · rw [dif_pos h, dif_pos ⟨h.1, by omega⟩]
  · rw [dif_neg h, dif_neg (by omega)]

/-- A word of the stacked rows. -/
theorem stackRows_at (f : Fin 5 → Vec F S375x1x64 .f32) (n : Fin 375) (c : Fin 5) (w : Fin 64) :
    stackRows (f 0) (f 1) (f 2) (f 3) (f 4) (ix3 n c w) = f c (ix3 n (0 : Fin 1) w) := by
  unfold stackRows
  fin_cases c
  all_goals pointwise

/-- The start index of a chosen word. -/
theorem chosen_row (i : IVec S375x5x1 32) (n : Fin 375) (c : Fin 5) (m : Fin 13) :
    gather_S5x13_S375x5x1_S375x5x13_2_0_n_n_0_2_113.operandIdx (ix3 n c m) i
      = ix2 ⟨min (i (ix3 n c (0 : Fin 1))).toInt.toNat 4, by omega⟩ m := by
  funext a
  refine Fin.ext ?_
  show gather_S5x13_S375x5x1_S375x5x13_2_0_n_n_0_2_113.start (ix3 n c m) i a + gather_S5x13_S375x5x1_S375x5x13_2_0_n_n_0_2_113.batchCoord (ix3 n c m) a
    + gather_S5x13_S375x5x1_S375x5x13_2_0_n_n_0_2_113.offCoord (ix3 n c m) a = _
  match a with
  | ⟨0, _⟩ =>
    have hs : gather_S5x13_S375x5x1_S375x5x13_2_0_n_n_0_2_113.siIdx (ix3 n c m) ⟨0, by decide⟩ = ix3 n c (0 : Fin 1) := by
      funext b
      refine Fin.ext ?_
      match b with
      | ⟨0, _⟩ => rfl
      | ⟨1, _⟩ => rfl
      | ⟨2, _⟩ => rfl
    show _ = min (i (ix3 n c (0 : Fin 1))).toInt.toNat 4
    rw [← hs]
    rfl
  | ⟨1, _⟩ =>
    show 0 + 0 + m.val = m.val
    omega

/-- A word of a chosen token. -/
theorem chosen_at (t : Vec F S5x13 .f32) (a : Vec F S375x5 .i32) (n : Fin 375) (c : Fin 5) (m : Fin 13) (k : Fin 5) (h : a (ix2 n c) = BitVec.ofNat 32 k.val) :
    chosen t a (ix3 n c m) = t (ix2 k m) := by
  have hi : broadcastInDim S375x5x1 ![0, 1] bcast_S375x5_S375x5x1_0_1 a (ix3 n c (0 : Fin 1)) = a (ix2 n c) := by pointwise
  have hk : ∀ k : Fin 5, min (BitVec.ofNat 32 k.val).toInt.toNat 4 = k.val := by decide
  show t (gather_S5x13_S375x5x1_S375x5x13_2_0_n_n_0_2_113.operandIdx (ix3 n c m) _) = _
  rw [chosen_row]
  refine congrArg (fun r : Fin 5 => t (ix2 r m)) (Fin.ext ?_)
  show min (broadcastInDim S375x5x1 ![0, 1] bcast_S375x5_S375x5x1_0_1 a (ix3 n c (0 : Fin 1))).toInt.toNat 4 = _
  rw [hi, h, hk]

/-- A word of the result: on its class's segment the token's, and zero elsewhere. -/
theorem rows_at (t : Vec F S5x13 .f32) (a : Vec F S375x5 .i32) (n : Fin 375) (c : Fin 5) (w : Fin 64) (k : Fin 5) (h : a (ix2 n c) = BitVec.ofNat 32 k.val) :
    rows t a (ix3 n c w)
      = if h : start c ≤ w.val ∧ w.val < start c + 13 then t (ix2 k ⟨w.val - start c, by omega⟩) else FloatOps.sitofp .f32 (0#32) := by
  refine (stackRows_at ![placed 0 ![0, 0] ![0, 51] slices_S375x5x13_S375x1x13_0_0_0 pads_S375x13_S375x64_000_0510 (chosen t a),
    placed 1 ![0, 12] ![0, 39] slices_S375x5x13_S375x1x13_0_1_0 pads_S375x13_S375x64_000_12390 (chosen t a),
    placed 2 ![0, 25] ![0, 26] slices_S375x5x13_S375x1x13_0_2_0 pads_S375x13_S375x64_000_25260 (chosen t a),
    placed 3 ![0, 38] ![0, 13] slices_S375x5x13_S375x1x13_0_3_0 pads_S375x13_S375x64_000_38130 (chosen t a),
    placed 4 ![0, 51] ![0, 0] slices_S375x5x13_S375x1x13_0_4_0 pads_S375x13_S375x64_000_5100 (chosen t a)] n c w).trans ?_
  simp only [← chosen_at t a n c _ k h]
  fin_cases c
  · exact placed_at 0 0 51 slices_S375x5x13_S375x1x13_0_0_0 pads_S375x13_S375x64_000_0510 (by decide) (chosen t a) n w
  · exact placed_at 1 12 39 slices_S375x5x13_S375x1x13_0_1_0 pads_S375x13_S375x64_000_12390 (by decide) (chosen t a) n w
  · exact placed_at 2 25 26 slices_S375x5x13_S375x1x13_0_2_0 pads_S375x13_S375x64_000_25260 (by decide) (chosen t a) n w
  · exact placed_at 3 38 13 slices_S375x5x13_S375x1x13_0_3_0 pads_S375x13_S375x64_000_38130 (by decide) (chosen t a) n w
  · exact placed_at 4 51 0 slices_S375x5x13_S375x1x13_0_4_0 pads_S375x13_S375x64_000_5100 (by decide) (chosen t a) n w

end Cert.Ref

end
-- ==== Proof.Equal.lean ====
/-
  The kernel's result is the reference's, over the extended reals.
-/
module

public import proofs.«01_k».proof.Proof.Greedy
public import proofs.«01_k».proof.Proof.RefDist
public import proofs.«01_k».proof.Proof.RefRows
public import proofs.«01_k».proof.Proof.Main
public import Idealize.ShloMosaic.Lib.Pointwise

@[expose] public section

set_option maxRecDepth 16384

noncomputable section

namespace Cert.Equal

open Idealize.ShloMosaic
open Cert.ReferenceIdeal Cert.ReferenceIdeal.Gen

/-! ## The kernel's arrays -/

/-- The picture's rows laid flat. -/
theorem pic_at (x : Vec Ideal S375x5x64 .f32) (n : Fin 375) (c : Fin 5) (w : Fin 64) :
    shapeCast Cert.KernelIdeal.S375x320 x Cert.KernelIdeal.Gen.shapeCasts_S375x5x64_S375x320 (ix2 n ⟨64 * c.val + w.val, by omega⟩) = x (ix3 n c w) := by
  pointwise

/-- The tokens laid flat, eight words in. -/
theorem tok_at (t : Vec Ideal S5x13 .f32) (k : Fin 5) (m : Fin 13) :
    pad Cert.KernelIdeal.S80 ![8] ![7] ![0] (shapeCast Cert.KernelIdeal.S65 t Cert.KernelIdeal.Gen.shapeCasts_S5x13_S65)
      (sitofp (F := Ideal) .f32 (constantI S_ 32 0#32)) Cert.KernelIdeal.Gen.pads_S65_S80_870 Cert.KernelIdeal.Gen.h_S_ (ix1 ⟨8 + 13 * k.val + m.val, by omega⟩) = t (ix2 k m) := by
  pointwise
  rw [dif_pos ⟨by omega, by omega⟩]
  exact congrArg t (congrArg₂ ix2 (Fin.ext (by change (8 + 13 * k.val + m.val - 8) / 13 = k.val; omega)) (Fin.ext (by change (8 + 13 * k.val + m.val - 8) % 13 = m.val; omega)))

/-- The result's rows laid out again. -/
theorem out_at (y : Vec Ideal Cert.KernelIdeal.S375x320 .f32) (n : Fin 375) (c : Fin 5) (w : Fin 64) :
    shapeCast Cert.KernelIdeal.S375x5x64 y Cert.KernelIdeal.Gen.shapeCasts_S375x320_S375x5x64 (ix3 n c w) = y (ix2 n ⟨64 * c.val + w.val, by omega⟩) := by
  pointwise
  exact congrArg y (congrArg (ix2 n) (Fin.ext (by change c.val * 64 + w.val = 64 * c.val + w.val; omega)))

/-! ## Sums of squares -/

/-- The running sum of squares is the sum of the squares. -/
theorem csum_eq (g : ℕ → FVec Ideal Cert.KernelIdeal.S16 .f32) (x : Cert.KernelIdeal.S16.Idx) (n : ℕ) :
    (Cert.Tile.csum (F := Ideal) g n x : EReal) = ∑ i : Fin n, (g i.val x : EReal) * g i.val x := by
  induction n with
  | zero => exact Ideal.ofBits_zero_f32.trans (Fin.sum_univ_zero _).symm
  | succ n ih => exact (congrArg (fun a : EReal => a + (g n x : EReal) * g n x) ih).trans (Fin.sum_univ_castSucc (fun i : Fin (n + 1) => (g i.val x : EReal) * g i.val x)).symm

/-- Kernel and reference place the windows alike. -/
theorem seg_eq : ∀ k : Fin 5, Cert.Tile.SEG k = Cert.Ref.start k := by decide

/-- The distances of a row, as the kernel finds them and as the reference does. -/
theorem dist_eq (x : Vec Ideal S375x5x64 .f32) (t : Vec Ideal S5x13 .f32) (p : Fin 320 → EReal) (tok : Vec Ideal Cert.KernelIdeal.S80 .f32) (n : Fin 375)
    (hp : ∀ (c : Fin 5) (w : Fin 64), p ⟨64 * c.val + w.val, by omega⟩ = x (ix3 n c w))
    (ht : ∀ (k : Fin 5) (m : Fin 13), tok (ix1 ⟨8 + 13 * k.val + m.val, by omega⟩) = t (ix2 k m)) (i : Fin 25) :
    Cert.Tile.rowDist (F := Ideal) p tok i = Cert.Ref.distances x t (ix3 n (cls i) (tkn i)) := by
  have hcol : ∀ (w : ℕ) (hw : w < 64) (c : Fin 5), Cert.Tile.col (F := Ideal) (Cert.Tile.line (F := Ideal) p) (64 * c.val + w) (ValueIdx.ix1 0) = x (ix3 n c ⟨w, hw⟩) := by
    intro w hw c
    rw [← hp c ⟨w, hw⟩]
    exact congrArg p (Fin.ext (Nat.mod_eq_of_lt (by omega)))
  have htok : ∀ (k : Fin 5) (m : Fin 13), Cert.Tile.tokv (F := Ideal) tok k m.val (ValueIdx.ix1 0) = t (ix2 k m) := by
    intro k m
    rw [← ht k m]
    exact congrArg tok ((eq_ix1 _).trans (congrArg ix1 (Fin.ext (Nat.mod_eq_of_lt (by omega)))))
  have hseg : ∀ (c k : Fin 5) (m : Fin 13), Cert.Tile.col (F := Ideal) (Cert.Tile.line (F := Ideal) p) (64 * c.val + Cert.Tile.SEG k + m.val) (ValueIdx.ix1 0)
      = x (ix3 n c ⟨Cert.Ref.start k + m.val, by have := Cert.Ref.start_le k; omega⟩) := by
    intro c k m
    rw [seg_eq, Nat.add_assoc]
    exact hcol _ _ c
  rw [Cert.Ref.distances_at]
  refine congrArg₂ (fun a b : EReal => a + b) (congrArg₂ (fun a b : EReal => a - b) ?_ ?_) ?_
  · refine (csum_eq _ _ 64).trans (Finset.sum_congr rfl fun w _ => ?_)
    exact congrArg₂ (fun a b : EReal => a * b) (hcol w.val w.isLt _) (hcol w.val w.isLt _)
  · refine (csum_eq _ _ 13).trans (Finset.sum_congr rfl fun m _ => ?_)
    exact congrArg₂ (fun a b : EReal => a * b) (hseg _ _ m) (hseg _ _ m)
  · refine (csum_eq _ _ 13).trans (Finset.sum_congr rfl fun m _ => ?_)
    have h := congrArg₂ (fun a b : EReal => a - b) (hseg (cls i) (tkn i) m) (htok (tkn i) m)
    exact congrArg₂ (fun a b : EReal => a * b) h h

/-- The assignment of a row. -/
theorem assign_eq (x : Vec Ideal S375x5x64 .f32) (t : Vec Ideal S5x13 .f32) (p : Fin 320 → EReal) (tok : Vec Ideal Cert.KernelIdeal.S80 .f32) (n : Fin 375)
    (hp : ∀ (c : Fin 5) (w : Fin 64), p ⟨64 * c.val + w.val, by omega⟩ = x (ix3 n c w))
    (ht : ∀ (k : Fin 5) (m : Fin 13), tok (ix1 ⟨8 + 13 * k.val + m.val, by omega⟩) = t (ix2 k m)) (c : Fin 5) :
    (Cert.Ref.state (Cert.Ref.distances x t) 5).2.2 (ix2 n c) = Cert.Tile.rowAssign (F := Ideal) p tok c := by
  refine (congrFun (state_eq (Cert.Ref.distances x t) n 5).2 c).trans ?_
  exact congrArg (fun D => (Cert.Tile.rounds (F := Ideal) D 5).2 c) (funext fun i => (dist_eq x t p tok n hp ht i).symm)

/-- A word of the result. -/
theorem word_eq (x : Vec Ideal S375x5x64 .f32) (t : Vec Ideal S5x13 .f32) (p : Fin 320 → EReal) (tok : Vec Ideal Cert.KernelIdeal.S80 .f32) (n : Fin 375)
    (hp : ∀ (c : Fin 5) (w : Fin 64), p ⟨64 * c.val + w.val, by omega⟩ = x (ix3 n c w))
    (ht : ∀ (k : Fin 5) (m : Fin 13), tok (ix1 ⟨8 + 13 * k.val + m.val, by omega⟩) = t (ix2 k m)) (c : Fin 5) (w : Fin 64) :
    Cert.Tile.rowOut (F := Ideal) tok (Cert.Tile.rowAssign (F := Ideal) p tok) ⟨64 * c.val + w.val, by omega⟩ = Cert.Ref.value x t (ix3 n c w) := by
  obtain ⟨k, hk⟩ := Cert.Tile.rounds_lt (F := Ideal) (Cert.Tile.rowDist (F := Ideal) p tok) 5 c
  have ha := (assign_eq x t p tok n hp ht c).trans hk
  unfold Cert.Ref.value
  rw [Cert.Ref.rows_at t _ n c w k ha]
  have hc : (⟨(64 * c.val + w.val) / 64, by omega⟩ : Fin 5) = c := Fin.ext (by change (64 * c.val + w.val) / 64 = c.val; omega)
  have hw : (64 * c.val + w.val) % 64 = w.val := by omega
  unfold Cert.Tile.rowOut
  simp only [hc, hw, seg_eq]
  by_cases hs : Cert.Ref.start c ≤ w.val ∧ w.val < Cert.Ref.start c + 13
  · rw [if_pos hs, dif_pos hs, ← ht k ⟨w.val - Cert.Ref.start c, by omega⟩]
    have hn : (Cert.Tile.rowAssign (F := Ideal) p tok c).toNat = k.val := by
      refine (congrArg BitVec.toNat hk).trans ?_
      exact Nat.mod_eq_of_lt (by have := k.isLt; omega)
    refine congrArg tok ((eq_ix1 _).trans (congrArg ix1 (Fin.ext ?_)))
    change ((Cert.Tile.rowAssign (F := Ideal) p tok c).toNat * 13 + 8 + (w.val - Cert.Ref.start c)) % 80 = 8 + 13 * k.val + (w.val - Cert.Ref.start c)
    rw [hn, Nat.mod_eq_of_lt (by omega)]
    omega
  · rw [if_neg hs, dif_neg hs]
    exact Ideal.ofBits_zero_f32.trans (by simp [FloatOps.sitofp])

/-- The kernel's result is the reference's. -/
theorem answer_eq (m : (ℓ : Loc Cert.KernelIdeal.nD Cert.KernelIdeal.τ Cert.KernelIdeal.sig) → Buf (Elt Ideal) ℓ) (d : Dev Cert.KernelIdeal.nD) :
    Cert.Tile.answer m d = Cert.Ref.value (m ((SparseCore.T d).loc Cert.KernelIdeal.main_arg0)) (m ((SparseCore.T d).loc Cert.KernelIdeal.main_arg1)) := by
  funext y
  obtain ⟨n, c, w, rfl⟩ : ∃ (n : Fin 375) (c : Fin 5) (w : Fin 64), y = ix3 n c w := ⟨_, _, _, eq_ix3 y⟩
  refine (out_at _ n c w).trans ?_
  refine word_eq _ _ (fun w => Cert.Tile.picV m d (ix2 n w)) (Cert.Tile.tokV m d) n (fun c w => ?_) (fun k q => ?_) c w
  · exact pic_at _ n c w
  · exact tok_at _ k q

end Cert.Equal

end
-- ==== Proof.Algebraic.lean ====
/-
  The value claim: over the extended reals the kernel and the reference end with equal results.
-/
module

public import proofs.«01_k».proof.Proof.Equal
public import proofs.«01_k».proof.Proof.Gen.KernelIdeal
public import proofs.«01_k».proof.Proof.Gen.ReferenceIdeal

@[expose] public section

set_option maxRecDepth 65536

noncomputable section

namespace Cert.Algebraic

open Idealize.ShloMosaic Idealize.SL.Sem

attribute [local instance] Cert.KernelIdeal.Gen.facts Cert.ReferenceIdeal.Gen.facts

/-- From memories that agree on the arguments, both run to their ends, with the same result and their arguments as they were. -/
theorem algebraic : Cert.algebraic_KernelIdeal_ReferenceIdeal := by
  intro m g m' g' _ hm
  refine ⟨fun c => Cert.Tile.answer m c, ?_, ?_⟩
  · exact (θ_run Cert.KernelIdeal.defs _ _).mono (fun _ h c => ⟨(h.1 c).2.2, (h.1 c).1, (h.1 c).2.1⟩) (Cert.Tile.run_main (F := Ideal) m g)
  · refine (θ_run Cert.ReferenceIdeal.defs _ _).mono (fun _ h c => ⟨(h c).1.trans ?_, (h c).2⟩) (Cert.Ref.run_main (F := Ideal) m' g')
    exact (congrArg₂ (Cert.Ref.value (F := Ideal)) (hm c).1 (hm c).2).trans (Cert.Equal.answer_eq m c).symm

end Cert.Algebraic

end
-- ==== Proof.lean ====
/-
  The certificate: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefFrame
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Frames.frame_kernel, Cert.Frames.frame_ideal, Cert.RefFrame.frame, trivial, Cert.Algebraic.algebraic⟩

end Cert.Proof

end
